-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S8192x4096 : Shape := ⟨2, ![8192, 4096]⟩
abbrev S1024x4096 : Shape := ⟨2, ![1024, 4096]⟩
abbrev S1024x8192 : Shape := ⟨2, ![1024, 8192]⟩
abbrev S2x2048x1024 : Shape := ⟨3, ![2, 2048, 1024]⟩
abbrev S8 : Shape := ⟨1, ![8]⟩
abbrev S_ : Shape := ⟨0, ![]⟩
abbrev S2 : Shape := ⟨1, ![2]⟩
abbrev S1024x1024 : Shape := ⟨2, ![1024, 1024]⟩
abbrev S1 : Shape := ⟨1, ![1]⟩
abbrev S1x1024x1024 : Shape := ⟨3, ![1, 1024, 1024]⟩
abbrev S1024x2048 : Shape := ⟨2, ![1024, 2048]⟩
abbrev S1x2048x1024 : Shape := ⟨3, ![1, 2048, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .f32⟩
  | .hbm, ⟨2, _⟩ => ⟨S1024x4096, .f32⟩
  | .local _ .vmem, ⟨0, _⟩ => ⟨S1024x4096, .f32⟩
  | .local _ .vmem, ⟨1, _⟩ => ⟨S1024x8192, .bf16⟩
  | .local _ .vmem, ⟨2, _⟩ => ⟨S2x2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := ⟨2, ![5, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v5 : BitVec 1 := Scalar.cmpi .eq v1 c0_i32
  let v6 : BitVec 32 := Scalar.extui v5
  let c0_i32_0 : BitVec 32 := 0#32
  let v7 : BitVec 1 := Scalar.cmpi .ne v6 c0_i32_0
  v7

def k0_dev1 (d2 : Dev nD) : Nat :=
  let c0_i32_19 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c1_i32_10 : BitVec 32 := 1#32
  let v27 : BitVec 32 := Scalar.addi v4 c1_i32_10
  let c8_i32_11 : BitVec 32 := 8#32
  let c0_i32_12 : BitVec 32 := 0#32
  let v28 : BitVec 1 := Scalar.cmpi .eq c8_i32_11 c0_i32_12
  let c1_i32_13 : BitVec 32 := 1#32
  let v29 : BitVec 32 := Scalar.select v28 c1_i32_13 c8_i32_11
  let v30 : BitVec 32 := Scalar.remsi v27 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let c1_i32_18 : BitVec 32 := 1#32
  let v38 : BitVec 32 := Scalar.muli v37 c1_i32_18
  let v39 : BitVec 32 := Scalar.addi c0_i32_19 v38
  v39.toNat
def k0_dev2 (d2 : Dev nD) : Nat :=
  let c0_i32_29 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c2_i32_20 : BitVec 32 := 2#32
  let v40 : BitVec 32 := Scalar.addi v4 c2_i32_20
  let c8_i32_21 : BitVec 32 := 8#32
  let c0_i32_22 : BitVec 32 := 0#32
  let v41 : BitVec 1 := Scalar.cmpi .eq c8_i32_21 c0_i32_22
  let c1_i32_23 : BitVec 32 := 1#32
  let v42 : BitVec 32 := Scalar.select v41 c1_i32_23 c8_i32_21
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let c1_i32_28 : BitVec 32 := 1#32
  let v51 : BitVec 32 := Scalar.muli v50 c1_i32_28
  let v52 : BitVec 32 := Scalar.addi c0_i32_29 v51
  v52.toNat
def k0_dev3 (d2 : Dev nD) : Nat :=
  let c0_i32_39 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c3_i32_30 : BitVec 32 := 3#32
  let v53 : BitVec 32 := Scalar.addi v4 c3_i32_30
  let c8_i32_31 : BitVec 32 := 8#32
  let c0_i32_32 : BitVec 32 := 0#32
  let v54 : BitVec 1 := Scalar.cmpi .eq c8_i32_31 c0_i32_32
  let c1_i32_33 : BitVec 32 := 1#32
  let v55 : BitVec 32 := Scalar.select v54 c1_i32_33 c8_i32_31
  let v56 : BitVec 32 := Scalar.remsi v53 v55
  let c0_i32_35 : BitVec 32 := 0#32
  let v58 : BitVec 1 := Scalar.cmpi .slt v56 c0_i32_35
  let c0_i32_36 : BitVec 32 := 0#32
  let v59 : BitVec 1 := Scalar.cmpi .slt v55 c0_i32_36
  let v60 : BitVec 1 := Scalar.xori v58 v59
  let c0_i32_34 : BitVec 32 := 0#32
  let v57 : BitVec 1 := Scalar.cmpi .ne v56 c0_i32_34
  let v61 : BitVec 1 := Scalar.andi v60 v57
  let v62 : BitVec 32 := Scalar.addi v56 v55
  let v63 : BitVec 32 := Scalar.select v61 v62 v56
  let c1_i32_38 : BitVec 32 := 1#32
  let v64 : BitVec 32 := Scalar.muli v63 c1_i32_38
  let v65 : BitVec 32 := Scalar.addi c0_i32_39 v64
  v65.toNat
def k0_dev4 (d2 : Dev nD) : Nat :=
  let c0_i32_49 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c4_i32_40 : BitVec 32 := 4#32
  let v66 : BitVec 32 := Scalar.addi v4 c4_i32_40
  let c8_i32_41 : BitVec 32 := 8#32
  let c0_i32_42 : BitVec 32 := 0#32
  let v67 : BitVec 1 := Scalar.cmpi .eq c8_i32_41 c0_i32_42
  let c1_i32_43 : BitVec 32 := 1#32
  let v68 : BitVec 32 := Scalar.select v67 c1_i32_43 c8_i32_41
  let v69 : BitVec 32 := Scalar.remsi v66 v68
  let c0_i32_45 : BitVec 32 := 0#32
  let v71 : BitVec 1 := Scalar.cmpi .slt v69 c0_i32_45
  let c0_i32_46 : BitVec 32 := 0#32
  let v72 : BitVec 1 := Scalar.cmpi .slt v68 c0_i32_46
  let v73 : BitVec 1 := Scalar.xori v71 v72
  let c0_i32_44 : BitVec 32 := 0#32
  let v70 : BitVec 1 := Scalar.cmpi .ne v69 c0_i32_44
  let v74 : BitVec 1 := Scalar.andi v73 v70
  let v75 : BitVec 32 := Scalar.addi v69 v68
  let v76 : BitVec 32 := Scalar.select v74 v75 v69
  let c1_i32_48 : BitVec 32 := 1#32
  let v77 : BitVec 32 := Scalar.muli v76 c1_i32_48
  let v78 : BitVec 32 := Scalar.addi c0_i32_49 v77
  v78.toNat
def k0_dev5 (d2 : Dev nD) : Nat :=
  let c0_i32_58 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c5_i32 : BitVec 32 := 5#32
  let v79 : BitVec 32 := Scalar.addi v4 c5_i32
  let c8_i32_50 : BitVec 32 := 8#32
  let c0_i32_51 : BitVec 32 := 0#32
  let v80 : BitVec 1 := Scalar.cmpi .eq c8_i32_50 c0_i32_51
  let c1_i32_52 : BitVec 32 := 1#32
  let v81 : BitVec 32 := Scalar.select v80 c1_i32_52 c8_i32_50
  let v82 : BitVec 32 := Scalar.remsi v79 v81
  let c0_i32_54 : BitVec 32 := 0#32
  let v84 : BitVec 1 := Scalar.cmpi .slt v82 c0_i32_54
  let c0_i32_55 : BitVec 32 := 0#32
  let v85 : BitVec 1 := Scalar.cmpi .slt v81 c0_i32_55
  let v86 : BitVec 1 := Scalar.xori v84 v85
  let c0_i32_53 : BitVec 32 := 0#32
  let v83 : BitVec 1 := Scalar.cmpi .ne v82 c0_i32_53
  let v87 : BitVec 1 := Scalar.andi v86 v83
  let v88 : BitVec 32 := Scalar.addi v82 v81
  let v89 : BitVec 32 := Scalar.select v87 v88 v82
  let c1_i32_57 : BitVec 32 := 1#32
  let v90 : BitVec 32 := Scalar.muli v89 c1_i32_57
  let v91 : BitVec 32 := Scalar.addi c0_i32_58 v90
  v91.toNat
def k0_dev6 (d2 : Dev nD) : Nat :=
  let c0_i32_67 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c6_i32 : BitVec 32 := 6#32
  let v92 : BitVec 32 := Scalar.addi v4 c6_i32
  let c8_i32_59 : BitVec 32 := 8#32
  let c0_i32_60 : BitVec 32 := 0#32
  let v93 : BitVec 1 := Scalar.cmpi .eq c8_i32_59 c0_i32_60
  let c1_i32_61 : BitVec 32 := 1#32
  let v94 : BitVec 32 := Scalar.select v93 c1_i32_61 c8_i32_59
  let v95 : BitVec 32 := Scalar.remsi v92 v94
  let c0_i32_63 : BitVec 32 := 0#32
  let v97 : BitVec 1 := Scalar.cmpi .slt v95 c0_i32_63
  let c0_i32_64 : BitVec 32 := 0#32
  let v98 : BitVec 1 := Scalar.cmpi .slt v94 c0_i32_64
  let v99 : BitVec 1 := Scalar.xori v97 v98
  let c0_i32_62 : BitVec 32 := 0#32
  let v96 : BitVec 1 := Scalar.cmpi .ne v95 c0_i32_62
  let v100 : BitVec 1 := Scalar.andi v99 v96
  let v101 : BitVec 32 := Scalar.addi v95 v94
  let v102 : BitVec 32 := Scalar.select v100 v101 v95
  let c1_i32_66 : BitVec 32 := 1#32
  let v103 : BitVec 32 := Scalar.muli v102 c1_i32_66
  let v104 : BitVec 32 := Scalar.addi c0_i32_67 v103
  v104.toNat
def k0_dev7 (d2 : Dev nD) : Nat :=
  let c0_i32_76 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c7_i32 : BitVec 32 := 7#32
  let v105 : BitVec 32 := Scalar.addi v4 c7_i32
  let c8_i32_68 : BitVec 32 := 8#32
  let c0_i32_69 : BitVec 32 := 0#32
  let v106 : BitVec 1 := Scalar.cmpi .eq c8_i32_68 c0_i32_69
  let c1_i32_70 : BitVec 32 := 1#32
  let v107 : BitVec 32 := Scalar.select v106 c1_i32_70 c8_i32_68
  let v108 : BitVec 32 := Scalar.remsi v105 v107
  let c0_i32_72 : BitVec 32 := 0#32
  let v110 : BitVec 1 := Scalar.cmpi .slt v108 c0_i32_72
  let c0_i32_73 : BitVec 32 := 0#32
  let v111 : BitVec 1 := Scalar.cmpi .slt v107 c0_i32_73
  let v112 : BitVec 1 := Scalar.xori v110 v111
  let c0_i32_71 : BitVec 32 := 0#32
  let v109 : BitVec 1 := Scalar.cmpi .ne v108 c0_i32_71
  let v113 : BitVec 1 := Scalar.andi v112 v109
  let v114 : BitVec 32 := Scalar.addi v108 v107
  let v115 : BitVec 32 := Scalar.select v113 v114 v108
  let c1_i32_75 : BitVec 32 := 1#32
  let v116 : BitVec 32 := Scalar.muli v115 c1_i32_75
  let v117 : BitVec 32 := Scalar.addi c0_i32_76 v116
  v117.toNat
def k0_off1 (d2 : Dev nD) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c1024_i32 : BitVec 32 := 1024#32
  let v118 : BitVec 32 := Scalar.muli v4 c1024_i32
  let c0_i32_80 : BitVec 32 := 0#32
  ![v118.toNat, 0]
def k0_off2 (d2 : Dev nD) (c1_i32_81 : BitVec 32) : Fin 1 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let v121 : BitVec 32 := Scalar.subi v4 c1_i32_81
  let c8_i32_82 : BitVec 32 := 8#32
  let c0_i32_83 : BitVec 32 := 0#32
  let v122 : BitVec 1 := Scalar.cmpi .eq c8_i32_82 c0_i32_83
  let c1_i32_84 : BitVec 32 := 1#32
  let v123 : BitVec 32 := Scalar.select v122 c1_i32_84 c8_i32_82
  let v124 : BitVec 32 := Scalar.remsi v121 v123
  let c0_i32_86 : BitVec 32 := 0#32
  let v126 : BitVec 1 := Scalar.cmpi .slt v124 c0_i32_86
  let c0_i32_87 : BitVec 32 := 0#32
  let v127 : BitVec 1 := Scalar.cmpi .slt v123 c0_i32_87
  let v128 : BitVec 1 := Scalar.xori v126 v127
  let c0_i32_85 : BitVec 32 := 0#32
  let v125 : BitVec 1 := Scalar.cmpi .ne v124 c0_i32_85
  let v129 : BitVec 1 := Scalar.andi v128 v125
  let v130 : BitVec 32 := Scalar.addi v124 v123
  let v131 : BitVec 32 := Scalar.select v129 v130 v124
  ![v131.toNat]
def k0_off3 (d2 : Dev nD) : Fin 1 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  ![v4.toNat]
def k0_off4 (d2 : Dev nD) (c1_i32_81 : BitVec 32) : Fin 2 → Nat :=
  let c0_i32_98 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let v121 : BitVec 32 := Scalar.subi v4 c1_i32_81
  let c8_i32_82 : BitVec 32 := 8#32
  let c0_i32_83 : BitVec 32 := 0#32
  let v122 : BitVec 1 := Scalar.cmpi .eq c8_i32_82 c0_i32_83
  let c1_i32_84 : BitVec 32 := 1#32
  let v123 : BitVec 32 := Scalar.select v122 c1_i32_84 c8_i32_82
  let v124 : BitVec 32 := Scalar.remsi v121 v123
  let c0_i32_86 : BitVec 32 := 0#32
  let v126 : BitVec 1 := Scalar.cmpi .slt v124 c0_i32_86
  let c0_i32_87 : BitVec 32 := 0#32
  let v127 : BitVec 1 := Scalar.cmpi .slt v123 c0_i32_87
  let v128 : BitVec 1 := Scalar.xori v126 v127
  let c0_i32_85 : BitVec 32 := 0#32
  let v125 : BitVec 1 := Scalar.cmpi .ne v124 c0_i32_85
  let v129 : BitVec 1 := Scalar.andi v128 v125
  let v130 : BitVec 32 := Scalar.addi v124 v123
  let v131 : BitVec 32 := Scalar.select v129 v130 v124
  let v132 : BitVec 32 := Scalar.subi v4 v131
  let c8_i32_88 : BitVec 32 := 8#32
  let c0_i32_89 : BitVec 32 := 0#32
  let v133 : BitVec 1 := Scalar.cmpi .eq c8_i32_88 c0_i32_89
  let c1_i32_90 : BitVec 32 := 1#32
  let v134 : BitVec 32 := Scalar.select v133 c1_i32_90 c8_i32_88
  let v135 : BitVec 32 := Scalar.remsi v132 v134
  let c0_i32_92 : BitVec 32 := 0#32
  let v137 : BitVec 1 := Scalar.cmpi .slt v135 c0_i32_92
  let c0_i32_93 : BitVec 32 := 0#32
  let v138 : BitVec 1 := Scalar.cmpi .slt v134 c0_i32_93
  let v139 : BitVec 1 := Scalar.xori v137 v138
  let c0_i32_91 : BitVec 32 := 0#32
  let v136 : BitVec 1 := Scalar.cmpi .ne v135 c0_i32_91
  let v140 : BitVec 1 := Scalar.andi v139 v136
  let v141 : BitVec 32 := Scalar.addi v135 v134
  let v142 : BitVec 32 := Scalar.select v140 v141 v135
  let c1024_i32_95 : BitVec 32 := 1024#32
  let v144 : BitVec 32 := Scalar.muli v142 c1024_i32_95
  ![0, v144.toNat]
def k0_off5 (d2 : Dev nD) (c1_i32_81 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let v121 : BitVec 32 := Scalar.subi v4 c1_i32_81
  let c8_i32_82 : BitVec 32 := 8#32
  let c0_i32_83 : BitVec 32 := 0#32
  let v122 : BitVec 1 := Scalar.cmpi .eq c8_i32_82 c0_i32_83
  let c1_i32_84 : BitVec 32 := 1#32
  let v123 : BitVec 32 := Scalar.select v122 c1_i32_84 c8_i32_82
  let v124 : BitVec 32 := Scalar.remsi v121 v123
  let c0_i32_86 : BitVec 32 := 0#32
  let v126 : BitVec 1 := Scalar.cmpi .slt v124 c0_i32_86
  let c0_i32_87 : BitVec 32 := 0#32
  let v127 : BitVec 1 := Scalar.cmpi .slt v123 c0_i32_87
  let v128 : BitVec 1 := Scalar.xori v126 v127
  let c0_i32_85 : BitVec 32 := 0#32
  let v125 : BitVec 1 := Scalar.cmpi .ne v124 c0_i32_85
  let v129 : BitVec 1 := Scalar.andi v128 v125
  let v130 : BitVec 32 := Scalar.addi v124 v123
  let v131 : BitVec 32 := Scalar.select v129 v130 v124
  let c1024_i32_94 : BitVec 32 := 1024#32
  let v143 : BitVec 32 := Scalar.muli v131 c1024_i32_94
  let c0_i32_99 : BitVec 32 := 0#32
  ![v143.toNat, 0]
def k0_dev8 (d2 : Dev nD) : Nat :=
  let c0_i32_97 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c1_i32_81 : BitVec 32 := 1#32
  let v121 : BitVec 32 := Scalar.subi v4 c1_i32_81
  let c8_i32_82 : BitVec 32 := 8#32
  let c0_i32_83 : BitVec 32 := 0#32
  let v122 : BitVec 1 := Scalar.cmpi .eq c8_i32_82 c0_i32_83
  let c1_i32_84 : BitVec 32 := 1#32
  let v123 : BitVec 32 := Scalar.select v122 c1_i32_84 c8_i32_82
  let v124 : BitVec 32 := Scalar.remsi v121 v123
  let c0_i32_86 : BitVec 32 := 0#32
  let v126 : BitVec 1 := Scalar.cmpi .slt v124 c0_i32_86
  let c0_i32_87 : BitVec 32 := 0#32
  let v127 : BitVec 1 := Scalar.cmpi .slt v123 c0_i32_87
  let v128 : BitVec 1 := Scalar.xori v126 v127
  let c0_i32_85 : BitVec 32 := 0#32
  let v125 : BitVec 1 := Scalar.cmpi .ne v124 c0_i32_85
  let v129 : BitVec 1 := Scalar.andi v128 v125
  let v130 : BitVec 32 := Scalar.addi v124 v123
  let v131 : BitVec 32 := Scalar.select v129 v130 v124
  let c1_i32_96 : BitVec 32 := 1#32
  let v145 : BitVec 32 := Scalar.muli v131 c1_i32_96
  let v146 : BitVec 32 := Scalar.addi c0_i32_97 v145
  v146.toNat
def k0_dev9 (d2 : Dev nD) : Nat :=
  let c0_i32_116 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c2_i32_100 : BitVec 32 := 2#32
  let v153 : BitVec 32 := Scalar.subi v4 c2_i32_100
  let c8_i32_101 : BitVec 32 := 8#32
  let c0_i32_102 : BitVec 32 := 0#32
  let v154 : BitVec 1 := Scalar.cmpi .eq c8_i32_101 c0_i32_102
  let c1_i32_103 : BitVec 32 := 1#32
  let v155 : BitVec 32 := Scalar.select v154 c1_i32_103 c8_i32_101
  let v156 : BitVec 32 := Scalar.remsi v153 v155
  let c0_i32_105 : BitVec 32 := 0#32
  let v158 : BitVec 1 := Scalar.cmpi .slt v156 c0_i32_105
  let c0_i32_106 : BitVec 32 := 0#32
  let v159 : BitVec 1 := Scalar.cmpi .slt v155 c0_i32_106
  let v160 : BitVec 1 := Scalar.xori v158 v159
  let c0_i32_104 : BitVec 32 := 0#32
  let v157 : BitVec 1 := Scalar.cmpi .ne v156 c0_i32_104
  let v161 : BitVec 1 := Scalar.andi v160 v157
  let v162 : BitVec 32 := Scalar.addi v156 v155
  let v163 : BitVec 32 := Scalar.select v161 v162 v156
  let c1_i32_115 : BitVec 32 := 1#32
  let v177 : BitVec 32 := Scalar.muli v163 c1_i32_115
  let v178 : BitVec 32 := Scalar.addi c0_i32_116 v177
  v178.toNat
def k0_dev10 (d2 : Dev nD) : Nat :=
  let c0_i32_135 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c3_i32_119 : BitVec 32 := 3#32
  let v185 : BitVec 32 := Scalar.subi v4 c3_i32_119
  let c8_i32_120 : BitVec 32 := 8#32
  let c0_i32_121 : BitVec 32 := 0#32
  let v186 : BitVec 1 := Scalar.cmpi .eq c8_i32_120 c0_i32_121
  let c1_i32_122 : BitVec 32 := 1#32
  let v187 : BitVec 32 := Scalar.select v186 c1_i32_122 c8_i32_120
  let v188 : BitVec 32 := Scalar.remsi v185 v187
  let c0_i32_124 : BitVec 32 := 0#32
  let v190 : BitVec 1 := Scalar.cmpi .slt v188 c0_i32_124
  let c0_i32_125 : BitVec 32 := 0#32
  let v191 : BitVec 1 := Scalar.cmpi .slt v187 c0_i32_125
  let v192 : BitVec 1 := Scalar.xori v190 v191
  let c0_i32_123 : BitVec 32 := 0#32
  let v189 : BitVec 1 := Scalar.cmpi .ne v188 c0_i32_123
  let v193 : BitVec 1 := Scalar.andi v192 v189
  let v194 : BitVec 32 := Scalar.addi v188 v187
  let v195 : BitVec 32 := Scalar.select v193 v194 v188
  let c1_i32_134 : BitVec 32 := 1#32
  let v209 : BitVec 32 := Scalar.muli v195 c1_i32_134
  let v210 : BitVec 32 := Scalar.addi c0_i32_135 v209
  v210.toNat
def k0_dev11 (d2 : Dev nD) : Nat :=
  let c0_i32_154 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c4_i32_138 : BitVec 32 := 4#32
  let v217 : BitVec 32 := Scalar.subi v4 c4_i32_138
  let c8_i32_139 : BitVec 32 := 8#32
  let c0_i32_140 : BitVec 32 := 0#32
  let v218 : BitVec 1 := Scalar.cmpi .eq c8_i32_139 c0_i32_140
  let c1_i32_141 : BitVec 32 := 1#32
  let v219 : BitVec 32 := Scalar.select v218 c1_i32_141 c8_i32_139
  let v220 : BitVec 32 := Scalar.remsi v217 v219
  let c0_i32_143 : BitVec 32 := 0#32
  let v222 : BitVec 1 := Scalar.cmpi .slt v220 c0_i32_143
  let c0_i32_144 : BitVec 32 := 0#32
  let v223 : BitVec 1 := Scalar.cmpi .slt v219 c0_i32_144
  let v224 : BitVec 1 := Scalar.xori v222 v223
  let c0_i32_142 : BitVec 32 := 0#32
  let v221 : BitVec 1 := Scalar.cmpi .ne v220 c0_i32_142
  let v225 : BitVec 1 := Scalar.andi v224 v221
  let v226 : BitVec 32 := Scalar.addi v220 v219
  let v227 : BitVec 32 := Scalar.select v225 v226 v220
  let c1_i32_153 : BitVec 32 := 1#32
  let v241 : BitVec 32 := Scalar.muli v227 c1_i32_153
  let v242 : BitVec 32 := Scalar.addi c0_i32_154 v241
  v242.toNat
def k0_dev12 (d2 : Dev nD) : Nat :=
  let c0_i32_173 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c5_i32_157 : BitVec 32 := 5#32
  let v249 : BitVec 32 := Scalar.subi v4 c5_i32_157
  let c8_i32_158 : BitVec 32 := 8#32
  let c0_i32_159 : BitVec 32 := 0#32
  let v250 : BitVec 1 := Scalar.cmpi .eq c8_i32_158 c0_i32_159
  let c1_i32_160 : BitVec 32 := 1#32
  let v251 : BitVec 32 := Scalar.select v250 c1_i32_160 c8_i32_158
  let v252 : BitVec 32 := Scalar.remsi v249 v251
  let c0_i32_162 : BitVec 32 := 0#32
  let v254 : BitVec 1 := Scalar.cmpi .slt v252 c0_i32_162
  let c0_i32_163 : BitVec 32 := 0#32
  let v255 : BitVec 1 := Scalar.cmpi .slt v251 c0_i32_163
  let v256 : BitVec 1 := Scalar.xori v254 v255
  let c0_i32_161 : BitVec 32 := 0#32
  let v253 : BitVec 1 := Scalar.cmpi .ne v252 c0_i32_161
  let v257 : BitVec 1 := Scalar.andi v256 v253
  let v258 : BitVec 32 := Scalar.addi v252 v251
  let v259 : BitVec 32 := Scalar.select v257 v258 v252
  let c1_i32_172 : BitVec 32 := 1#32
  let v273 : BitVec 32 := Scalar.muli v259 c1_i32_172
  let v274 : BitVec 32 := Scalar.addi c0_i32_173 v273
  v274.toNat
def k0_dev13 (d2 : Dev nD) : Nat :=
  let c0_i32_192 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c6_i32_176 : BitVec 32 := 6#32
  let v281 : BitVec 32 := Scalar.subi v4 c6_i32_176
  let c8_i32_177 : BitVec 32 := 8#32
  let c0_i32_178 : BitVec 32 := 0#32
  let v282 : BitVec 1 := Scalar.cmpi .eq c8_i32_177 c0_i32_178
  let c1_i32_179 : BitVec 32 := 1#32
  let v283 : BitVec 32 := Scalar.select v282 c1_i32_179 c8_i32_177
  let v284 : BitVec 32 := Scalar.remsi v281 v283
  let c0_i32_181 : BitVec 32 := 0#32
  let v286 : BitVec 1 := Scalar.cmpi .slt v284 c0_i32_181
  let c0_i32_182 : BitVec 32 := 0#32
  let v287 : BitVec 1 := Scalar.cmpi .slt v283 c0_i32_182
  let v288 : BitVec 1 := Scalar.xori v286 v287
  let c0_i32_180 : BitVec 32 := 0#32
  let v285 : BitVec 1 := Scalar.cmpi .ne v284 c0_i32_180
  let v289 : BitVec 1 := Scalar.andi v288 v285
  let v290 : BitVec 32 := Scalar.addi v284 v283
  let v291 : BitVec 32 := Scalar.select v289 v290 v284
  let c1_i32_191 : BitVec 32 := 1#32
  let v305 : BitVec 32 := Scalar.muli v291 c1_i32_191
  let v306 : BitVec 32 := Scalar.addi c0_i32_192 v305
  v306.toNat
def k0_dev14 (d2 : Dev nD) : Nat :=
  let c0_i32_211 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c7_i32_195 : BitVec 32 := 7#32
  let v313 : BitVec 32 := Scalar.subi v4 c7_i32_195
  let c8_i32_196 : BitVec 32 := 8#32
  let c0_i32_197 : BitVec 32 := 0#32
  let v314 : BitVec 1 := Scalar.cmpi .eq c8_i32_196 c0_i32_197
  let c1_i32_198 : BitVec 32 := 1#32
  let v315 : BitVec 32 := Scalar.select v314 c1_i32_198 c8_i32_196
  let v316 : BitVec 32 := Scalar.remsi v313 v315
  let c0_i32_200 : BitVec 32 := 0#32
  let v318 : BitVec 1 := Scalar.cmpi .slt v316 c0_i32_200
  let c0_i32_201 : BitVec 32 := 0#32
  let v319 : BitVec 1 := Scalar.cmpi .slt v315 c0_i32_201
  let v320 : BitVec 1 := Scalar.xori v318 v319
  let c0_i32_199 : BitVec 32 := 0#32
  let v317 : BitVec 1 := Scalar.cmpi .ne v316 c0_i32_199
  let v321 : BitVec 1 := Scalar.andi v320 v317
  let v322 : BitVec 32 := Scalar.addi v316 v315
  let v323 : BitVec 32 := Scalar.select v321 v322 v316
  let c1_i32_210 : BitVec 32 := 1#32
  let v337 : BitVec 32 := Scalar.muli v323 c1_i32_210
  let v338 : BitVec 32 := Scalar.addi c0_i32_211 v337
  v338.toNat
def k0_off6 (d2 : Dev nD) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c0_i32_214 : BitVec 32 := 0#32
  let v345 : BitVec 32 := Scalar.addi v4 c0_i32_214
  let c0_i32_215 : BitVec 32 := 0#32
  let v346 : BitVec 32 := Scalar.addi v345 c0_i32_215
  let c8_i32_216 : BitVec 32 := 8#32
  let c0_i32_217 : BitVec 32 := 0#32
  let v347 : BitVec 1 := Scalar.cmpi .eq c8_i32_216 c0_i32_217
  let c1_i32_218 : BitVec 32 := 1#32
  let v348 : BitVec 32 := Scalar.select v347 c1_i32_218 c8_i32_216
  let v349 : BitVec 32 := Scalar.remsi v346 v348
  let c0_i32_220 : BitVec 32 := 0#32
  let v351 : BitVec 1 := Scalar.cmpi .slt v349 c0_i32_220
  let c0_i32_221 : BitVec 32 := 0#32
  let v352 : BitVec 1 := Scalar.cmpi .slt v348 c0_i32_221
  let v353 : BitVec 1 := Scalar.xori v351 v352
  let c0_i32_219 : BitVec 32 := 0#32
  let v350 : BitVec 1 := Scalar.cmpi .ne v349 c0_i32_219
  let v354 : BitVec 1 := Scalar.andi v353 v350
  let v355 : BitVec 32 := Scalar.addi v349 v348
  let v356 : BitVec 32 := Scalar.select v354 v355 v349
  let c1024_i32_222 : BitVec 32 := 1024#32
  let v357 : BitVec 32 := Scalar.muli v356 c1024_i32_222
  let c0_i32_227 : BitVec 32 := 0#32
  ![v357.toNat, 0]
def k0_cond2 (i : grid0.Coords) : BitVec 1 :=
  let arg0 : BitVec 32 := BitVec.ofNat 32 (i 0).val
  let c0_i32_1 : BitVec 32 := 0#32
  let v8 : BitVec 1 := Scalar.cmpi .eq arg0 c0_i32_1
  let v9 : BitVec 32 := Scalar.extui v8
  let c0_i32_2 : BitVec 32 := 0#32
  let v10 : BitVec 1 := Scalar.cmpi .ne v9 c0_i32_2
  v10

def k0_cond3 (i : grid0.Coords) : BitVec 1 :=
  let arg1 : BitVec 32 := BitVec.ofNat 32 (i 1).val
  let c3_i32_10 : BitVec 32 := 3#32
  let v26 : BitVec 1 := Scalar.cmpi .eq arg1 c3_i32_10
  let v27 : BitVec 32 := Scalar.extui v26
  let c0_i32_11 : BitVec 32 := 0#32
  let v28 : BitVec 1 := Scalar.cmpi .ne v27 c0_i32_11
  v28

def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_44 : BitVec 32 := 1#32
  let v83 : BitVec 32 := Scalar.addi v1 c1_i32_44
  let c2_i32_45 : BitVec 32 := 2#32
  let c0_i32_46 : BitVec 32 := 0#32
  let v84 : BitVec 1 := Scalar.cmpi .eq c2_i32_45 c0_i32_46
  let c1_i32_47 : BitVec 32 := 1#32
  let v85 : BitVec 32 := Scalar.select v84 c1_i32_47 c2_i32_45
  let v86 : BitVec 32 := Scalar.remsi v83 v85
  let c0_i32_49 : BitVec 32 := 0#32
  let v88 : BitVec 1 := Scalar.cmpi .slt v86 c0_i32_49
  let c0_i32_50 : BitVec 32 := 0#32
  let v89 : BitVec 1 := Scalar.cmpi .slt v85 c0_i32_50
  let v90 : BitVec 1 := Scalar.xori v88 v89
  let c0_i32_48 : BitVec 32 := 0#32
  let v87 : BitVec 1 := Scalar.cmpi .ne v86 c0_i32_48
  let v91 : BitVec 1 := Scalar.andi v90 v87
  let v92 : BitVec 32 := Scalar.addi v86 v85
  let v93 : BitVec 32 := Scalar.select v91 v92 v86
  ![v93.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_44 : BitVec 32 := 1#32
  let v83 : BitVec 32 := Scalar.addi v1 c1_i32_44
  let c2_i32_45 : BitVec 32 := 2#32
  let c0_i32_46 : BitVec 32 := 0#32
  let v84 : BitVec 1 := Scalar.cmpi .eq c2_i32_45 c0_i32_46
  let c1_i32_47 : BitVec 32 := 1#32
  let v85 : BitVec 32 := Scalar.select v84 c1_i32_47 c2_i32_45
  let v86 : BitVec 32 := Scalar.remsi v83 v85
  let c0_i32_49 : BitVec 32 := 0#32
  let v88 : BitVec 1 := Scalar.cmpi .slt v86 c0_i32_49
  let c0_i32_50 : BitVec 32 := 0#32
  let v89 : BitVec 1 := Scalar.cmpi .slt v85 c0_i32_50
  let v90 : BitVec 1 := Scalar.xori v88 v89
  let c0_i32_48 : BitVec 32 := 0#32
  let v87 : BitVec 1 := Scalar.cmpi .ne v86 c0_i32_48
  let v91 : BitVec 1 := Scalar.andi v90 v87
  let v92 : BitVec 32 := Scalar.addi v86 v85
  let v93 : BitVec 32 := Scalar.select v91 v92 v86
  let c0_i32_69 : BitVec 32 := 0#32
  let c0_i32_70 : BitVec 32 := 0#32
  ![v93.toNat, 0, 0]
def k0_off9 (d2 : Dev nD) (c0_i32_52 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c1_i32_51 : BitVec 32 := 1#32
  let v94 : BitVec 32 := Scalar.addi v4 c1_i32_51
  let v95 : BitVec 32 := Scalar.addi v94 c0_i32_52
  let c8_i32_53 : BitVec 32 := 8#32
  let c0_i32_54 : BitVec 32 := 0#32
  let v96 : BitVec 1 := Scalar.cmpi .eq c8_i32_53 c0_i32_54
  let c1_i32_55 : BitVec 32 := 1#32
  let v97 : BitVec 32 := Scalar.select v96 c1_i32_55 c8_i32_53
  let v98 : BitVec 32 := Scalar.remsi v95 v97
  let c0_i32_57 : BitVec 32 := 0#32
  let v100 : BitVec 1 := Scalar.cmpi .slt v98 c0_i32_57
  let c0_i32_58 : BitVec 32 := 0#32
  let v101 : BitVec 1 := Scalar.cmpi .slt v97 c0_i32_58
  let v102 : BitVec 1 := Scalar.xori v100 v101
  let c0_i32_56 : BitVec 32 := 0#32
  let v99 : BitVec 1 := Scalar.cmpi .ne v98 c0_i32_56
  let v103 : BitVec 1 := Scalar.andi v102 v99
  let v104 : BitVec 32 := Scalar.addi v98 v97
  let v105 : BitVec 32 := Scalar.select v103 v104 v98
  let c1024_i32_59 : BitVec 32 := 1024#32
  let v106 : BitVec 32 := Scalar.muli v105 c1024_i32_59
  let c0_i32_71 : BitVec 32 := 0#32
  ![v106.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_44 : BitVec 32 := 1#32
  let v83 : BitVec 32 := Scalar.addi v1 c1_i32_44
  let c2_i32_45 : BitVec 32 := 2#32
  let c0_i32_46 : BitVec 32 := 0#32
  let v84 : BitVec 1 := Scalar.cmpi .eq c2_i32_45 c0_i32_46
  let c1_i32_47 : BitVec 32 := 1#32
  let v85 : BitVec 32 := Scalar.select v84 c1_i32_47 c2_i32_45
  let v86 : BitVec 32 := Scalar.remsi v83 v85
  let c0_i32_49 : BitVec 32 := 0#32
  let v88 : BitVec 1 := Scalar.cmpi .slt v86 c0_i32_49
  let c0_i32_50 : BitVec 32 := 0#32
  let v89 : BitVec 1 := Scalar.cmpi .slt v85 c0_i32_50
  let v90 : BitVec 1 := Scalar.xori v88 v89
  let c0_i32_48 : BitVec 32 := 0#32
  let v87 : BitVec 1 := Scalar.cmpi .ne v86 c0_i32_48
  let v91 : BitVec 1 := Scalar.andi v90 v87
  let v92 : BitVec 32 := Scalar.addi v86 v85
  let v93 : BitVec 32 := Scalar.select v91 v92 v86
  let c1024_i32_72 : BitVec 32 := 1024#32
  let c0_i32_73 : BitVec 32 := 0#32
  ![v93.toNat, 1024, 0]
def k0_cond4 (i : grid0.Coords) : BitVec 1 :=
  let arg1 : BitVec 32 := BitVec.ofNat 32 (i 1).val
  let c3_i32_12 : BitVec 32 := 3#32
  let v29 : BitVec 1 := Scalar.cmpi .slt arg1 c3_i32_12
  let v30 : BitVec 32 := Scalar.extui v29
  let c0_i32_13 : BitVec 32 := 0#32
  let v31 : BitVec 1 := Scalar.cmpi .ne v30 c0_i32_13
  v31

def k0_off11 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_44 : BitVec 32 := 1#32
  let v83 : BitVec 32 := Scalar.addi v1 c1_i32_44
  let c2_i32_45 : BitVec 32 := 2#32
  let c0_i32_46 : BitVec 32 := 0#32
  let v84 : BitVec 1 := Scalar.cmpi .eq c2_i32_45 c0_i32_46
  let c1_i32_47 : BitVec 32 := 1#32
  let v85 : BitVec 32 := Scalar.select v84 c1_i32_47 c2_i32_45
  let v86 : BitVec 32 := Scalar.remsi v83 v85
  let c0_i32_49 : BitVec 32 := 0#32
  let v88 : BitVec 1 := Scalar.cmpi .slt v86 c0_i32_49
  let c0_i32_50 : BitVec 32 := 0#32
  let v89 : BitVec 1 := Scalar.cmpi .slt v85 c0_i32_50
  let v90 : BitVec 1 := Scalar.xori v88 v89
  let c0_i32_48 : BitVec 32 := 0#32
  let v87 : BitVec 1 := Scalar.cmpi .ne v86 c0_i32_48
  let v91 : BitVec 1 := Scalar.andi v90 v87
  let v92 : BitVec 32 := Scalar.addi v86 v85
  let v93 : BitVec 32 := Scalar.select v91 v92 v86
  ![v93.toNat]
def k0_off12 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_44 : BitVec 32 := 1#32
  let v83 : BitVec 32 := Scalar.addi v1 c1_i32_44
  let c2_i32_45 : BitVec 32 := 2#32
  let c0_i32_46 : BitVec 32 := 0#32
  let v84 : BitVec 1 := Scalar.cmpi .eq c2_i32_45 c0_i32_46
  let c1_i32_47 : BitVec 32 := 1#32
  let v85 : BitVec 32 := Scalar.select v84 c1_i32_47 c2_i32_45
  let v86 : BitVec 32 := Scalar.remsi v83 v85
  let c0_i32_49 : BitVec 32 := 0#32
  let v88 : BitVec 1 := Scalar.cmpi .slt v86 c0_i32_49
  let c0_i32_50 : BitVec 32 := 0#32
  let v89 : BitVec 1 := Scalar.cmpi .slt v85 c0_i32_50
  let v90 : BitVec 1 := Scalar.xori v88 v89
  let c0_i32_48 : BitVec 32 := 0#32
  let v87 : BitVec 1 := Scalar.cmpi .ne v86 c0_i32_48
  let v91 : BitVec 1 := Scalar.andi v90 v87
  let v92 : BitVec 32 := Scalar.addi v86 v85
  let v93 : BitVec 32 := Scalar.select v91 v92 v86
  let c0_i32_62 : BitVec 32 := 0#32
  let c0_i32_63 : BitVec 32 := 0#32
  ![v93.toNat, 0, 0]
def k0_off13 (i : grid0.Coords) (d2 : Dev nD) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c0_i32_52 : BitVec 32 := 0#32
  let v95 : BitVec 32 := Scalar.addi v4 c0_i32_52
  let c0_i32_53 : BitVec 32 := 0#32
  let v96 : BitVec 32 := Scalar.addi v95 c0_i32_53
  let c8_i32_54 : BitVec 32 := 8#32
  let c0_i32_55 : BitVec 32 := 0#32
  let v97 : BitVec 1 := Scalar.cmpi .eq c8_i32_54 c0_i32_55
  let c1_i32_56 : BitVec 32 := 1#32
  let v98 : BitVec 32 := Scalar.select v97 c1_i32_56 c8_i32_54
  let v99 : BitVec 32 := Scalar.remsi v96 v98
  let c0_i32_58 : BitVec 32 := 0#32
  let v101 : BitVec 1 := Scalar.cmpi .slt v99 c0_i32_58
  let c0_i32_59 : BitVec 32 := 0#32
  let v102 : BitVec 1 := Scalar.cmpi .slt v98 c0_i32_59
  let v103 : BitVec 1 := Scalar.xori v101 v102
  let c0_i32_57 : BitVec 32 := 0#32
  let v100 : BitVec 1 := Scalar.cmpi .ne v99 c0_i32_57
  let v104 : BitVec 1 := Scalar.andi v103 v100
  let v105 : BitVec 32 := Scalar.addi v99 v98
  let v106 : BitVec 32 := Scalar.select v104 v105 v99
  let c1024_i32_60 : BitVec 32 := 1024#32
  let v107 : BitVec 32 := Scalar.muli v106 c1024_i32_60
  let arg1 : BitVec 32 := BitVec.ofNat 32 (i 1).val
  let c1_i32_51 : BitVec 32 := 1#32
  let v94 : BitVec 32 := Scalar.addi arg1 c1_i32_51
  let c1024_i32_61 : BitVec 32 := 1024#32
  let v108 : BitVec 32 := Scalar.muli v94 c1024_i32_61
  ![v107.toNat, v108.toNat]
def k0_cond5 (i : grid0.Coords) : BitVec 1 :=
  let arg1 : BitVec 32 := BitVec.ofNat 32 (i 1).val
  let c0_i32_14 : BitVec 32 := 0#32
  let v32 : BitVec 1 := Scalar.cmpi .eq arg1 c0_i32_14
  let v33 : BitVec 32 := Scalar.extui v32
  let c0_i32_15 : BitVec 32 := 0#32
  let v34 : BitVec 1 := Scalar.cmpi .ne v33 c0_i32_15
  v34

def k0_off14 (d2 : Dev nD) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c1024_i32_44 : BitVec 32 := 1024#32
  let v83 : BitVec 32 := Scalar.muli v4 c1024_i32_44
  let c0_i32_47 : BitVec 32 := 0#32
  ![v83.toNat, 0]
def k0_off15 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  ![v44.toNat]
def k0_off16 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c0_i32_31 : BitVec 32 := 0#32
  let c0_i32_32 : BitVec 32 := 0#32
  ![v44.toNat, 0, 0]
def k0_off17 (i : grid0.Coords) (d2 : Dev nD) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c0_i32_22 : BitVec 32 := 0#32
  let v45 : BitVec 32 := Scalar.addi v4 c0_i32_22
  let c0_i32_23 : BitVec 32 := 0#32
  let v46 : BitVec 32 := Scalar.addi v45 c0_i32_23
  let c8_i32_24 : BitVec 32 := 8#32
  let c0_i32_25 : BitVec 32 := 0#32
  let v47 : BitVec 1 := Scalar.cmpi .eq c8_i32_24 c0_i32_25
  let c1_i32_26 : BitVec 32 := 1#32
  let v48 : BitVec 32 := Scalar.select v47 c1_i32_26 c8_i32_24
  let v49 : BitVec 32 := Scalar.remsi v46 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let c1024_i32 : BitVec 32 := 1024#32
  let v57 : BitVec 32 := Scalar.muli v56 c1024_i32
  let arg1 : BitVec 32 := BitVec.ofNat 32 (i 1).val
  let c1024_i32_30 : BitVec 32 := 1024#32
  let v58 : BitVec 32 := Scalar.muli arg1 c1024_i32_30
  ![v57.toNat, v58.toNat]
def k0_off18 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_34 : BitVec 32 := 2#32
  let c0_i32_35 : BitVec 32 := 0#32
  let v65 : BitVec 1 := Scalar.cmpi .eq c2_i32_34 c0_i32_35
  let c1_i32_36 : BitVec 32 := 1#32
  let v66 : BitVec 32 := Scalar.select v65 c1_i32_36 c2_i32_34
  let v67 : BitVec 32 := Scalar.remsi v1 v66
  let c0_i32_38 : BitVec 32 := 0#32
  let v69 : BitVec 1 := Scalar.cmpi .slt v67 c0_i32_38
  let c0_i32_39 : BitVec 32 := 0#32
  let v70 : BitVec 1 := Scalar.cmpi .slt v66 c0_i32_39
  let v71 : BitVec 1 := Scalar.xori v69 v70
  let c0_i32_37 : BitVec 32 := 0#32
  let v68 : BitVec 1 := Scalar.cmpi .ne v67 c0_i32_37
  let v72 : BitVec 1 := Scalar.andi v71 v68
  let v73 : BitVec 32 := Scalar.addi v67 v66
  let v74 : BitVec 32 := Scalar.select v72 v73 v67
  let v75 : Index := Scalar.indexCast v74
  let c0_40 : Index := 0#32
  let c0_41 : Index := 0#32
  ![v75.toNat, 0, 0]
def k0_off19 (i : grid0.Coords) : Fin 2 → Nat :=
  let c0_43 : Index := 0#32
  let arg1 : BitVec 32 := BitVec.ofNat 32 (i 1).val
  let c1024_i32_42 : BitVec 32 := 1024#32
  let v80 : BitVec 32 := Scalar.muli arg1 c1024_i32_42
  let v81 : Index := Scalar.indexCast v80
  ![0, v81.toNat]
def k0_cond6 (i : grid0.Coords) : BitVec 1 :=
  let arg0 : BitVec 32 := BitVec.ofNat 32 (i 0).val
  let c1_i32_3 : BitVec 32 := 1#32
  let v11 : BitVec 1 := Scalar.cmpi .eq arg0 c1_i32_3
  let v12 : BitVec 32 := Scalar.extui v11
  let c0_i32_4 : BitVec 32 := 0#32
  let v13 : BitVec 1 := Scalar.cmpi .ne v12 c0_i32_4
  v13

def k0_cond7 (i : grid0.Coords) : BitVec 1 :=
  let arg1 : BitVec 32 := BitVec.ofNat 32 (i 1).val
  let c3_i32_10 : BitVec 32 := 3#32
  let v26 : BitVec 1 := Scalar.cmpi .eq arg1 c3_i32_10
  let v27 : BitVec 32 := Scalar.extui v26
  let c0_i32_11 : BitVec 32 := 0#32
  let v28 : BitVec 1 := Scalar.cmpi .ne v27 c0_i32_11
  v28

def k0_off20 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  ![v116.toNat]
def k0_off21 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let c0_i32_81 : BitVec 32 := 0#32
  let c0_i32_82 : BitVec 32 := 0#32
  ![v116.toNat, 0, 0]
def k0_off22 (d2 : Dev nD) (c0_i32_64 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c3_i32_63 : BitVec 32 := 3#32
  let v117 : BitVec 32 := Scalar.addi v4 c3_i32_63
  let v118 : BitVec 32 := Scalar.addi v117 c0_i32_64
  let c8_i32_65 : BitVec 32 := 8#32
  let c0_i32_66 : BitVec 32 := 0#32
  let v119 : BitVec 1 := Scalar.cmpi .eq c8_i32_65 c0_i32_66
  let c1_i32_67 : BitVec 32 := 1#32
  let v120 : BitVec 32 := Scalar.select v119 c1_i32_67 c8_i32_65
  let v121 : BitVec 32 := Scalar.remsi v118 v120
  let c0_i32_69 : BitVec 32 := 0#32
  let v123 : BitVec 1 := Scalar.cmpi .slt v121 c0_i32_69
  let c0_i32_70 : BitVec 32 := 0#32
  let v124 : BitVec 1 := Scalar.cmpi .slt v120 c0_i32_70
  let v125 : BitVec 1 := Scalar.xori v123 v124
  let c0_i32_68 : BitVec 32 := 0#32
  let v122 : BitVec 1 := Scalar.cmpi .ne v121 c0_i32_68
  let v126 : BitVec 1 := Scalar.andi v125 v122
  let v127 : BitVec 32 := Scalar.addi v121 v120
  let v128 : BitVec 32 := Scalar.select v126 v127 v121
  let c1024_i32_71 : BitVec 32 := 1024#32
  let v129 : BitVec 32 := Scalar.muli v128 c1024_i32_71
  let c0_i32_83 : BitVec 32 := 0#32
  ![v129.toNat, 0]
def k0_off23 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let c1024_i32_84 : BitVec 32 := 1024#32
  let c0_i32_85 : BitVec 32 := 0#32
  ![v116.toNat, 1024, 0]
def k0_cond8 (i : grid0.Coords) : BitVec 1 :=
  let arg1 : BitVec 32 := BitVec.ofNat 32 (i 1).val
  let c3_i32_12 : BitVec 32 := 3#32
  let v29 : BitVec 1 := Scalar.cmpi .slt arg1 c3_i32_12
  let v30 : BitVec 32 := Scalar.extui v29
  let c0_i32_13 : BitVec 32 := 0#32
  let v31 : BitVec 1 := Scalar.cmpi .ne v30 c0_i32_13
  v31

def k0_off24 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  ![v116.toNat]
def k0_off25 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let c0_i32_84 : BitVec 32 := 0#32
  let c0_i32_85 : BitVec 32 := 0#32
  ![v116.toNat, 0, 0]
def k0_off26 (i : grid0.Coords) (d2 : Dev nD) (c0_i32_65 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c1_i32_64 : BitVec 32 := 1#32
  let v118 : BitVec 32 := Scalar.addi v4 c1_i32_64
  let v119 : BitVec 32 := Scalar.addi v118 c0_i32_65
  let c8_i32_66 : BitVec 32 := 8#32
  let c0_i32_67 : BitVec 32 := 0#32
  let v120 : BitVec 1 := Scalar.cmpi .eq c8_i32_66 c0_i32_67
  let c1_i32_68 : BitVec 32 := 1#32
  let v121 : BitVec 32 := Scalar.select v120 c1_i32_68 c8_i32_66
  let v122 : BitVec 32 := Scalar.remsi v119 v121
  let c0_i32_70 : BitVec 32 := 0#32
  let v124 : BitVec 1 := Scalar.cmpi .slt v122 c0_i32_70
  let c0_i32_71 : BitVec 32 := 0#32
  let v125 : BitVec 1 := Scalar.cmpi .slt v121 c0_i32_71
  let v126 : BitVec 1 := Scalar.xori v124 v125
  let c0_i32_69 : BitVec 32 := 0#32
  let v123 : BitVec 1 := Scalar.cmpi .ne v122 c0_i32_69
  let v127 : BitVec 1 := Scalar.andi v126 v123
  let v128 : BitVec 32 := Scalar.addi v122 v121
  let v129 : BitVec 32 := Scalar.select v127 v128 v122
  let c1024_i32_72 : BitVec 32 := 1024#32
  let v130 : BitVec 32 := Scalar.muli v129 c1024_i32_72
  let arg1 : BitVec 32 := BitVec.ofNat 32 (i 1).val
  let c1_i32_63 : BitVec 32 := 1#32
  let v117 : BitVec 32 := Scalar.addi arg1 c1_i32_63
  let c1024_i32_73 : BitVec 32 := 1024#32
  let v131 : BitVec 32 := Scalar.muli v117 c1024_i32_73
  ![v130.toNat, v131.toNat]
def k0_off27 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let c1024_i32_86 : BitVec 32 := 1024#32
  let c0_i32_87 : BitVec 32 := 0#32
  ![v116.toNat, 1024, 0]
def k0_cond9 (i : grid0.Coords) : BitVec 1 :=
  let arg1 : BitVec 32 := BitVec.ofNat 32 (i 1).val
  let c0_i32_14 : BitVec 32 := 0#32
  let v32 : BitVec 1 := Scalar.cmpi .eq arg1 c0_i32_14
  let v33 : BitVec 32 := Scalar.extui v32
  let c0_i32_15 : BitVec 32 := 0#32
  let v34 : BitVec 1 := Scalar.cmpi .ne v33 c0_i32_15
  v34

def k0_off28 (d2 : Dev nD) (c0_i32_57 : BitVec 32) : Fin 1 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c1_i32_56 : BitVec 32 := 1#32
  let v106 : BitVec 32 := Scalar.addi v4 c1_i32_56
  let v107 : BitVec 32 := Scalar.addi v106 c0_i32_57
  let c8_i32_58 : BitVec 32 := 8#32
  let c0_i32_59 : BitVec 32 := 0#32
  let v108 : BitVec 1 := Scalar.cmpi .eq c8_i32_58 c0_i32_59
  let c1_i32_60 : BitVec 32 := 1#32
  let v109 : BitVec 32 := Scalar.select v108 c1_i32_60 c8_i32_58
  let v110 : BitVec 32 := Scalar.remsi v107 v109
  let c0_i32_62 : BitVec 32 := 0#32
  let v112 : BitVec 1 := Scalar.cmpi .slt v110 c0_i32_62
  let c0_i32_63 : BitVec 32 := 0#32
  let v113 : BitVec 1 := Scalar.cmpi .slt v109 c0_i32_63
  let v114 : BitVec 1 := Scalar.xori v112 v113
  let c0_i32_61 : BitVec 32 := 0#32
  let v111 : BitVec 1 := Scalar.cmpi .ne v110 c0_i32_61
  let v115 : BitVec 1 := Scalar.andi v114 v111
  let v116 : BitVec 32 := Scalar.addi v110 v109
  let v117 : BitVec 32 := Scalar.select v115 v116 v110
  ![v117.toNat]
def k0_off29 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  ![v44.toNat]
def k0_off30 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c0_i32_41 : BitVec 32 := 0#32
  let c0_i32_42 : BitVec 32 := 0#32
  ![v44.toNat, 0, 0]
def k0_off31 (i : grid0.Coords) (d2 : Dev nD) (c0_i32_23 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c1_i32_22 : BitVec 32 := 1#32
  let v45 : BitVec 32 := Scalar.addi v4 c1_i32_22
  let v46 : BitVec 32 := Scalar.addi v45 c0_i32_23
  let c8_i32_24 : BitVec 32 := 8#32
  let c0_i32_25 : BitVec 32 := 0#32
  let v47 : BitVec 1 := Scalar.cmpi .eq c8_i32_24 c0_i32_25
  let c1_i32_26 : BitVec 32 := 1#32
  let v48 : BitVec 32 := Scalar.select v47 c1_i32_26 c8_i32_24
  let v49 : BitVec 32 := Scalar.remsi v46 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let c1024_i32 : BitVec 32 := 1024#32
  let v57 : BitVec 32 := Scalar.muli v56 c1024_i32
  let arg1 : BitVec 32 := BitVec.ofNat 32 (i 1).val
  let c1024_i32_30 : BitVec 32 := 1024#32
  let v58 : BitVec 32 := Scalar.muli arg1 c1024_i32_30
  ![v57.toNat, v58.toNat]
def k0_off32 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c1024_i32_43 : BitVec 32 := 1024#32
  let c0_i32_44 : BitVec 32 := 0#32
  ![v44.toNat, 1024, 0]
def k0_off33 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_45 : BitVec 32 := 2#32
  let c0_i32_46 : BitVec 32 := 0#32
  let v84 : BitVec 1 := Scalar.cmpi .eq c2_i32_45 c0_i32_46
  let c1_i32_47 : BitVec 32 := 1#32
  let v85 : BitVec 32 := Scalar.select v84 c1_i32_47 c2_i32_45
  let v86 : BitVec 32 := Scalar.remsi v1 v85
  let c0_i32_49 : BitVec 32 := 0#32
  let v88 : BitVec 1 := Scalar.cmpi .slt v86 c0_i32_49
  let c0_i32_50 : BitVec 32 := 0#32
  let v89 : BitVec 1 := Scalar.cmpi .slt v85 c0_i32_50
  let v90 : BitVec 1 := Scalar.xori v88 v89
  let c0_i32_48 : BitVec 32 := 0#32
  let v87 : BitVec 1 := Scalar.cmpi .ne v86 c0_i32_48
  let v91 : BitVec 1 := Scalar.andi v90 v87
  let v92 : BitVec 32 := Scalar.addi v86 v85
  let v93 : BitVec 32 := Scalar.select v91 v92 v86
  let v94 : Index := Scalar.indexCast v93
  let c0_51 : Index := 0#32
  let c0_52 : Index := 0#32
  ![v94.toNat, 0, 0]
def k0_off34 (i : grid0.Coords) : Fin 2 → Nat :=
  let c0_54 : Index := 0#32
  let arg1 : BitVec 32 := BitVec.ofNat 32 (i 1).val
  let c1024_i32_53 : BitVec 32 := 1024#32
  let v99 : BitVec 32 := Scalar.muli arg1 c1024_i32_53
  let v100 : Index := Scalar.indexCast v99
  ![0, v100.toNat]
def k0_cond10 (i : grid0.Coords) : BitVec 1 :=
  let arg0 : BitVec 32 := BitVec.ofNat 32 (i 0).val
  let c2_i32 : BitVec 32 := 2#32
  let v14 : BitVec 1 := Scalar.cmpi .eq arg0 c2_i32
  let v15 : BitVec 32 := Scalar.extui v14
  let c0_i32_5 : BitVec 32 := 0#32
  let v16 : BitVec 1 := Scalar.cmpi .ne v15 c0_i32_5
  v16

def k0_cond11 (i : grid0.Coords) : BitVec 1 :=
  let arg1 : BitVec 32 := BitVec.ofNat 32 (i 1).val
  let c3_i32_10 : BitVec 32 := 3#32
  let v26 : BitVec 1 := Scalar.cmpi .eq arg1 c3_i32_10
  let v27 : BitVec 32 := Scalar.extui v26
  let c0_i32_11 : BitVec 32 := 0#32
  let v28 : BitVec 1 := Scalar.cmpi .ne v27 c0_i32_11
  v28

def k0_off35 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  ![v116.toNat]
def k0_off36 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let c0_i32_80 : BitVec 32 := 0#32
  let c0_i32_81 : BitVec 32 := 0#32
  ![v116.toNat, 0, 0]
def k0_off37 (d2 : Dev nD) (c0_i32_63 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c5_i32 : BitVec 32 := 5#32
  let v117 : BitVec 32 := Scalar.addi v4 c5_i32
  let v118 : BitVec 32 := Scalar.addi v117 c0_i32_63
  let c8_i32_64 : BitVec 32 := 8#32
  let c0_i32_65 : BitVec 32 := 0#32
  let v119 : BitVec 1 := Scalar.cmpi .eq c8_i32_64 c0_i32_65
  let c1_i32_66 : BitVec 32 := 1#32
  let v120 : BitVec 32 := Scalar.select v119 c1_i32_66 c8_i32_64
  let v121 : BitVec 32 := Scalar.remsi v118 v120
  let c0_i32_68 : BitVec 32 := 0#32
  let v123 : BitVec 1 := Scalar.cmpi .slt v121 c0_i32_68
  let c0_i32_69 : BitVec 32 := 0#32
  let v124 : BitVec 1 := Scalar.cmpi .slt v120 c0_i32_69
  let v125 : BitVec 1 := Scalar.xori v123 v124
  let c0_i32_67 : BitVec 32 := 0#32
  let v122 : BitVec 1 := Scalar.cmpi .ne v121 c0_i32_67
  let v126 : BitVec 1 := Scalar.andi v125 v122
  let v127 : BitVec 32 := Scalar.addi v121 v120
  let v128 : BitVec 32 := Scalar.select v126 v127 v121
  let c1024_i32_70 : BitVec 32 := 1024#32
  let v129 : BitVec 32 := Scalar.muli v128 c1024_i32_70
  let c0_i32_82 : BitVec 32 := 0#32
  ![v129.toNat, 0]
def k0_off38 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let c1024_i32_83 : BitVec 32 := 1024#32
  let c0_i32_84 : BitVec 32 := 0#32
  ![v116.toNat, 1024, 0]
def k0_cond12 (i : grid0.Coords) : BitVec 1 :=
  let arg1 : BitVec 32 := BitVec.ofNat 32 (i 1).val
  let c3_i32_12 : BitVec 32 := 3#32
  let v29 : BitVec 1 := Scalar.cmpi .slt arg1 c3_i32_12
  let v30 : BitVec 32 := Scalar.extui v29
  let c0_i32_13 : BitVec 32 := 0#32
  let v31 : BitVec 1 := Scalar.cmpi .ne v30 c0_i32_13
  v31

def k0_off39 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  ![v116.toNat]
def k0_off40 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let c0_i32_84 : BitVec 32 := 0#32
  let c0_i32_85 : BitVec 32 := 0#32
  ![v116.toNat, 0, 0]
def k0_off41 (i : grid0.Coords) (d2 : Dev nD) (c0_i32_65 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c3_i32_64 : BitVec 32 := 3#32
  let v118 : BitVec 32 := Scalar.addi v4 c3_i32_64
  let v119 : BitVec 32 := Scalar.addi v118 c0_i32_65
  let c8_i32_66 : BitVec 32 := 8#32
  let c0_i32_67 : BitVec 32 := 0#32
  let v120 : BitVec 1 := Scalar.cmpi .eq c8_i32_66 c0_i32_67
  let c1_i32_68 : BitVec 32 := 1#32
  let v121 : BitVec 32 := Scalar.select v120 c1_i32_68 c8_i32_66
  let v122 : BitVec 32 := Scalar.remsi v119 v121
  let c0_i32_70 : BitVec 32 := 0#32
  let v124 : BitVec 1 := Scalar.cmpi .slt v122 c0_i32_70
  let c0_i32_71 : BitVec 32 := 0#32
  let v125 : BitVec 1 := Scalar.cmpi .slt v121 c0_i32_71
  let v126 : BitVec 1 := Scalar.xori v124 v125
  let c0_i32_69 : BitVec 32 := 0#32
  let v123 : BitVec 1 := Scalar.cmpi .ne v122 c0_i32_69
  let v127 : BitVec 1 := Scalar.andi v126 v123
  let v128 : BitVec 32 := Scalar.addi v122 v121
  let v129 : BitVec 32 := Scalar.select v127 v128 v122
  let c1024_i32_72 : BitVec 32 := 1024#32
  let v130 : BitVec 32 := Scalar.muli v129 c1024_i32_72
  let arg1 : BitVec 32 := BitVec.ofNat 32 (i 1).val
  let c1_i32_63 : BitVec 32 := 1#32
  let v117 : BitVec 32 := Scalar.addi arg1 c1_i32_63
  let c1024_i32_73 : BitVec 32 := 1024#32
  let v131 : BitVec 32 := Scalar.muli v117 c1024_i32_73
  ![v130.toNat, v131.toNat]
def k0_off42 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_56 : BitVec 32 := 1#32
  let v106 : BitVec 32 := Scalar.addi v1 c1_i32_56
  let c2_i32_57 : BitVec 32 := 2#32
  let c0_i32_58 : BitVec 32 := 0#32
  let v107 : BitVec 1 := Scalar.cmpi .eq c2_i32_57 c0_i32_58
  let c1_i32_59 : BitVec 32 := 1#32
  let v108 : BitVec 32 := Scalar.select v107 c1_i32_59 c2_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let c1024_i32_86 : BitVec 32 := 1024#32
  let c0_i32_87 : BitVec 32 := 0#32
  ![v116.toNat, 1024, 0]
def k0_cond13 (i : grid0.Coords) : BitVec 1 :=
  let arg1 : BitVec 32 := BitVec.ofNat 32 (i 1).val
  let c0_i32_14 : BitVec 32 := 0#32
  let v32 : BitVec 1 := Scalar.cmpi .eq arg1 c0_i32_14
  let v33 : BitVec 32 := Scalar.extui v32
  let c0_i32_15 : BitVec 32 := 0#32
  let v34 : BitVec 1 := Scalar.cmpi .ne v33 c0_i32_15
  v34

def k0_off43 (d2 : Dev nD) (c0_i32_57 : BitVec 32) : Fin 1 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c3_i32_56 : BitVec 32 := 3#32
  let v106 : BitVec 32 := Scalar.addi v4 c3_i32_56
  let v107 : BitVec 32 := Scalar.addi v106 c0_i32_57
  let c8_i32_58 : BitVec 32 := 8#32
  let c0_i32_59 : BitVec 32 := 0#32
  let v108 : BitVec 1 := Scalar.cmpi .eq c8_i32_58 c0_i32_59
  let c1_i32_60 : BitVec 32 := 1#32
  let v109 : BitVec 32 := Scalar.select v108 c1_i32_60 c8_i32_58
  let v110 : BitVec 32 := Scalar.remsi v107 v109
  let c0_i32_62 : BitVec 32 := 0#32
  let v112 : BitVec 1 := Scalar.cmpi .slt v110 c0_i32_62
  let c0_i32_63 : BitVec 32 := 0#32
  let v113 : BitVec 1 := Scalar.cmpi .slt v109 c0_i32_63
  let v114 : BitVec 1 := Scalar.xori v112 v113
  let c0_i32_61 : BitVec 32 := 0#32
  let v111 : BitVec 1 := Scalar.cmpi .ne v110 c0_i32_61
  let v115 : BitVec 1 := Scalar.andi v114 v111
  let v116 : BitVec 32 := Scalar.addi v110 v109
  let v117 : BitVec 32 := Scalar.select v115 v116 v110
  ![v117.toNat]
def k0_off44 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  ![v44.toNat]
def k0_off45 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c0_i32_41 : BitVec 32 := 0#32
  let c0_i32_42 : BitVec 32 := 0#32
  ![v44.toNat, 0, 0]
def k0_off46 (i : grid0.Coords) (d2 : Dev nD) (c0_i32_23 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c3_i32_22 : BitVec 32 := 3#32
  let v45 : BitVec 32 := Scalar.addi v4 c3_i32_22
  let v46 : BitVec 32 := Scalar.addi v45 c0_i32_23
  let c8_i32_24 : BitVec 32 := 8#32
  let c0_i32_25 : BitVec 32 := 0#32
  let v47 : BitVec 1 := Scalar.cmpi .eq c8_i32_24 c0_i32_25
  let c1_i32_26 : BitVec 32 := 1#32
  let v48 : BitVec 32 := Scalar.select v47 c1_i32_26 c8_i32_24
  let v49 : BitVec 32 := Scalar.remsi v46 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let c1024_i32 : BitVec 32 := 1024#32
  let v57 : BitVec 32 := Scalar.muli v56 c1024_i32
  let arg1 : BitVec 32 := BitVec.ofNat 32 (i 1).val
  let c1024_i32_30 : BitVec 32 := 1024#32
  let v58 : BitVec 32 := Scalar.muli arg1 c1024_i32_30
  ![v57.toNat, v58.toNat]
def k0_off47 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c1024_i32_43 : BitVec 32 := 1024#32
  let c0_i32_44 : BitVec 32 := 0#32
  ![v44.toNat, 1024, 0]
def k0_off48 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_45 : BitVec 32 := 2#32
  let c0_i32_46 : BitVec 32 := 0#32
  let v84 : BitVec 1 := Scalar.cmpi .eq c2_i32_45 c0_i32_46
  let c1_i32_47 : BitVec 32 := 1#32
  let v85 : BitVec 32 := Scalar.select v84 c1_i32_47 c2_i32_45
  let v86 : BitVec 32 := Scalar.remsi v1 v85
  let c0_i32_49 : BitVec 32 := 0#32
  let v88 : BitVec 1 := Scalar.cmpi .slt v86 c0_i32_49
  let c0_i32_50 : BitVec 32 := 0#32
  let v89 : BitVec 1 := Scalar.cmpi .slt v85 c0_i32_50
  let v90 : BitVec 1 := Scalar.xori v88 v89
  let c0_i32_48 : BitVec 32 := 0#32
  let v87 : BitVec 1 := Scalar.cmpi .ne v86 c0_i32_48
  let v91 : BitVec 1 := Scalar.andi v90 v87
  let v92 : BitVec 32 := Scalar.addi v86 v85
  let v93 : BitVec 32 := Scalar.select v91 v92 v86
  let v94 : Index := Scalar.indexCast v93
  let c0_51 : Index := 0#32
  let c0_52 : Index := 0#32
  ![v94.toNat, 0, 0]
def k0_off49 (i : grid0.Coords) : Fin 2 → Nat :=
  let c0_54 : Index := 0#32
  let arg1 : BitVec 32 := BitVec.ofNat 32 (i 1).val
  let c1024_i32_53 : BitVec 32 := 1024#32
  let v99 : BitVec 32 := Scalar.muli arg1 c1024_i32_53
  let v100 : Index := Scalar.indexCast v99
  ![0, v100.toNat]
def k0_cond14 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_6 : BitVec 32 := 0#32
  let v19 : BitVec 1 := Scalar.cmpi .ne v18 c0_i32_6
  v19

def k0_cond15 (i : grid0.Coords) : BitVec 1 :=
  let arg1 : BitVec 32 := BitVec.ofNat 32 (i 1).val
  let c3_i32_10 : BitVec 32 := 3#32
  let v26 : BitVec 1 := Scalar.cmpi .eq arg1 c3_i32_10
  let v27 : BitVec 32 := Scalar.extui v26
  let c0_i32_11 : BitVec 32 := 0#32
  let v28 : BitVec 1 := Scalar.cmpi .ne v27 c0_i32_11
  v28

def k0_off50 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_55 : BitVec 32 := 1#32
  let v106 : BitVec 32 := Scalar.addi v1 c1_i32_55
  let c2_i32_56 : BitVec 32 := 2#32
  let c0_i32_57 : BitVec 32 := 0#32
  let v107 : BitVec 1 := Scalar.cmpi .eq c2_i32_56 c0_i32_57
  let c1_i32_58 : BitVec 32 := 1#32
  let v108 : BitVec 32 := Scalar.select v107 c1_i32_58 c2_i32_56
  let v109 : BitVec 32 := Scalar.remsi v106 v108
  let c0_i32_60 : BitVec 32 := 0#32
  let v111 : BitVec 1 := Scalar.cmpi .slt v109 c0_i32_60
  let c0_i32_61 : BitVec 32 := 0#32
  let v112 : BitVec 1 := Scalar.cmpi .slt v108 c0_i32_61
  let v113 : BitVec 1 := Scalar.xori v111 v112
  let c0_i32_59 : BitVec 32 := 0#32
  let v110 : BitVec 1 := Scalar.cmpi .ne v109 c0_i32_59
  let v114 : BitVec 1 := Scalar.andi v113 v110
  let v115 : BitVec 32 := Scalar.addi v109 v108
  let v116 : BitVec 32 := Scalar.select v114 v115 v109
  ![v116.toNat]
def k0_off51 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_55 : BitVec 32 := 1#32
  let v106 : BitVec 32 := Scalar.addi v1 c1_i32_55
  let c2_i32_56 : BitVec 32 := 2#32
  let c0_i32_57 : BitVec 32 := 0#32
  let v107 : BitVec 1 := Scalar.cmpi .eq c2_i32_56 c0_i32_57
  let c1_i32_58 : BitVec 32 := 1#32
  let v108 : BitVec 32 := Scalar.select v107 c1_i32_58 c2_i32_56
  let v109 : BitVec 32 := Scalar.remsi v106 v108
  let c0_i32_60 : BitVec 32 := 0#32
  let v111 : BitVec 1 := Scalar.cmpi .slt v109 c0_i32_60
  let c0_i32_61 : BitVec 32 := 0#32
  let v112 : BitVec 1 := Scalar.cmpi .slt v108 c0_i32_61
  let v113 : BitVec 1 := Scalar.xori v111 v112
  let c0_i32_59 : BitVec 32 := 0#32
  let v110 : BitVec 1 := Scalar.cmpi .ne v109 c0_i32_59
  let v114 : BitVec 1 := Scalar.andi v113 v110
  let v115 : BitVec 32 := Scalar.addi v109 v108
  let v116 : BitVec 32 := Scalar.select v114 v115 v109
  let c0_i32_70 : BitVec 32 := 0#32
  let c0_i32_71 : BitVec 32 := 0#32
  ![v116.toNat, 0, 0]
def k0_off52 (d2 : Dev nD) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c7_i32 : BitVec 32 := 7#32
  let v117 : BitVec 32 := Scalar.addi v4 c7_i32
  let c0_i32_62 : BitVec 32 := 0#32
  let v118 : BitVec 32 := Scalar.addi v117 c0_i32_62
  let c8_i32_63 : BitVec 32 := 8#32
  let c0_i32_64 : BitVec 32 := 0#32
  let v119 : BitVec 1 := Scalar.cmpi .eq c8_i32_63 c0_i32_64
  let c1_i32_65 : BitVec 32 := 1#32
  let v120 : BitVec 32 := Scalar.select v119 c1_i32_65 c8_i32_63
  let v121 : BitVec 32 := Scalar.remsi v118 v120
  let c0_i32_67 : BitVec 32 := 0#32
  let v123 : BitVec 1 := Scalar.cmpi .slt v121 c0_i32_67
  let c0_i32_68 : BitVec 32 := 0#32
  let v124 : BitVec 1 := Scalar.cmpi .slt v120 c0_i32_68
  let v125 : BitVec 1 := Scalar.xori v123 v124
  let c0_i32_66 : BitVec 32 := 0#32
  let v122 : BitVec 1 := Scalar.cmpi .ne v121 c0_i32_66
  let v126 : BitVec 1 := Scalar.andi v125 v122
  let v127 : BitVec 32 := Scalar.addi v121 v120
  let v128 : BitVec 32 := Scalar.select v126 v127 v121
  let c1024_i32_69 : BitVec 32 := 1024#32
  let v129 : BitVec 32 := Scalar.muli v128 c1024_i32_69
  let c0_i32_72 : BitVec 32 := 0#32
  ![v129.toNat, 0]
def k0_cond16 (i : grid0.Coords) : BitVec 1 :=
  let arg1 : BitVec 32 := BitVec.ofNat 32 (i 1).val
  let c3_i32_12 : BitVec 32 := 3#32
  let v29 : BitVec 1 := Scalar.cmpi .slt arg1 c3_i32_12
  let v30 : BitVec 32 := Scalar.extui v29
  let c0_i32_13 : BitVec 32 := 0#32
  let v31 : BitVec 1 := Scalar.cmpi .ne v30 c0_i32_13
  v31

def k0_off53 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_55 : BitVec 32 := 1#32
  let v106 : BitVec 32 := Scalar.addi v1 c1_i32_55
  let c2_i32_56 : BitVec 32 := 2#32
  let c0_i32_57 : BitVec 32 := 0#32
  let v107 : BitVec 1 := Scalar.cmpi .eq c2_i32_56 c0_i32_57
  let c1_i32_58 : BitVec 32 := 1#32
  let v108 : BitVec 32 := Scalar.select v107 c1_i32_58 c2_i32_56
  let v109 : BitVec 32 := Scalar.remsi v106 v108
  let c0_i32_60 : BitVec 32 := 0#32
  let v111 : BitVec 1 := Scalar.cmpi .slt v109 c0_i32_60
  let c0_i32_61 : BitVec 32 := 0#32
  let v112 : BitVec 1 := Scalar.cmpi .slt v108 c0_i32_61
  let v113 : BitVec 1 := Scalar.xori v111 v112
  let c0_i32_59 : BitVec 32 := 0#32
  let v110 : BitVec 1 := Scalar.cmpi .ne v109 c0_i32_59
  let v114 : BitVec 1 := Scalar.andi v113 v110
  let v115 : BitVec 32 := Scalar.addi v109 v108
  let v116 : BitVec 32 := Scalar.select v114 v115 v109
  ![v116.toNat]
def k0_off54 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_55 : BitVec 32 := 1#32
  let v106 : BitVec 32 := Scalar.addi v1 c1_i32_55
  let c2_i32_56 : BitVec 32 := 2#32
  let c0_i32_57 : BitVec 32 := 0#32
  let v107 : BitVec 1 := Scalar.cmpi .eq c2_i32_56 c0_i32_57
  let c1_i32_58 : BitVec 32 := 1#32
  let v108 : BitVec 32 := Scalar.select v107 c1_i32_58 c2_i32_56
  let v109 : BitVec 32 := Scalar.remsi v106 v108
  let c0_i32_60 : BitVec 32 := 0#32
  let v111 : BitVec 1 := Scalar.cmpi .slt v109 c0_i32_60
  let c0_i32_61 : BitVec 32 := 0#32
  let v112 : BitVec 1 := Scalar.cmpi .slt v108 c0_i32_61
  let v113 : BitVec 1 := Scalar.xori v111 v112
  let c0_i32_59 : BitVec 32 := 0#32
  let v110 : BitVec 1 := Scalar.cmpi .ne v109 c0_i32_59
  let v114 : BitVec 1 := Scalar.andi v113 v110
  let v115 : BitVec 32 := Scalar.addi v109 v108
  let v116 : BitVec 32 := Scalar.select v114 v115 v109
  let c0_i32_83 : BitVec 32 := 0#32
  let c0_i32_84 : BitVec 32 := 0#32
  ![v116.toNat, 0, 0]
def k0_off55 (i : grid0.Coords) (d2 : Dev nD) (c0_i32_64 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c5_i32_63 : BitVec 32 := 5#32
  let v118 : BitVec 32 := Scalar.addi v4 c5_i32_63
  let v119 : BitVec 32 := Scalar.addi v118 c0_i32_64
  let c8_i32_65 : BitVec 32 := 8#32
  let c0_i32_66 : BitVec 32 := 0#32
  let v120 : BitVec 1 := Scalar.cmpi .eq c8_i32_65 c0_i32_66
  let c1_i32_67 : BitVec 32 := 1#32
  let v121 : BitVec 32 := Scalar.select v120 c1_i32_67 c8_i32_65
  let v122 : BitVec 32 := Scalar.remsi v119 v121
  let c0_i32_69 : BitVec 32 := 0#32
  let v124 : BitVec 1 := Scalar.cmpi .slt v122 c0_i32_69
  let c0_i32_70 : BitVec 32 := 0#32
  let v125 : BitVec 1 := Scalar.cmpi .slt v121 c0_i32_70
  let v126 : BitVec 1 := Scalar.xori v124 v125
  let c0_i32_68 : BitVec 32 := 0#32
  let v123 : BitVec 1 := Scalar.cmpi .ne v122 c0_i32_68
  let v127 : BitVec 1 := Scalar.andi v126 v123
  let v128 : BitVec 32 := Scalar.addi v122 v121
  let v129 : BitVec 32 := Scalar.select v127 v128 v122
  let c1024_i32_71 : BitVec 32 := 1024#32
  let v130 : BitVec 32 := Scalar.muli v129 c1024_i32_71
  let arg1 : BitVec 32 := BitVec.ofNat 32 (i 1).val
  let c1_i32_62 : BitVec 32 := 1#32
  let v117 : BitVec 32 := Scalar.addi arg1 c1_i32_62
  let c1024_i32_72 : BitVec 32 := 1024#32
  let v131 : BitVec 32 := Scalar.muli v117 c1024_i32_72
  ![v130.toNat, v131.toNat]
def k0_off56 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_55 : BitVec 32 := 1#32
  let v106 : BitVec 32 := Scalar.addi v1 c1_i32_55
  let c2_i32_56 : BitVec 32 := 2#32
  let c0_i32_57 : BitVec 32 := 0#32
  let v107 : BitVec 1 := Scalar.cmpi .eq c2_i32_56 c0_i32_57
  let c1_i32_58 : BitVec 32 := 1#32
  let v108 : BitVec 32 := Scalar.select v107 c1_i32_58 c2_i32_56
  let v109 : BitVec 32 := Scalar.remsi v106 v108
  let c0_i32_60 : BitVec 32 := 0#32
  let v111 : BitVec 1 := Scalar.cmpi .slt v109 c0_i32_60
  let c0_i32_61 : BitVec 32 := 0#32
  let v112 : BitVec 1 := Scalar.cmpi .slt v108 c0_i32_61
  let v113 : BitVec 1 := Scalar.xori v111 v112
  let c0_i32_59 : BitVec 32 := 0#32
  let v110 : BitVec 1 := Scalar.cmpi .ne v109 c0_i32_59
  let v114 : BitVec 1 := Scalar.andi v113 v110
  let v115 : BitVec 32 := Scalar.addi v109 v108
  let v116 : BitVec 32 := Scalar.select v114 v115 v109
  let c1024_i32_85 : BitVec 32 := 1024#32
  let c0_i32_86 : BitVec 32 := 0#32
  ![v116.toNat, 1024, 0]
def k0_cond17 (i : grid0.Coords) : BitVec 1 :=
  let arg1 : BitVec 32 := BitVec.ofNat 32 (i 1).val
  let c0_i32_14 : BitVec 32 := 0#32
  let v32 : BitVec 1 := Scalar.cmpi .eq arg1 c0_i32_14
  let v33 : BitVec 32 := Scalar.extui v32
  let c0_i32_15 : BitVec 32 := 0#32
  let v34 : BitVec 1 := Scalar.cmpi .ne v33 c0_i32_15
  v34

def k0_off57 (d2 : Dev nD) (c0_i32_56 : BitVec 32) : Fin 1 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c5_i32_55 : BitVec 32 := 5#32
  let v106 : BitVec 32 := Scalar.addi v4 c5_i32_55
  let v107 : BitVec 32 := Scalar.addi v106 c0_i32_56
  let c8_i32_57 : BitVec 32 := 8#32
  let c0_i32_58 : BitVec 32 := 0#32
  let v108 : BitVec 1 := Scalar.cmpi .eq c8_i32_57 c0_i32_58
  let c1_i32_59 : BitVec 32 := 1#32
  let v109 : BitVec 32 := Scalar.select v108 c1_i32_59 c8_i32_57
  let v110 : BitVec 32 := Scalar.remsi v107 v109
  let c0_i32_61 : BitVec 32 := 0#32
  let v112 : BitVec 1 := Scalar.cmpi .slt v110 c0_i32_61
  let c0_i32_62 : BitVec 32 := 0#32
  let v113 : BitVec 1 := Scalar.cmpi .slt v109 c0_i32_62
  let v114 : BitVec 1 := Scalar.xori v112 v113
  let c0_i32_60 : BitVec 32 := 0#32
  let v111 : BitVec 1 := Scalar.cmpi .ne v110 c0_i32_60
  let v115 : BitVec 1 := Scalar.andi v114 v111
  let v116 : BitVec 32 := Scalar.addi v110 v109
  let v117 : BitVec 32 := Scalar.select v115 v116 v110
  ![v117.toNat]
def k0_off58 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  ![v44.toNat]
def k0_off59 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c0_i32_40 : BitVec 32 := 0#32
  let c0_i32_41 : BitVec 32 := 0#32
  ![v44.toNat, 0, 0]
def k0_off60 (i : grid0.Coords) (d2 : Dev nD) (c0_i32_22 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c5_i32 : BitVec 32 := 5#32
  let v45 : BitVec 32 := Scalar.addi v4 c5_i32
  let v46 : BitVec 32 := Scalar.addi v45 c0_i32_22
  let c8_i32_23 : BitVec 32 := 8#32
  let c0_i32_24 : BitVec 32 := 0#32
  let v47 : BitVec 1 := Scalar.cmpi .eq c8_i32_23 c0_i32_24
  let c1_i32_25 : BitVec 32 := 1#32
  let v48 : BitVec 32 := Scalar.select v47 c1_i32_25 c8_i32_23
  let v49 : BitVec 32 := Scalar.remsi v46 v48
  let c0_i32_27 : BitVec 32 := 0#32
  let v51 : BitVec 1 := Scalar.cmpi .slt v49 c0_i32_27
  let c0_i32_28 : BitVec 32 := 0#32
  let v52 : BitVec 1 := Scalar.cmpi .slt v48 c0_i32_28
  let v53 : BitVec 1 := Scalar.xori v51 v52
  let c0_i32_26 : BitVec 32 := 0#32
  let v50 : BitVec 1 := Scalar.cmpi .ne v49 c0_i32_26
  let v54 : BitVec 1 := Scalar.andi v53 v50
  let v55 : BitVec 32 := Scalar.addi v49 v48
  let v56 : BitVec 32 := Scalar.select v54 v55 v49
  let c1024_i32 : BitVec 32 := 1024#32
  let v57 : BitVec 32 := Scalar.muli v56 c1024_i32
  let arg1 : BitVec 32 := BitVec.ofNat 32 (i 1).val
  let c1024_i32_29 : BitVec 32 := 1024#32
  let v58 : BitVec 32 := Scalar.muli arg1 c1024_i32_29
  ![v57.toNat, v58.toNat]
def k0_off61 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v1 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c1024_i32_42 : BitVec 32 := 1024#32
  let c0_i32_43 : BitVec 32 := 0#32
  ![v44.toNat, 1024, 0]
def k0_off62 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_44 : BitVec 32 := 2#32
  let c0_i32_45 : BitVec 32 := 0#32
  let v84 : BitVec 1 := Scalar.cmpi .eq c2_i32_44 c0_i32_45
  let c1_i32_46 : BitVec 32 := 1#32
  let v85 : BitVec 32 := Scalar.select v84 c1_i32_46 c2_i32_44
  let v86 : BitVec 32 := Scalar.remsi v1 v85
  let c0_i32_48 : BitVec 32 := 0#32
  let v88 : BitVec 1 := Scalar.cmpi .slt v86 c0_i32_48
  let c0_i32_49 : BitVec 32 := 0#32
  let v89 : BitVec 1 := Scalar.cmpi .slt v85 c0_i32_49
  let v90 : BitVec 1 := Scalar.xori v88 v89
  let c0_i32_47 : BitVec 32 := 0#32
  let v87 : BitVec 1 := Scalar.cmpi .ne v86 c0_i32_47
  let v91 : BitVec 1 := Scalar.andi v90 v87
  let v92 : BitVec 32 := Scalar.addi v86 v85
  let v93 : BitVec 32 := Scalar.select v91 v92 v86
  let v94 : Index := Scalar.indexCast v93
  let c0_50 : Index := 0#32
  let c0_51 : Index := 0#32
  ![v94.toNat, 0, 0]
def k0_off63 (i : grid0.Coords) : Fin 2 → Nat :=
  let c0_53 : Index := 0#32
  let arg1 : BitVec 32 := BitVec.ofNat 32 (i 1).val
  let c1024_i32_52 : BitVec 32 := 1024#32
  let v99 : BitVec 32 := Scalar.muli arg1 c1024_i32_52
  let v100 : Index := Scalar.indexCast v99
  ![0, v100.toNat]
def k0_cond18 (i : grid0.Coords) : BitVec 1 :=
  let arg0 : BitVec 32 := BitVec.ofNat 32 (i 0).val
  let c4_i32_7 : BitVec 32 := 4#32
  let v20 : BitVec 1 := Scalar.cmpi .eq arg0 c4_i32_7
  let v21 : BitVec 32 := Scalar.extui v20
  let c0_i32_8 : BitVec 32 := 0#32
  let v22 : BitVec 1 := Scalar.cmpi .ne v21 c0_i32_8
  v22

def k0_cond19 (i : grid0.Coords) : BitVec 1 :=
  let arg1 : BitVec 32 := BitVec.ofNat 32 (i 1).val
  let c3_i32_10 : BitVec 32 := 3#32
  let v26 : BitVec 1 := Scalar.cmpi .slt arg1 c3_i32_10
  let v27 : BitVec 32 := Scalar.extui v26
  let c0_i32_11 : BitVec 32 := 0#32
  let v28 : BitVec 1 := Scalar.cmpi .ne v27 c0_i32_11
  v28

def k0_off64 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_41 : BitVec 32 := 1#32
  let v84 : BitVec 32 := Scalar.addi v1 c1_i32_41
  let c2_i32_42 : BitVec 32 := 2#32
  let c0_i32_43 : BitVec 32 := 0#32
  let v85 : BitVec 1 := Scalar.cmpi .eq c2_i32_42 c0_i32_43
  let c1_i32_44 : BitVec 32 := 1#32
  let v86 : BitVec 32 := Scalar.select v85 c1_i32_44 c2_i32_42
  let v87 : BitVec 32 := Scalar.remsi v84 v86
  let c0_i32_46 : BitVec 32 := 0#32
  let v89 : BitVec 1 := Scalar.cmpi .slt v87 c0_i32_46
  let c0_i32_47 : BitVec 32 := 0#32
  let v90 : BitVec 1 := Scalar.cmpi .slt v86 c0_i32_47
  let v91 : BitVec 1 := Scalar.xori v89 v90
  let c0_i32_45 : BitVec 32 := 0#32
  let v88 : BitVec 1 := Scalar.cmpi .ne v87 c0_i32_45
  let v92 : BitVec 1 := Scalar.andi v91 v88
  let v93 : BitVec 32 := Scalar.addi v87 v86
  let v94 : BitVec 32 := Scalar.select v92 v93 v87
  ![v94.toNat]
def k0_off65 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_41 : BitVec 32 := 1#32
  let v84 : BitVec 32 := Scalar.addi v1 c1_i32_41
  let c2_i32_42 : BitVec 32 := 2#32
  let c0_i32_43 : BitVec 32 := 0#32
  let v85 : BitVec 1 := Scalar.cmpi .eq c2_i32_42 c0_i32_43
  let c1_i32_44 : BitVec 32 := 1#32
  let v86 : BitVec 32 := Scalar.select v85 c1_i32_44 c2_i32_42
  let v87 : BitVec 32 := Scalar.remsi v84 v86
  let c0_i32_46 : BitVec 32 := 0#32
  let v89 : BitVec 1 := Scalar.cmpi .slt v87 c0_i32_46
  let c0_i32_47 : BitVec 32 := 0#32
  let v90 : BitVec 1 := Scalar.cmpi .slt v86 c0_i32_47
  let v91 : BitVec 1 := Scalar.xori v89 v90
  let c0_i32_45 : BitVec 32 := 0#32
  let v88 : BitVec 1 := Scalar.cmpi .ne v87 c0_i32_45
  let v92 : BitVec 1 := Scalar.andi v91 v88
  let v93 : BitVec 32 := Scalar.addi v87 v86
  let v94 : BitVec 32 := Scalar.select v92 v93 v87
  let c0_i32_59 : BitVec 32 := 0#32
  let c0_i32_60 : BitVec 32 := 0#32
  ![v94.toNat, 0, 0]
def k0_off66 (i : grid0.Coords) (d2 : Dev nD) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c7_i32_49 : BitVec 32 := 7#32
  let v96 : BitVec 32 := Scalar.addi v4 c7_i32_49
  let c0_i32_50 : BitVec 32 := 0#32
  let v97 : BitVec 32 := Scalar.addi v96 c0_i32_50
  let c8_i32_51 : BitVec 32 := 8#32
  let c0_i32_52 : BitVec 32 := 0#32
  let v98 : BitVec 1 := Scalar.cmpi .eq c8_i32_51 c0_i32_52
  let c1_i32_53 : BitVec 32 := 1#32
  let v99 : BitVec 32 := Scalar.select v98 c1_i32_53 c8_i32_51
  let v100 : BitVec 32 := Scalar.remsi v97 v99
  let c0_i32_55 : BitVec 32 := 0#32
  let v102 : BitVec 1 := Scalar.cmpi .slt v100 c0_i32_55
  let c0_i32_56 : BitVec 32 := 0#32
  let v103 : BitVec 1 := Scalar.cmpi .slt v99 c0_i32_56
  let v104 : BitVec 1 := Scalar.xori v102 v103
  let c0_i32_54 : BitVec 32 := 0#32
  let v101 : BitVec 1 := Scalar.cmpi .ne v100 c0_i32_54
  let v105 : BitVec 1 := Scalar.andi v104 v101
  let v106 : BitVec 32 := Scalar.addi v100 v99
  let v107 : BitVec 32 := Scalar.select v105 v106 v100
  let c1024_i32_57 : BitVec 32 := 1024#32
  let v108 : BitVec 32 := Scalar.muli v107 c1024_i32_57
  let arg1 : BitVec 32 := BitVec.ofNat 32 (i 1).val
  let c1_i32_48 : BitVec 32 := 1#32
  let v95 : BitVec 32 := Scalar.addi arg1 c1_i32_48
  let c1024_i32_58 : BitVec 32 := 1024#32
  let v109 : BitVec 32 := Scalar.muli v95 c1024_i32_58
  ![v108.toNat, v109.toNat]
def k0_cond20 (i : grid0.Coords) : BitVec 1 :=
  let arg1 : BitVec 32 := BitVec.ofNat 32 (i 1).val
  let c0_i32_12 : BitVec 32 := 0#32
  let v29 : BitVec 1 := Scalar.cmpi .eq arg1 c0_i32_12
  let v30 : BitVec 32 := Scalar.extui v29
  let c0_i32_13 : BitVec 32 := 0#32
  let v31 : BitVec 1 := Scalar.cmpi .ne v30 c0_i32_13
  v31

def k0_off67 (d2 : Dev nD) : Fin 1 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c7_i32_41 : BitVec 32 := 7#32
  let v84 : BitVec 32 := Scalar.addi v4 c7_i32_41
  let c0_i32_42 : BitVec 32 := 0#32
  let v85 : BitVec 32 := Scalar.addi v84 c0_i32_42
  let c8_i32_43 : BitVec 32 := 8#32
  let c0_i32_44 : BitVec 32 := 0#32
  let v86 : BitVec 1 := Scalar.cmpi .eq c8_i32_43 c0_i32_44
  let c1_i32_45 : BitVec 32 := 1#32
  let v87 : BitVec 32 := Scalar.select v86 c1_i32_45 c8_i32_43
  let v88 : BitVec 32 := Scalar.remsi v85 v87
  let c0_i32_47 : BitVec 32 := 0#32
  let v90 : BitVec 1 := Scalar.cmpi .slt v88 c0_i32_47
  let c0_i32_48 : BitVec 32 := 0#32
  let v91 : BitVec 1 := Scalar.cmpi .slt v87 c0_i32_48
  let v92 : BitVec 1 := Scalar.xori v90 v91
  let c0_i32_46 : BitVec 32 := 0#32
  let v89 : BitVec 1 := Scalar.cmpi .ne v88 c0_i32_46
  let v93 : BitVec 1 := Scalar.andi v92 v89
  let v94 : BitVec 32 := Scalar.addi v88 v87
  let v95 : BitVec 32 := Scalar.select v93 v94 v88
  ![v95.toNat]
def k0_off68 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v1 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  ![v41.toNat]
def k0_off69 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v1 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let c0_i32_28 : BitVec 32 := 0#32
  let c0_i32_29 : BitVec 32 := 0#32
  ![v41.toNat, 0, 0]
def k0_off70 (i : grid0.Coords) (d2 : Dev nD) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let c7_i32 : BitVec 32 := 7#32
  let v42 : BitVec 32 := Scalar.addi v4 c7_i32
  let c0_i32_20 : BitVec 32 := 0#32
  let v43 : BitVec 32 := Scalar.addi v42 c0_i32_20
  let c8_i32_21 : BitVec 32 := 8#32
  let c0_i32_22 : BitVec 32 := 0#32
  let v44 : BitVec 1 := Scalar.cmpi .eq c8_i32_21 c0_i32_22
  let c1_i32_23 : BitVec 32 := 1#32
  let v45 : BitVec 32 := Scalar.select v44 c1_i32_23 c8_i32_21
  let v46 : BitVec 32 := Scalar.remsi v43 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c1024_i32 : BitVec 32 := 1024#32
  let v54 : BitVec 32 := Scalar.muli v53 c1024_i32
  let arg1 : BitVec 32 := BitVec.ofNat 32 (i 1).val
  let c1024_i32_27 : BitVec 32 := 1024#32
  let v55 : BitVec 32 := Scalar.muli arg1 c1024_i32_27
  ![v54.toNat, v55.toNat]
def k0_off71 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_30 : BitVec 32 := 2#32
  let c0_i32_31 : BitVec 32 := 0#32
  let v62 : BitVec 1 := Scalar.cmpi .eq c2_i32_30 c0_i32_31
  let c1_i32_32 : BitVec 32 := 1#32
  let v63 : BitVec 32 := Scalar.select v62 c1_i32_32 c2_i32_30
  let v64 : BitVec 32 := Scalar.remsi v1 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let v72 : Index := Scalar.indexCast v71
  let c0_36 : Index := 0#32
  let c0_37 : Index := 0#32
  ![v72.toNat, 0, 0]
def k0_off72 (i : grid0.Coords) : Fin 2 → Nat :=
  let c0_39 : Index := 0#32
  let arg1 : BitVec 32 := BitVec.ofNat 32 (i 1).val
  let c1024_i32_38 : BitVec 32 := 1024#32
  let v77 : BitVec 32 := Scalar.muli arg1 c1024_i32_38
  let v78 : Index := Scalar.indexCast v77
  ![0, v78.toNat]
def k0_cond21 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c19_i32 : BitVec 32 := 19#32
  let v23 : BitVec 1 := Scalar.cmpi .eq v1 c19_i32
  let v24 : BitVec 32 := Scalar.extui v23
  let c0_i32_9 : BitVec 32 := 0#32
  let v25 : BitVec 1 := Scalar.cmpi .ne v24 c0_i32_9
  v25

def k0_off73 (d2 : Dev nD) (c1_i32_10 : BitVec 32) : Fin 1 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let v26 : BitVec 32 := Scalar.addi v4 c1_i32_10
  let c8_i32_11 : BitVec 32 := 8#32
  let c0_i32_12 : BitVec 32 := 0#32
  let v27 : BitVec 1 := Scalar.cmpi .eq c8_i32_11 c0_i32_12
  let c1_i32_13 : BitVec 32 := 1#32
  let v28 : BitVec 32 := Scalar.select v27 c1_i32_13 c8_i32_11
  let v29 : BitVec 32 := Scalar.remsi v26 v28
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let c0_i32_14 : BitVec 32 := 0#32
  let v30 : BitVec 1 := Scalar.cmpi .ne v29 c0_i32_14
  let v34 : BitVec 1 := Scalar.andi v33 v30
  let v35 : BitVec 32 := Scalar.addi v29 v28
  let v36 : BitVec 32 := Scalar.select v34 v35 v29
  ![v36.toNat]
def k0_off74 (d2 : Dev nD) (c1_i32_10 : BitVec 32) : Fin 2 → Nat :=
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let v26 : BitVec 32 := Scalar.addi v4 c1_i32_10
  let c8_i32_11 : BitVec 32 := 8#32
  let c0_i32_12 : BitVec 32 := 0#32
  let v27 : BitVec 1 := Scalar.cmpi .eq c8_i32_11 c0_i32_12
  let c1_i32_13 : BitVec 32 := 1#32
  let v28 : BitVec 32 := Scalar.select v27 c1_i32_13 c8_i32_11
  let v29 : BitVec 32 := Scalar.remsi v26 v28
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let c0_i32_14 : BitVec 32 := 0#32
  let v30 : BitVec 1 := Scalar.cmpi .ne v29 c0_i32_14
  let v34 : BitVec 1 := Scalar.andi v33 v30
  let v35 : BitVec 32 := Scalar.addi v29 v28
  let v36 : BitVec 32 := Scalar.select v34 v35 v29
  let c1024_i32 : BitVec 32 := 1024#32
  let v48 : BitVec 32 := Scalar.muli v36 c1024_i32
  let c0_i32_25 : BitVec 32 := 0#32
  ![v48.toNat, 0]
def k0_off75 (d2 : Dev nD) (c1_i32_10 : BitVec 32) : Fin 2 → Nat :=
  let c0_i32_26 : BitVec 32 := 0#32
  let v2 : BitVec 32 := Dev.word d2
  let c1_i32 : BitVec 32 := 1#32
  let v3 : BitVec 32 := Scalar.divsi v2 c1_i32
  let c8_i32 : BitVec 32 := 8#32
  let v4 : BitVec 32 := Scalar.remsi v3 c8_i32
  let v26 : BitVec 32 := Scalar.addi v4 c1_i32_10
  let c8_i32_11 : BitVec 32 := 8#32
  let c0_i32_12 : BitVec 32 := 0#32
  let v27 : BitVec 1 := Scalar.cmpi .eq c8_i32_11 c0_i32_12
  let c1_i32_13 : BitVec 32 := 1#32
  let v28 : BitVec 32 := Scalar.select v27 c1_i32_13 c8_i32_11
  let v29 : BitVec 32 := Scalar.remsi v26 v28
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let c0_i32_14 : BitVec 32 := 0#32
  let v30 : BitVec 1 := Scalar.cmpi .ne v29 c0_i32_14
  let v34 : BitVec 1 := Scalar.andi v33 v30
  let v35 : BitVec 32 := Scalar.addi v29 v28
  let v36 : BitVec 32 := Scalar.select v34 v35 v29
  let v37 : BitVec 32 := Scalar.subi v4 v36
  let c8_i32_17 : BitVec 32 := 8#32
  let c0_i32_18 : BitVec 32 := 0#32
  let v38 : BitVec 1 := Scalar.cmpi .eq c8_i32_17 c0_i32_18
  let c1_i32_19 : BitVec 32 := 1#32
  let v39 : BitVec 32 := Scalar.select v38 c1_i32_19 c8_i32_17
  let v40 : BitVec 32 := Scalar.remsi v37 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let c1024_i32_23 : BitVec 32 := 1024#32
  let v49 : BitVec 32 := Scalar.muli v47 c1024_i32_23
  ![0, v49.toNat]
def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x8192, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Offsets.lean ====
/- The kernel's address words in closed form: which device each signal and transfer names, where each slice starts, and
   at which grid points each branch runs. -/
module

public import proofs.«01_k».proof.Proof.Gen.KernelIdeal

@[expose] public section

namespace Cert.KernelIdeal.Gather

open Idealize.ShloMosaic Cert.KernelIdeal Cert.KernelIdeal.Gen

/-- The device `k` steps after `c` on the ring of eight. -/
def nx (c : Dev nD) (k : ℕ) : Dev nD := ⟨(c.val + k) % 8, Nat.mod_lt _ (by decide)⟩

theorem nx_val (c : Dev nD) (k : ℕ) : (nx c k).val = (c.val + k) % 8 := rfl
theorem nx_lt (c : Dev nD) (k : ℕ) : (nx c k).val < 8 := (nx c k).isLt
theorem nx_zero (c : Dev nD) : nx c 0 = c := Fin.ext (Nat.mod_eq_of_lt c.isLt)
theorem nx_nx (c : Dev nD) (j k : ℕ) : nx (nx c j) k = nx c (j + k) := by
  apply Fin.ext; simp only [nx_val]; omega
theorem nx_add_eight (c : Dev nD) (k : ℕ) : nx c (k + 8) = nx c k := by
  apply Fin.ext; simp only [nx_val]; omega

/-! ## The devices named -/

theorem dev1_eq : ∀ d : Dev nD, k0_dev1 d = (nx d 1).val := by decide +kernel
theorem dev2_eq : ∀ d : Dev nD, k0_dev2 d = (nx d 2).val := by decide +kernel
theorem dev3_eq : ∀ d : Dev nD, k0_dev3 d = (nx d 3).val := by decide +kernel
theorem dev4_eq : ∀ d : Dev nD, k0_dev4 d = (nx d 4).val := by decide +kernel
theorem dev5_eq : ∀ d : Dev nD, k0_dev5 d = (nx d 5).val := by decide +kernel
theorem dev6_eq : ∀ d : Dev nD, k0_dev6 d = (nx d 6).val := by decide +kernel
theorem dev7_eq : ∀ d : Dev nD, k0_dev7 d = (nx d 7).val := by decide +kernel
theorem dev8_eq : ∀ d : Dev nD, k0_dev8 d = (nx d 7).val := by decide +kernel
theorem dev9_eq : ∀ d : Dev nD, k0_dev9 d = (nx d 6).val := by decide +kernel
theorem dev10_eq : ∀ d : Dev nD, k0_dev10 d = (nx d 5).val := by decide +kernel
theorem dev11_eq : ∀ d : Dev nD, k0_dev11 d = (nx d 4).val := by decide +kernel
theorem dev12_eq : ∀ d : Dev nD, k0_dev12 d = (nx d 3).val := by decide +kernel
theorem dev13_eq : ∀ d : Dev nD, k0_dev13 d = (nx d 2).val := by decide +kernel
theorem dev14_eq : ∀ d : Dev nD, k0_dev14 d = (nx d 1).val := by decide +kernel

/-! ## The exchange's slices: transfer `k` goes to the device `k` steps back, that is `8 - k` steps on -/

theorem off1_eq : ∀ d : Dev nD, k0_off1 d = ![1024 * d.val, 0] := k0_off1_eq
theorem off14_eq : ∀ d : Dev nD, k0_off14 d = ![1024 * d.val, 0] := k0_off14_eq
theorem off2_eq : ∀ (d : Dev nD) (k : Fin 7), k0_off2 d (BitVec.ofNat 32 (k.val + 1)) = ![(nx d (7 - k.val)).val] := by decide +kernel
theorem off3_eq : ∀ d : Dev nD, k0_off3 d = ![d.val] := k0_off3_eq
theorem off4_eq : ∀ (d : Dev nD) (k : Fin 7), k0_off4 d (BitVec.ofNat 32 (k.val + 1)) = ![0, 1024 * (k.val + 1)] := by decide +kernel
theorem off5_eq : ∀ (d : Dev nD) (k : Fin 7), k0_off5 d (BitVec.ofNat 32 (k.val + 1)) = ![1024 * (nx d (7 - k.val)).val, 0] := by decide +kernel
theorem off28_eq : ∀ (d : Dev nD) (j : Fin 2), k0_off28 d (BitVec.ofNat 32 j.val) = ![(nx d (1 + j.val)).val] := by decide +kernel
theorem off43_eq : ∀ (d : Dev nD) (j : Fin 2), k0_off43 d (BitVec.ofNat 32 j.val) = ![(nx d (3 + j.val)).val] := by decide +kernel
theorem off57_eq : ∀ (d : Dev nD) (j : Fin 2), k0_off57 d (BitVec.ofNat 32 j.val) = ![(nx d (5 + j.val)).val] := by decide +kernel
theorem off67_eq : ∀ d : Dev nD, k0_off67 d = ![(nx d 7).val] := by decide +kernel
theorem off73_eq : ∀ (d : Dev nD) (k : Fin 7), k0_off73 d (BitVec.ofNat 32 (k.val + 1)) = ![(nx d (k.val + 1)).val] := by decide +kernel

/-! ## The weight copies: the rows of the source, the half of the buffer, the semaphore -/

theorem off6_eq : ∀ d : Dev nD, k0_off6 d = ![1024 * d.val, 0] := by decide +kernel
theorem off9_eq : ∀ (d : Dev nD) (j : Fin 2), k0_off9 d (BitVec.ofNat 32 j.val) = ![1024 * (nx d (1 + j.val)).val, 0] := by decide +kernel
theorem off22_eq : ∀ (d : Dev nD) (j : Fin 2), k0_off22 d (BitVec.ofNat 32 j.val) = ![1024 * (nx d (3 + j.val)).val, 0] := by decide +kernel
theorem off37_eq : ∀ (d : Dev nD) (j : Fin 2), k0_off37 d (BitVec.ofNat 32 j.val) = ![1024 * (nx d (5 + j.val)).val, 0] := by decide +kernel
theorem off52_eq : ∀ d : Dev nD, k0_off52 d = ![1024 * (nx d 7).val, 0] := by decide +kernel
theorem off13_eq : ∀ (i : grid0.Coords) (d : Dev nD), k0_off13 i d = ![1024 * d.val, 1024 * ((i 1).val + 1)] := by decide +kernel
theorem off26_eq : ∀ (i : grid0.Coords) (d : Dev nD) (j : Fin 2),
    k0_off26 i d (BitVec.ofNat 32 j.val) = ![1024 * (nx d (1 + j.val)).val, 1024 * ((i 1).val + 1)] := by decide +kernel
theorem off41_eq : ∀ (i : grid0.Coords) (d : Dev nD) (j : Fin 2),
    k0_off41 i d (BitVec.ofNat 32 j.val) = ![1024 * (nx d (3 + j.val)).val, 1024 * ((i 1).val + 1)] := by decide +kernel
theorem off55_eq : ∀ (i : grid0.Coords) (d : Dev nD) (j : Fin 2),
    k0_off55 i d (BitVec.ofNat 32 j.val) = ![1024 * (nx d (5 + j.val)).val, 1024 * ((i 1).val + 1)] := by decide +kernel
theorem off66_eq : ∀ (i : grid0.Coords) (d : Dev nD), k0_off66 i d = ![1024 * (nx d 7).val, 1024 * ((i 1).val + 1)] := by decide +kernel

/-- The semaphore of the slot the next point uses. -/
theorem off7_eq : ∀ i : grid0.Coords, k0_off7 i = ![((i 1).val + 1) % 2] := by decide +kernel
theorem off11_eq : ∀ i : grid0.Coords, k0_off11 i = ![((i 1).val + 1) % 2] := by decide +kernel
theorem off20_eq : ∀ i : grid0.Coords, k0_off20 i = ![((i 1).val + 1) % 2] := by decide +kernel
theorem off24_eq : ∀ i : grid0.Coords, k0_off24 i = ![((i 1).val + 1) % 2] := by decide +kernel
theorem off35_eq : ∀ i : grid0.Coords, k0_off35 i = ![((i 1).val + 1) % 2] := by decide +kernel
theorem off39_eq : ∀ i : grid0.Coords, k0_off39 i = ![((i 1).val + 1) % 2] := by decide +kernel
theorem off50_eq : ∀ i : grid0.Coords, k0_off50 i = ![((i 1).val + 1) % 2] := by decide +kernel
theorem off53_eq : ∀ i : grid0.Coords, k0_off53 i = ![((i 1).val + 1) % 2] := by decide +kernel
theorem off64_eq : ∀ i : grid0.Coords, k0_off64 i = ![((i 1).val + 1) % 2] := by decide +kernel
/-- The semaphore of this point's slot. -/
theorem off15_eq : ∀ i : grid0.Coords, k0_off15 i = ![(i 1).val % 2] := by decide +kernel
theorem off29_eq : ∀ i : grid0.Coords, k0_off29 i = ![(i 1).val % 2] := by decide +kernel
theorem off44_eq : ∀ i : grid0.Coords, k0_off44 i = ![(i 1).val % 2] := by decide +kernel
theorem off58_eq : ∀ i : grid0.Coords, k0_off58 i = ![(i 1).val % 2] := by decide +kernel
theorem off68_eq : ∀ i : grid0.Coords, k0_off68 i = ![(i 1).val % 2] := by decide +kernel

/-- The first half of the next point's slot, -/
theorem off8_eq : ∀ i : grid0.Coords, k0_off8 i = ![((i 1).val + 1) % 2, 0, 0] := by decide +kernel
theorem off12_eq : ∀ i : grid0.Coords, k0_off12 i = ![((i 1).val + 1) % 2, 0, 0] := by decide +kernel
theorem off21_eq : ∀ i : grid0.Coords, k0_off21 i = ![((i 1).val + 1) % 2, 0, 0] := by decide +kernel
theorem off25_eq : ∀ i : grid0.Coords, k0_off25 i = ![((i 1).val + 1) % 2, 0, 0] := by decide +kernel
theorem off36_eq : ∀ i : grid0.Coords, k0_off36 i = ![((i 1).val + 1) % 2, 0, 0] := by decide +kernel
theorem off40_eq : ∀ i : grid0.Coords, k0_off40 i = ![((i 1).val + 1) % 2, 0, 0] := by decide +kernel
theorem off51_eq : ∀ i : grid0.Coords, k0_off51 i = ![((i 1).val + 1) % 2, 0, 0] := by decide +kernel
theorem off54_eq : ∀ i : grid0.Coords, k0_off54 i = ![((i 1).val + 1) % 2, 0, 0] := by decide +kernel
theorem off65_eq : ∀ i : grid0.Coords, k0_off65 i = ![((i 1).val + 1) % 2, 0, 0] := by decide +kernel
/-- and the second. -/
theorem off10_eq : ∀ i : grid0.Coords, k0_off10 i = ![((i 1).val + 1) % 2, 1024, 0] := by decide +kernel
theorem off23_eq : ∀ i : grid0.Coords, k0_off23 i = ![((i 1).val + 1) % 2, 1024, 0] := by decide +kernel
theorem off27_eq : ∀ i : grid0.Coords, k0_off27 i = ![((i 1).val + 1) % 2, 1024, 0] := by decide +kernel
theorem off38_eq : ∀ i : grid0.Coords, k0_off38 i = ![((i 1).val + 1) % 2, 1024, 0] := by decide +kernel
theorem off42_eq : ∀ i : grid0.Coords, k0_off42 i = ![((i 1).val + 1) % 2, 1024, 0] := by decide +kernel
theorem off56_eq : ∀ i : grid0.Coords, k0_off56 i = ![((i 1).val + 1) % 2, 1024, 0] := by decide +kernel
/-- Where this point's weights are loaded from. -/
theorem off18_eq : ∀ i : grid0.Coords, k0_off18 i = ![(i 1).val % 2, 0, 0] := by decide +kernel
theorem off33_eq : ∀ i : grid0.Coords, k0_off33 i = ![(i 1).val % 2, 0, 0] := by decide +kernel
theorem off48_eq : ∀ i : grid0.Coords, k0_off48 i = ![(i 1).val % 2, 0, 0] := by decide +kernel
theorem off62_eq : ∀ i : grid0.Coords, k0_off62 i = ![(i 1).val % 2, 0, 0] := by decide +kernel
theorem off71_eq : ∀ i : grid0.Coords, k0_off71 i = ![(i 1).val % 2, 0, 0] := by decide +kernel

/-! ## The branches: the group of the point, and its column block -/

theorem cond1_iff : ∀ i : grid0.Coords, k0_cond1 i = 1#1 ↔ (i 0).val = 0 ∧ (i 1).val = 0 := by decide +kernel
theorem cond2_iff : ∀ i : grid0.Coords, k0_cond2 i = 1#1 ↔ (i 0).val = 0 := by decide +kernel
theorem cond6_iff : ∀ i : grid0.Coords, k0_cond6 i = 1#1 ↔ (i 0).val = 1 := by decide +kernel
theorem cond10_iff : ∀ i : grid0.Coords, k0_cond10 i = 1#1 ↔ (i 0).val = 2 := by decide +kernel
theorem cond14_iff : ∀ i : grid0.Coords, k0_cond14 i = 1#1 ↔ (i 0).val = 3 := by decide +kernel
theorem cond18_iff : ∀ i : grid0.Coords, k0_cond18 i = 1#1 ↔ (i 0).val = 4 := by decide +kernel
theorem cond21_iff : ∀ i : grid0.Coords, k0_cond21 i = 1#1 ↔ (i 0).val = 4 ∧ (i 1).val = 3 := by decide +kernel
theorem cond3_iff : ∀ i : grid0.Coords, k0_cond3 i = 1#1 ↔ (i 1).val = 3 := by decide +kernel
theorem cond7_iff : ∀ i : grid0.Coords, k0_cond7 i = 1#1 ↔ (i 1).val = 3 := by decide +kernel
theorem cond11_iff : ∀ i : grid0.Coords, k0_cond11 i = 1#1 ↔ (i 1).val = 3 := by decide +kernel
theorem cond15_iff : ∀ i : grid0.Coords, k0_cond15 i = 1#1 ↔ (i 1).val = 3 := by decide +kernel
theorem cond4_iff : ∀ i : grid0.Coords, k0_cond4 i = 1#1 ↔ (i 1).val < 3 := by decide +kernel
theorem cond8_iff : ∀ i : grid0.Coords, k0_cond8 i = 1#1 ↔ (i 1).val < 3 := by decide +kernel
theorem cond12_iff : ∀ i : grid0.Coords, k0_cond12 i = 1#1 ↔ (i 1).val < 3 := by decide +kernel
theorem cond16_iff : ∀ i : grid0.Coords, k0_cond16 i = 1#1 ↔ (i 1).val < 3 := by decide +kernel
theorem cond19_iff : ∀ i : grid0.Coords, k0_cond19 i = 1#1 ↔ (i 1).val < 3 := by decide +kernel
theorem cond5_iff : ∀ i : grid0.Coords, k0_cond5 i = 1#1 ↔ (i 1).val = 0 := by decide +kernel
theorem cond9_iff : ∀ i : grid0.Coords, k0_cond9 i = 1#1 ↔ (i 1).val = 0 := by decide +kernel
theorem cond13_iff : ∀ i : grid0.Coords, k0_cond13 i = 1#1 ↔ (i 1).val = 0 := by decide +kernel
theorem cond17_iff : ∀ i : grid0.Coords, k0_cond17 i = 1#1 ↔ (i 1).val = 0 := by decide +kernel
theorem cond20_iff : ∀ i : grid0.Coords, k0_cond20 i = 1#1 ↔ (i 1).val = 0 := by decide +kernel

/-- The group and column block of a point. -/
theorem coord_group : ∀ t : Fin grid0.N, ((grid0.coords t) 0).val = t.val / 4 := by decide +kernel
theorem coord_col : ∀ t : Fin grid0.N, ((grid0.coords t) 1).val = t.val % 4 := by decide +kernel
theorem coord_col_lt (i : grid0.Coords) : (i 1).val < 4 := (i 1).isLt

end Cert.KernelIdeal.Gather
-- ==== Proof.Common.lean ====
/- The kernel's buffers, semaphores and pieces of buffers: which elements each slice names, what each piece holds once its
   transfer has landed, and the resource algebra the proof counts in. -/
module

public import proofs.«01_k».proof.Proof.Offsets
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.Transfers
public import Idealize.ShloMosaic.Lib.Batch
public import Idealize.ShloMosaic.Lib.Pointwise.Index
public import Idealize.ShloMosaic.Lib.Tactic

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part, the exchange's rounds (a duty is named by the device that
   performs it), the counters of the local copies -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters: the right half. -/
abbrev EC : UEmb Counters (MT nD τ sig Unit (Elt F) ℕ UU ℕ) := countersEmb (U := UU)

abbrev 𝒱₀ : Variants := Variants.none

/-! ## Buffers and semaphores -/

abbrev xM : Memref sig .tc .hbm S8192x1024 .bf16 := Memref.whole main_arg0
abbrev wM : Memref sig .tc .hbm S8192x4096 .f32 := Memref.whole main_arg1
abbrev gM : Memref sig .tc .vmem S1024x8192 .bf16 := Memref.whole cc0_scratch0
abbrev bM : Memref sig .tc .vmem S2x2048x1024 .f32 := Memref.whole cc0_scratch1
abbrev oM : Memref sig .tc .vmem S1024x4096 .f32 := Memref.whole cc0_stg0_0

abbrev xLoc (c : Dev nD) : Loc nD τ sig := (c : Thread nD τ).loc main_arg0
abbrev wLoc (c : Dev nD) : Loc nD τ sig := (c : Thread nD τ).loc main_arg1
abbrev gLoc (c : Dev nD) : Loc nD τ sig := (c : Thread nD τ).loc cc0_scratch0
abbrev bLoc (c : Dev nD) : Loc nD τ sig := (c : Thread nD τ).loc cc0_scratch1
abbrev oLoc (c : Dev nD) : Loc nD τ sig := (c : Thread nD τ).loc cc0_stg0_0

/-- The runtime's barrier semaphore; -/
abbrev barS : Sem sig := (SemArray.scalar (sig.barrier 0 rfl) : Sems sig S_).sem
/-- the semaphore counting the departures towards device `e`; -/
def sSem (e : Dev nD) : DmaSem sig := ⟨1 + e.val, by have : e.val < 8 := e.isLt; show 1 + e.val < 20; omega⟩
/-- the one counting the arrivals from device `e`; -/
def rSem (e : Dev nD) : DmaSem sig := ⟨9 + e.val, by have : e.val < 8 := e.isLt; show 9 + e.val < 20; omega⟩
/-- the one of the local copy of the device's own block; -/
abbrev lSem : DmaSem sig := (cc0_scratch4 : DmaSems sig S_).sem
/-- the ones of the two halves of the weight buffer. -/
def wSem (p : Fin 2) : DmaSem sig := ⟨18 + p.val, by have := p.isLt; show 18 + p.val < 20; omega⟩

abbrev barC (c : Dev nD) : GSem nD τ sig := ((c : Thread nD τ), .reg barS)
abbrev sndC (c e : Dev nD) : GSem nD τ sig := ((c : Thread nD τ), .dma (sSem e))
abbrev rcvC (c e : Dev nD) : GSem nD τ sig := ((c : Thread nD τ), .dma (rSem e))

theorem inb1 {n : ℕ} (e : Fin n) : ∀ a, (![e.val] : Fin 1 → ℕ) a + S1.size a ≤ (⟨1, ![n]⟩ : Shape).size a
  | ⟨0, _⟩ => e.isLt
theorem sSem_at : ∀ (e : Dev nD) , ((((cc0_scratch2 : DmaSems sig S8).slice (Rect.unit (s := S8) ![e.val] S1.size (inb1 e))).squeeze S_ squeezes_S1_S_).sem).val = (sSem e).val := by decide +kernel
theorem sSem_eq (e : Dev nD) (o : Fin 1 → ℕ) (ho : o = ![e.val]) (inb) :
    (((cc0_scratch2 : DmaSems sig S8).slice (Rect.unit (s := S8) o S1.size inb)).squeeze S_ squeezes_S1_S_).sem = sSem e := by
  subst ho; exact Fin.ext (sSem_at e)
theorem rSem_at : ∀ (e : Dev nD) , ((((cc0_scratch3 : DmaSems sig S8).slice (Rect.unit (s := S8) ![e.val] S1.size (inb1 e))).squeeze S_ squeezes_S1_S_).sem).val = (rSem e).val := by decide +kernel
theorem rSem_eq (e : Dev nD) (o : Fin 1 → ℕ) (ho : o = ![e.val]) (inb) :
    (((cc0_scratch3 : DmaSems sig S8).slice (Rect.unit (s := S8) o S1.size inb)).squeeze S_ squeezes_S1_S_).sem = rSem e := by
  subst ho; exact Fin.ext (rSem_at e)
theorem wSem_at : ∀ (p : Fin 2) , ((((cc0_scratch5 : DmaSems sig S2).slice (Rect.unit (s := S2) ![p.val] S1.size (inb1 p))).squeeze S_ squeezes_S1_S_).sem).val = (wSem p).val := by decide +kernel
theorem wSem_eq (p : Fin 2) (o : Fin 1 → ℕ) (ho : o = ![p.val]) (inb) :
    (((cc0_scratch5 : DmaSems sig S2).slice (Rect.unit (s := S2) o S1.size inb)).squeeze S_ squeezes_S1_S_).sem = wSem p := by
  subst ho; exact Fin.ext (wSem_at p)

/-! ## The pieces -/

/-- Columns `[1024 j, 1024 (j + 1))` of the gathered operand; -/
def gSet (j : ℕ) : Finset S1024x8192.Idx := Finset.univ.filter fun i => (i 1).val / 1024 = j
/-- rows `[1024 r, 1024 (r + 1))` of the device's own operand; -/
def xSet (r : ℕ) : Finset S8192x1024.Idx := Finset.univ.filter fun i => (i 0).val / 1024 = r
/-- the tile at row block `r` and column block `h` of the weights; -/
def wSet (r h : ℕ) : Finset S8192x4096.Idx := Finset.univ.filter fun i => (i 0).val / 1024 = r ∧ (i 1).val / 1024 = h
/-- half `j` of slot `p` of the weight buffer. -/
def bSet (p j : ℕ) : Finset S2x2048x1024.Idx := Finset.univ.filter fun i => (i 0).val = p ∧ (i 1).val / 1024 = j

abbrev gSl (o : Fin 2 → ℕ) (inb : ∀ a, o a + S1024x1024.size a ≤ S1024x8192.size a) : Memref sig .tc .vmem S1024x1024 .bf16 := gM.slice (Rect.unit (s := S1024x8192) o S1024x1024.size inb) (fun _ => rfl)
abbrev xSl (o : Fin 2 → ℕ) (inb : ∀ a, o a + S1024x1024.size a ≤ S8192x1024.size a) : Memref sig .tc .hbm S1024x1024 .bf16 := xM.slice (Rect.unit (s := S8192x1024) o S1024x1024.size inb) (fun _ => rfl)
abbrev wSl (o : Fin 2 → ℕ) (inb : ∀ a, o a + S1024x1024.size a ≤ S8192x4096.size a) : Memref sig .tc .hbm S1024x1024 .f32 := wM.slice (Rect.unit (s := S8192x4096) o S1024x1024.size inb) (fun _ => rfl)
abbrev bSl (o : Fin 3 → ℕ) (inb : ∀ a, o a + S1x1024x1024.size a ≤ S2x2048x1024.size a) : Memref sig .tc .vmem S1024x1024 .f32 :=
  (bM.slice (Rect.unit (s := S2x2048x1024) o S1x1024x1024.size inb) (fun _ => rfl)).squeeze S1024x1024 squeezes_S1x1024x1024_S1024x1024

theorem gSl_set (j : ℕ) (o) (ho : o = ![0, 1024 * j]) (inb) : (gSl o inb).view.set = gSet j := by
  subst ho
  ext i
  refine (ValueKit.mem_set_slice_whole_iff cc0_scratch0 _ i Rect.mem_set_unit).trans ?_
  refine (Fin.forall_fin_two (p := fun a : Fin 2 => ![0, 1024 * j] a ≤ (i a).val ∧ (i a).val < ![0, 1024 * j] a + S1024x1024.size a)).trans ?_
  have h0 : (i 0).val < 1024 := (i 0).isLt
  have h1 : (i 1).val < 8192 := (i 1).isLt
  simp only [gSet, Finset.mem_filter, Finset.mem_univ, true_and]
  show (0 ≤ (i 0).val ∧ (i 0).val < 0 + 1024) ∧ (1024 * j ≤ (i 1).val ∧ (i 1).val < 1024 * j + 1024) ↔ _
  omega
theorem xSl_set (r : ℕ) (o) (ho : o = ![1024 * r, 0]) (inb) : (xSl o inb).view.set = xSet r := by
  subst ho
  ext i
  refine (ValueKit.mem_set_slice_whole_iff main_arg0 _ i Rect.mem_set_unit).trans ?_
  refine (Fin.forall_fin_two (p := fun a : Fin 2 => ![1024 * r, 0] a ≤ (i a).val ∧ (i a).val < ![1024 * r, 0] a + S1024x1024.size a)).trans ?_
  have h1 : (i 1).val < 1024 := (i 1).isLt
  simp only [xSet, Finset.mem_filter, Finset.mem_univ, true_and]
  show (1024 * r ≤ (i 0).val ∧ (i 0).val < 1024 * r + 1024) ∧ (0 ≤ (i 1).val ∧ (i 1).val < 0 + 1024) ↔ _
  omega
theorem wSl_set (r h : ℕ) (o) (ho : o = ![1024 * r, 1024 * h]) (inb) : (wSl o inb).view.set = wSet r h := by
  subst ho
  ext i
  refine (ValueKit.mem_set_slice_whole_iff main_arg1 _ i Rect.mem_set_unit).trans ?_
  refine (Fin.forall_fin_two (p := fun a : Fin 2 => ![1024 * r, 1024 * h] a ≤ (i a).val ∧ (i a).val < ![1024 * r, 1024 * h] a + S1024x1024.size a)).trans ?_
  simp only [wSet, Finset.mem_filter, Finset.mem_univ, true_and]
  show (1024 * r ≤ (i 0).val ∧ (i 0).val < 1024 * r + 1024) ∧ (1024 * h ≤ (i 1).val ∧ (i 1).val < 1024 * h + 1024) ↔ _
  omega
theorem bSl_set (p j : ℕ) (o) (ho : o = ![p, 1024 * j, 0]) (inb) : (bSl o inb).view.set = bSet p j := by
  subst ho
  ext i
  show i ∈ (((View.whole cc0_scratch1).slice _).reshape _ _).set ↔ _
  rw [View.set_reshape]
  refine (ValueKit.mem_set_slice_whole_iff cc0_scratch1 _ i Rect.mem_set_unit).trans ?_
  refine (Fin.forall_fin_succ (P := fun a : Fin 3 => ![p, 1024 * j, 0] a ≤ (i a).val ∧ (i a).val < ![p, 1024 * j, 0] a + S1x1024x1024.size a)).trans ?_
  rw [Fin.forall_fin_two]
  have h2 : (i 2).val < 1024 := (i 2).isLt
  simp only [bSet, Finset.mem_filter, Finset.mem_univ, true_and]
  show (p ≤ (i 0).val ∧ (i 0).val < p + 1) ∧ (1024 * j ≤ (i 1).val ∧ (i 1).val < 1024 * j + 1024) ∧ (0 ≤ (i 2).val ∧ (i 2).val < 0 + 1024) ↔ _
  omega

/-! ## What lands -/

section Contents

variable (m : (ℓ : Loc nD τ sig) → Buf (Elt F) ℓ)

/-- The gathered operand of device `c`: block `j` is device `c + j`'s rows for `c`. -/
def gC (c : Dev nD) : Buf (Elt F) (gLoc c) := fun i : S1024x8192.Idx =>
  (m (xLoc (nx c ((i 1).val / 1024))) : S8192x1024.Idx → Elt F .bf16)
    (ix2 (n0 := 8192) (n1 := 1024) ⟨1024 * c.val + (i 0).val, by have h : c.val < 8 := c.isLt; have h' : (i 0).val < 1024 := (i 0).isLt; omega⟩ ⟨(i 1).val % 1024, Nat.mod_lt _ (by decide)⟩)

/-- The weight buffer of device `c` holding, from half 0 of either slot on, the weights at row blocks `c + r`, `c + r + 1` and
    column block `h`. -/
def wC (c : Dev nD) (r : ℕ) (h : Fin 4) : Buf (Elt F) (bLoc c) := fun i : S2x2048x1024.Idx =>
  (m (wLoc c) : S8192x4096.Idx → Elt F .f32)
    (ix2 (n0 := 8192) (n1 := 4096) ⟨1024 * (nx c (r + (i 1).val / 1024)).val + (i 1).val % 1024, by have := nx_lt c (r + (i 1).val / 1024); omega⟩
      ⟨1024 * h.val + (i 2).val, by have h2 : (i 2).val < 1024 := (i 2).isLt; omega⟩)

/-- A buffer rewritten through a whole-covering write agrees on the view's elements with any contents the view reads the
    written values off. -/
theorem write_agrees {sp : Space} {s : Shape} {e : EltTy} (v : View sig .tc sp s e) (f g : v.ty.Contents (Elt F)) (w : s.Idx → Elt F e)
    (hw : ∀ x, v.read (Elt F) g x = w x) : ∀ i ∈ v.set, v.write (Elt F) f w Finset.univ i = g i := by
  intro i hi
  obtain ⟨x, -, rfl⟩ := Finset.mem_map.mp hi
  rw [View.write_emb_of_mem _ _ (Finset.mem_univ x), ← hw x, View.read_apply]
  simp

theorem x_congr {d d' : Dev nD} {i i' : S8192x1024.Idx} (hd : d = d') (hi : i = i') :
    (m (xLoc d) : S8192x1024.Idx → Elt F .bf16) i = (m (xLoc d') : S8192x1024.Idx → Elt F .bf16) i' := by subst hd hi; rfl

/-- Block `j` of the gathered operand is what a transfer off device `c + j`'s rows for `c` writes there. -/
theorem gC_read (c : Dev nD) (j : ℕ) (o o') (ho : o = ![0, 1024 * j]) (ho' : o' = ![1024 * c.val, 0]) (inb inb') (x) :
    (gSl o inb).view.read (Elt F) (gC m c) x = (xSl o' inb').view.read (Elt F) (m (xLoc (nx c j))) x := by
  subst ho ho'
  have h0 : (x 0).val < 1024 := (x 0).isLt
  have h1 : (x 1).val < 1024 := (x 1).isLt
  have e0 := ValueKit.view_emb_slice_whole_unit_val cc0_scratch0 ![0, 1024 * j] S1024x1024.size inb x 0
  have e1 := ValueKit.view_emb_slice_whole_unit_val cc0_scratch0 ![0, 1024 * j] S1024x1024.size inb x 1
  have f0 := ValueKit.view_emb_slice_whole_unit_val main_arg0 ![1024 * c.val, 0] S1024x1024.size inb' x 0
  have f1 := ValueKit.view_emb_slice_whole_unit_val main_arg0 ![1024 * c.val, 0] S1024x1024.size inb' x 1
  refine x_congr m (congrArg (nx c) ?_) (funext fun a => Fin.ext ?_)
  · refine (congrArg (· / 1024) e1).trans ?_
    show (1024 * j + (x 1).val) / 1024 = j
    omega
  · match a with
    | ⟨0, _⟩ =>
      refine Eq.trans ?_ f0.symm
      refine (congrArg (1024 * c.val + ·) e0).trans ?_
      show 1024 * c.val + (0 + (x 0).val) = 1024 * c.val + (x 0).val
      omega
    | ⟨1, _⟩ =>
      refine Eq.trans ?_ f1.symm
      refine (congrArg (· % 1024) e1).trans ?_
      show (1024 * j + (x 1).val) % 1024 = 0 + (x 1).val
      omega

theorem w_congr (c : Dev nD) {i i' : S8192x4096.Idx} (hi : i = i') :
    (m (wLoc c) : S8192x4096.Idx → Elt F .f32) i = (m (wLoc c) : S8192x4096.Idx → Elt F .f32) i' := by subst hi; rfl

/-- Where an index of a half of a slot lies in the buffer. -/
theorem bSl_emb (p j : ℕ) (inb) (x : S1024x1024.Idx) :
    (((bSl ![p, 1024 * j, 0] inb).view.emb x 1 : Fin _) : ℕ) = 1024 * j + (x 0).val ∧ (((bSl ![p, 1024 * j, 0] inb).view.emb x 2 : Fin _) : ℕ) = (x 1).val := by
  have hq : Shape.reshapeEquiv squeezes_S1x1024x1024_S1024x1024.numel_eq x = Fin.cons ⟨0, Nat.one_pos⟩ x :=
    Shape.reshapeEquiv_cons_one (d := ![1024, 1024]) squeezes_S1x1024x1024_S1024x1024.numel_eq x
  have e1 := ValueKit.view_emb_slice_whole_unit_val cc0_scratch1 ![p, 1024 * j, 0] S1x1024x1024.size inb (Shape.reshapeEquiv squeezes_S1x1024x1024_S1024x1024.numel_eq x) 1
  have e2 := ValueKit.view_emb_slice_whole_unit_val cc0_scratch1 ![p, 1024 * j, 0] S1x1024x1024.size inb (Shape.reshapeEquiv squeezes_S1x1024x1024_S1024x1024.numel_eq x) 2
  constructor
  · refine Eq.trans e1 ?_
    rw [hq]; rfl
  · refine Eq.trans e2 ?_
    rw [hq]; exact Nat.zero_add _

/-- A half of a slot, so filled, is what a copy off its tile of the weights writes there. -/
theorem wC_read (c : Dev nD) (r : ℕ) (h : Fin 4) (p j : ℕ) (o o') (ho : o = ![p, 1024 * j, 0]) (ho' : o' = ![1024 * (nx c (r + j)).val, 1024 * h.val]) (inb inb') (x) :
    (bSl o inb).view.read (Elt F) (wC m c r h) x = (wSl o' inb').view.read (Elt F) (m (wLoc c)) x := by
  subst ho ho'
  have h0 : (x 0).val < 1024 := (x 0).isLt
  have h1 : (x 1).val < 1024 := (x 1).isLt
  obtain ⟨e1, e2⟩ := bSl_emb p j inb x
  have f0 := ValueKit.view_emb_slice_whole_unit_val main_arg1 ![1024 * (nx c (r + j)).val, 1024 * h.val] S1024x1024.size inb' x 0
  have f1 := ValueKit.view_emb_slice_whole_unit_val main_arg1 ![1024 * (nx c (r + j)).val, 1024 * h.val] S1024x1024.size inb' x 1
  refine w_congr m c (funext fun a => Fin.ext ?_)
  match a with
  | ⟨0, _⟩ =>
    refine Eq.trans ?_ f0.symm
    show 1024 * (nx c (r + ((bSl ![p, 1024 * j, 0] inb).view.emb x 1 : Fin _).val / 1024)).val + ((bSl ![p, 1024 * j, 0] inb).view.emb x 1 : Fin _).val % 1024 = 1024 * (nx c (r + j)).val + (x 0).val
    rw [e1, show (1024 * j + (x 0).val) / 1024 = j by omega, show (1024 * j + (x 0).val) % 1024 = (x 0).val by omega]
  | ⟨1, _⟩ =>
    refine Eq.trans ?_ f1.symm
    show 1024 * h.val + ((bSl ![p, 1024 * j, 0] inb).view.emb x 2 : Fin _).val = 1024 * h.val + (x 1).val
    rw [e2]

/-! ## What the loads read -/

/-- Block `j` of the gathered operand, and blocks `j`, `j + 1`; -/
def gv1 (c : Dev nD) (j : Fin 8) : Vec F S1024x1024 .bf16 := fun x =>
  (gC m c : S1024x8192.Idx → Elt F .bf16) (ix2 (n0 := 1024) (n1 := 8192) (x 0) ⟨1024 * j.val + (x 1).val, by have h : (x 1).val < 1024 := (x 1).isLt; omega⟩)
def gv2 (c : Dev nD) (j : Fin 7) : Vec F S1024x2048 .bf16 := fun x =>
  (gC m c : S1024x8192.Idx → Elt F .bf16) (ix2 (n0 := 1024) (n1 := 8192) (x 0) ⟨1024 * j.val + (x 1).val, by have h : (x 1).val < 2048 := (x 1).isLt; omega⟩)
/-- the weights at row block `c + r` (and `c + r + 1`), column block `h`; -/
def wv1 (c : Dev nD) (r : ℕ) (h : Fin 4) : Vec F S1x1024x1024 .f32 := fun x =>
  (wC m c r h : S2x2048x1024.Idx → Elt F .f32) (ix3 (n0 := 2) (n1 := 2048) (n2 := 1024) 0 ⟨(x 1).val, by have h : (x 1).val < 1024 := (x 1).isLt; omega⟩ (x 2))
def wv2 (c : Dev nD) (r : ℕ) (h : Fin 4) : Vec F S1x2048x1024 .f32 := fun x =>
  (wC m c r h : S2x2048x1024.Idx → Elt F .f32) (ix3 (n0 := 2) (n1 := 2048) (n2 := 1024) 0 (x 1) (x 2))
/-- column block `h` of the result. -/
def oblk (f : Vec F S1024x4096 .f32) (h : Fin 4) : Vec F S1024x1024 .f32 := fun x =>
  f (ix2 (n0 := 1024) (n1 := 4096) (x 0) ⟨1024 * h.val + (x 1).val, by have h' : (x 1).val < 1024 := (x 1).isLt; omega⟩)

theorem read_gv1 (c : Dev nD) (j : Fin 8) (o) (ho : o = ![0, 1024 * j.val]) (inb) :
    gM.view.readAt (Elt F) (Rect.unit (s := S1024x8192) o S1024x1024.size inb).toLoadRect (gC m c) = gv1 m c j := by
  subst ho
  funext x
  refine congrArg (gC m c) (funext fun a => Fin.ext ?_)
  refine (ValueKit.rect_emb_unit_val (s := S1024x8192) ![0, 1024 * j.val] S1024x1024.size inb x a).trans ?_
  match a with
  | ⟨0, _⟩ => exact Nat.zero_add _
  | ⟨1, _⟩ => rfl
theorem read_gv2 (c : Dev nD) (j : Fin 7) (o) (ho : o = ![0, 1024 * j.val]) (inb) :
    gM.view.readAt (Elt F) (Rect.unit (s := S1024x8192) o S1024x2048.size inb).toLoadRect (gC m c) = gv2 m c j := by
  subst ho
  funext x
  refine congrArg (gC m c) (funext fun a => Fin.ext ?_)
  refine (ValueKit.rect_emb_unit_val (s := S1024x8192) ![0, 1024 * j.val] S1024x2048.size inb x a).trans ?_
  match a with
  | ⟨0, _⟩ => exact Nat.zero_add _
  | ⟨1, _⟩ => rfl

/-- The buffer so filled does not depend on the slot. -/
theorem wC_slot (c : Dev nD) (r : ℕ) (h : Fin 4) (i i' : S2x2048x1024.Idx) (h1 : (i 1).val = (i' 1).val) (h2 : (i 2).val = (i' 2).val) :
    (wC m c r h : S2x2048x1024.Idx → Elt F .f32) i = wC m c r h i' := by
  unfold wC
  refine w_congr m c (funext fun a => Fin.ext ?_)
  match a with
  | ⟨0, _⟩ =>
    show 1024 * (nx c (r + (i 1).val / 1024)).val + (i 1).val % 1024 = 1024 * (nx c (r + (i' 1).val / 1024)).val + (i' 1).val % 1024
    rw [h1]
  | ⟨1, _⟩ =>
    show 1024 * h.val + (i 2).val = 1024 * h.val + (i' 2).val
    rw [h2]

theorem read_wv1 (c : Dev nD) (r : ℕ) (h : Fin 4) (p : ℕ) (o) (ho : o = ![p, 0, 0]) (inb) :
    bM.view.readAt (Elt F) (Rect.unit (s := S2x2048x1024) o S1x1024x1024.size inb).toLoadRect (wC m c r h) = wv1 m c r h := by
  subst ho
  funext x
  refine wC_slot m c r h _ _ ?_ ?_
  · exact (ValueKit.rect_emb_unit_val (s := S2x2048x1024) ![p, 0, 0] S1x1024x1024.size inb x 1).trans (Nat.zero_add _)
  · exact (ValueKit.rect_emb_unit_val (s := S2x2048x1024) ![p, 0, 0] S1x1024x1024.size inb x 2).trans (Nat.zero_add _)
theorem read_wv2 (c : Dev nD) (r : ℕ) (h : Fin 4) (p : ℕ) (o) (ho : o = ![p, 0, 0]) (inb) :
    bM.view.readAt (Elt F) (Rect.unit (s := S2x2048x1024) o S1x2048x1024.size inb).toLoadRect (wC m c r h) = wv2 m c r h := by
  subst ho
  funext x
  refine wC_slot m c r h _ _ ?_ ?_
  · exact (ValueKit.rect_emb_unit_val (s := S2x2048x1024) ![p, 0, 0] S1x2048x1024.size inb x 1).trans (Nat.zero_add _)
  · exact (ValueKit.rect_emb_unit_val (s := S2x2048x1024) ![p, 0, 0] S1x2048x1024.size inb x 2).trans (Nat.zero_add _)

theorem read_oblk (f : Vec F S1024x4096 .f32) (h : Fin 4) (o) (ho : o = ![0, 1024 * h.val]) (inb) :
    oM.view.readAt (Elt F) (Rect.unit (s := S1024x4096) o S1024x1024.size inb).toLoadRect f = oblk f h := by
  subst ho
  funext x
  refine congrArg f (funext fun a => Fin.ext ?_)
  refine (ValueKit.rect_emb_unit_val (s := S1024x4096) ![0, 1024 * h.val] S1024x1024.size inb x a).trans ?_
  match a with
  | ⟨0, _⟩ => exact Nat.zero_add _
  | ⟨1, _⟩ => rfl

theorem write_oblk (f : Vec F S1024x4096 .f32) (w : Vec F S1024x1024 .f32) (h h' : Fin 4) (o) (ho : o = ![0, 1024 * h.val]) (inb) :
    oblk ((oM.access (Rect.unit (s := S1024x4096) o S1024x1024.size inb) : View sig .tc _ _ _).write (Elt F) f w Finset.univ) h'
      = if h' = h then w else oblk f h' := by
  subst ho
  by_cases hh : h' = h
  · subst hh
    rw [if_pos rfl]
    funext x
    have := congrFun (read_oblk ((oM.access (Rect.unit (s := S1024x4096) ![0, 1024 * h'.val] S1024x1024.size inb) : View sig .tc _ _ _).write (Elt F) f w Finset.univ) h' _ rfl inb) x
    rw [← this]
    exact congrFun (View.read_write_univ _ _) x
  · rw [if_neg hh]
    funext x
    unfold oblk
    refine View.write_of_not_mem _ _ _ ?_
    intro hm
    obtain ⟨y, -, hy⟩ := Finset.mem_map.mp hm
    have e1 := congrArg (fun i : S1024x4096.Idx => (i 1).val) hy
    have e2 := ValueKit.view_emb_slice_whole_unit_val cc0_stg0_0 ![0, 1024 * h.val] S1024x1024.size inb y 1
    have e3 : 1024 * h.val + (y 1).val = 1024 * h'.val + (x 1).val := e2.symm.trans e1
    have h1 : (x 1).val < 1024 := (x 1).isLt
    have h2 : (y 1).val < 1024 := (y 1).isLt
    exact hh (Fin.ext (by omega))

end Contents

end Cert.KernelIdeal.Gather
-- ==== Proof.Schedule.lean ====
/- The exchange's contract: which device performs which increment of which semaphore, what it hands over with it, what each
   device owes at launch and in which order a device may wait. -/
module

public import proofs.«01_k».proof.Proof.Common

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The credit of one block of the activations, of one tile of the weights. -/
abbrev NX : ℕ := RefSig.tileCredit S1024x1024 .bf16
abbrev NW : ℕ := RefSig.tileCredit S1024x1024 .f32

theorem NX_pos : 0 < NX := by decide +kernel
theorem NW_pos : 0 < NW := by decide +kernel

/-- How many places after device `a` device `b` stands. -/
def df (a b : Dev nD) : ℕ := (b.val + 8 - a.val) % 8

theorem df_nx : ∀ (c : Dev nD) (k : Fin 8), df c (nx c k.val) = k.val := by decide +kernel
theorem df_nx_back : ∀ (c : Dev nD) (k : Fin 7), df (nx c (k.val + 1)) c = 7 - k.val := by decide +kernel
theorem nx_ne : ∀ (c : Dev nD) (k : Fin 7), nx c (k.val + 1) ≠ c := by decide +kernel
theorem others_eq : ∀ c : Dev nD, (Finset.univ.erase c : Finset (Dev nD)) = [nx c 7, nx c 6, nx c 5, nx c 4, nx c 3, nx c 2, nx c 1].toFinset := by decide +kernel
theorem others_nodup : ∀ c : Dev nD, [nx c 7, nx c 6, nx c 5, nx c 4, nx c 3, nx c 2, nx c 1].Nodup := by decide +kernel

/-! ## The roles of the semaphores -/

/-- A semaphore's role: the barrier, the departures towards a device, the arrivals from a device, none in the exchange. -/
inductive Role where
  | bar | snd (e : Dev nD) | rcv (e : Dev nD) | idle

def role : SemLoc sig → Role
  | .reg _ => .bar
  | .dma q =>
    if h : 1 ≤ q.val ∧ q.val < 9 then .snd (⟨q.val - 1, by show q.val - 1 < 8; omega⟩ : Fin 8)
    else if h : 9 ≤ q.val ∧ q.val < 17 then .rcv (⟨q.val - 9, by show q.val - 9 < 8; omega⟩ : Fin 8) else .idle

theorem role_bar : role (.reg barS) = .bar := rfl
theorem role_snd (e : Dev nD) : role (.dma (sSem e)) = .snd e := by
  have he : e.val < 8 := e.isLt
  unfold role sSem
  dsimp only
  rw [dif_pos (by omega)]
  exact congrArg Role.snd (Fin.ext (show 1 + e.val - 1 = e.val by omega))
theorem role_rcv (e : Dev nD) : role (.dma (rSem e)) = .rcv e := by
  have he : e.val < 8 := e.isLt
  unfold role rSem
  dsimp only
  rw [dif_neg (by omega), dif_pos (by omega)]
  exact congrArg Role.rcv (Fin.ext (show 9 + e.val - 9 = e.val by omega))

/-! ## The payloads -/

/-- What device `e`'s signal hands device `c`: the slice of `e`'s gathered operand that `c` is to fill, and that `e` stands at
    the start of its count of the arrivals from `c`. -/
def barPay (c e : Dev nD) : sProp 𝕄 := iprop((∃ f, gLoc e ↦[gSet (df e c)]{fullShare} f) ∗ reached ER (rcvC e c) 0)
/-- A departure towards `e` gives the rows for `e` back; -/
def sndPay (c e : Dev nD) : sProp 𝕄 := xLoc c ↦[xSet e.val]{fullShare} m (xLoc c)
/-- an arrival from `e` gives the filled slice. -/
def rcvPay (c e : Dev nD) : sProp 𝕄 := gLoc c ↦[gSet (df c e)]{fullShare} gC m c

instance barPay_storable (c e : Dev nD) : BI.Storable (upEmb : UEmb _ 𝕄) (barPay (F := F) c e) := by unfold barPay; infer_instance
instance sndPay_storable (c e : Dev nD) : BI.Storable (upEmb : UEmb _ 𝕄) (sndPay m c e) := by unfold sndPay; infer_instance
instance rcvPay_storable (c e : Dev nD) : BI.Storable (upEmb : UEmb _ 𝕄) (rcvPay m c e) := by unfold rcvPay; infer_instance

def roleDuties (c : Dev nD) : Role → Finset (Dev nD)
  | .bar => Finset.univ.erase c
  | .snd e => if e = c then ∅ else {c}
  | .rcv e => if e = c then ∅ else {e}
  | .idle => ∅
def roleAmount : Role → ℕ
  | .bar => 1
  | _ => NX
def rolePay (c : Dev nD) : Role → Dev nD → sProp 𝕄
  | .bar, d => barPay c d
  | .snd e, _ => sndPay m c e
  | .rcv e, _ => rcvPay m c e
  | .idle, _ => iprop(emp)

/-- One round. A device's barrier semaphore takes one unit from every other device; its departures' and arrivals' semaphores
    one block's credit each, those with its own number nothing. -/
def sched : Rounds.Schedule (GSem nD τ sig) (Dev nD) 𝕄 where
  duties g r := if r = 0 ∧ g.1.2 = .tc then roleDuties g.1.1 (role g.2) else ∅
  unitless _ := False
  amount g _ _ := roleAmount (role g.2)
  payload g _ d := rolePay m g.1.1 (role g.2) d
  amount_pos g _ _ _ := by
    cases role g.2
    · exact Nat.one_pos
    all_goals exact NX_pos

instance sched_storable (g : GSem nD τ sig) (r : ℕ) (d : Dev nD) : BI.Storable (upEmb : UEmb _ 𝕄) ((sched m).payload g r d) := by
  show BI.Storable upEmb (rolePay m g.1.1 (role g.2) d)
  cases role g.2 <;> (unfold rolePay; infer_instance)

section Facts
variable (c e : Dev nD)

theorem duties_bar : (sched m).duties (barC c) 0 = Finset.univ.erase c := by dsimp only [sched]; exact if_pos ⟨rfl, rfl⟩
theorem duties_snd (h : e ≠ c) : (sched m).duties (sndC c e) 0 = {c} := by
  dsimp only [sched]; rw [if_pos ⟨rfl, rfl⟩, role_snd]; exact if_neg h
theorem duties_rcv (h : e ≠ c) : (sched m).duties (rcvC c e) 0 = {e} := by
  dsimp only [sched]; rw [if_pos ⟨rfl, rfl⟩, role_rcv]; exact if_neg h
theorem duties_later (g : GSem nD τ sig) : ∀ r, 1 ≤ r → (sched m).duties g r = ∅ :=
  fun r hr => by dsimp only [sched]; rw [if_neg fun h => by omega]
theorem duties_snd_self : ∀ r, 0 ≤ r → (sched m).duties (sndC c c) r = ∅ := fun r _ => by
  dsimp only [sched]; rw [role_snd]; split
  · exact if_pos rfl
  · rfl
theorem duties_rcv_self : ∀ r, 0 ≤ r → (sched m).duties (rcvC c c) r = ∅ := fun r _ => by
  dsimp only [sched]; rw [role_rcv]; split
  · exact if_pos rfl
  · rfl

theorem amount_bar (d : Dev nD) : (sched m).amount (barC c) 0 d = 1 := rfl
theorem amount_snd (d : Dev nD) : (sched m).amount (sndC c e) 0 d = NX := by dsimp only [sched]; rw [role_snd]; rfl
theorem amount_rcv (d : Dev nD) : (sched m).amount (rcvC c e) 0 d = NX := by dsimp only [sched]; rw [role_rcv]; rfl

theorem expect_bar : (sched m).expect (barC c) 0 = 7 := by
  unfold Schedule.expect Schedule.amountOf
  rw [duties_bar, Finset.sum_congr rfl fun d _ => amount_bar m c d, Finset.sum_const, Finset.card_erase_of_mem (Finset.mem_univ _), Finset.card_univ, Fintype.card_fin]
  rfl
theorem expect_snd (h : e ≠ c) : (sched m).expect (sndC c e) 0 = NX := by
  unfold Schedule.expect Schedule.amountOf; rw [duties_snd m c e h, Finset.sum_singleton, amount_snd]
theorem expect_rcv (h : e ≠ c) : (sched m).expect (rcvC c e) 0 = NX := by
  unfold Schedule.expect Schedule.amountOf; rw [duties_rcv m c e h, Finset.sum_singleton, amount_rcv]

theorem payload_bar (d : Dev nD) : (sched m).payload (barC c) 0 d = barPay c d := rfl
theorem payload_snd (d : Dev nD) : (sched m).payload (sndC c e) 0 d = sndPay m c e := by dsimp only [sched]; rw [role_snd]; rfl
theorem payload_rcv (d : Dev nD) : (sched m).payload (rcvC c e) 0 d = rcvPay m c e := by dsimp only [sched]; rw [role_rcv]; rfl

/-- What the signals of the devices `c + 1`, …, `c + n` hand device `c`. -/
def barPays : ℕ → sProp 𝕄
  | 0 => iprop(emp)
  | n + 1 => iprop(barPay c (nx c (n + 1)) ∗ barPays n)

theorem rest_bar : bigSep ((sched m).duties (barC c) 0 \ ∅) (fun d => (sched m).payload (barC c) 0 d) = barPays (F := F) c 7 := by
  rw [Finset.sdiff_empty, duties_bar, bigSep_eq_bigSepL_of_eq _ (others_eq c) (others_nodup c)]
  simp only [bigSepL_cons, payload_bar, barPays]
  rfl
theorem rest_snd (h : e ≠ c) : bigSep ((sched m).duties (sndC c e) 0 \ ∅) (fun d => (sched m).payload (sndC c e) 0 d) = sndPay m c e := by
  rw [Finset.sdiff_empty, duties_snd m c e h, bigSep_singleton, payload_snd]
theorem rest_rcv (h : e ≠ c) : bigSep ((sched m).duties (rcvC c e) 0 \ ∅) (fun d => (sched m).payload (rcvC c e) 0 d) = rcvPay m c e := by
  rw [Finset.sdiff_empty, duties_rcv m c e h, bigSep_singleton, payload_rcv]

end Facts

/-! ## What a device owes; the levels -/

/-- The blocks device `c` has yet to send when `n` are left: to the devices `c + 1`, …, `c + n`; -/
def OR (c : Dev nD) : ℕ → CellTallies nD τ sig Unit
  | 0 => 0
  | n + 1 => OR c n + tallyAt (rcvC (nx c (n + 1)) c) () NX
/-- all of them, and the signals it has yet to give when `n` are left: to the devices `c + 8 - n`, …, `c + 7`. -/
def OB (c : Dev nD) : ℕ → CellTallies nD τ sig Unit
  | 0 => OR c 7
  | n + 1 => OB c n + tallyAt (barC (nx c (7 - n))) () 1
abbrev O₀ (c : Dev nD) : CellTallies nD τ sig Unit := OB c 7

def L (g : GSem nD τ sig) : Finset Unit := if g.1.2 = .tc then {()} else ∅
/-- Barrier semaphores first, arrivals next; what nobody owes lowest. -/
def lv (g : GSem nD τ sig) (_ : Unit) : ℕ := match role g.2 with
  | .bar => 1
  | .rcv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

theorem OR_pos {c : Dev nD} {g : GSem nD τ sig} {u : Unit} : ∀ {n : ℕ}, 0 < OR c n g u → ∃ e : Dev nD, g = rcvC e c
  | 0, h => absurd h (Nat.lt_irrefl 0)
  | n + 1, h => by
    unfold OR at h
    rw [Pi.add_apply, Finsupp.add_apply] at h
    rcases Nat.eq_zero_or_pos (OR c n g u) with h0 | h0
    · rw [h0, Nat.zero_add] at h
      exact ⟨_, tally_pos h⟩
    · exact OR_pos h0
theorem OB_pos {c : Dev nD} {g : GSem nD τ sig} {u : Unit} : ∀ {n : ℕ}, 0 < OB c n g u → (∃ e : Dev nD, g = rcvC e c) ∨ ∃ e : Dev nD, g = barC e
  | 0, h => Or.inl (OR_pos h)
  | n + 1, h => by
    unfold OB at h
    rw [Pi.add_apply, Finsupp.add_apply] at h
    rcases Nat.eq_zero_or_pos (OB c n g u) with h0 | h0
    · rw [h0, Nat.zero_add] at h
      exact Or.inr ⟨_, tally_pos h⟩
    · exact OB_pos h0

theorem lv_rcv (c e : Dev nD) (u : Unit) : lv (rcvC c e) u = 2 := by unfold lv; rw [role_rcv]
theorem lv_bar (c : Dev nD) (u : Unit) : lv (barC c) u = 1 := rfl

/-- Whatever a device still owes, it may wait for a copy that nobody else has to supply. -/
theorem mayWait_stage (c : Dev nD) (q : DmaSem sig) (hq : role (.dma q) = .idle) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos hg with ⟨e, rfl⟩ | ⟨e, rfl⟩ <;> exact Finset.mem_singleton_self _)
      (fun p hp => by rw [Finset.mem_singleton.mp hp]; unfold lv; rw [hq])
      (fun g u hg => by
        rcases OB_pos hg with ⟨e, rfl⟩ | ⟨e, rfl⟩
        · rw [lv_rcv]; decide
        · rw [lv_bar]; decide)
  · rw [MayWait_zero]; iintro -; iempintro

/-- A device that owes no signal any more may wait at its barrier semaphore. -/
theorem mayWait_bar (c : Dev nD) (n : ℕ) : (levAts L lv : sProp 𝕄) ⊢ MayWait (c : Thread nD τ) (.reg barS) () (OR c n) :=
  MayOwe.of_cut (L := L) (lev := lv) 1 (fun p hp => by rw [Finset.mem_singleton.mp hp, L_tc]; exact Finset.mem_singleton_self _)
    (fun g u hg => by obtain ⟨e, rfl⟩ := OR_pos hg; exact Finset.mem_singleton_self _)
    (fun p hp => by rw [Finset.mem_singleton.mp hp, lv_bar])
    (fun g u hg => by obtain ⟨e, rfl⟩ := OR_pos hg; rw [lv_rcv]; decide)

end Cert.KernelIdeal.Gather
-- ==== Proof.Steps.lean ====
/- The kernel's operations on shared semaphores, one rule each: a signal, the barrier wait, a block's departure, the wait for
   an arrival, the wait for a departure; and what a device holds between them. -/
module

public import proofs.«01_k».proof.Proof.Schedule

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The records: every exchange semaphore's invariant, and that its count has begun -/

/-- The semaphores of the exchange on one device: the barrier, eight of departures, eight of arrivals. -/
def xsem (k : Fin 17) : SemLoc sig := if k.val = 0 then .reg barS else .dma ⟨k.val, lt_trans k.isLt (by decide)⟩
abbrev kcell (ck : Dev nD × Fin 17) : GSem nD τ sig := ((ck.1 : Thread nD τ), xsem ck.2)

def sndIx (e : Dev nD) : Fin 17 := ⟨1 + e.val, by have : e.val < 8 := e.isLt; omega⟩
def rcvIx (e : Dev nD) : Fin 17 := ⟨9 + e.val, by have : e.val < 8 := e.isLt; omega⟩

theorem xsem_bar : xsem 0 = .reg barS := rfl
theorem xsem_snd (e : Dev nD) : xsem (sndIx e) = .dma (sSem e) := by
  exact if_neg (show ¬ 1 + e.val = 0 by omega)
theorem xsem_rcv (e : Dev nD) : xsem (rcvIx e) = .dma (rSem e) := by
  exact if_neg (show ¬ 9 + e.val = 0 by omega)

def records (K : Dev nD × Fin 17 → ℕ) : sProp 𝕄 :=
  iprop((bigSep Finset.univ fun ck : Dev nD × Fin 17 => cellInv ER (sched m) (K ck) (kcell ck))
    ∗ bigSep Finset.univ fun ck : Dev nD × Fin 17 => reached ER (kcell ck) 0)

instance records_persistent (K : Dev nD × Fin 17 → ℕ) : BI.Persistent (records m K) := by unfold records; infer_instance

variable (K : Dev nD × Fin 17 → ℕ)

theorem inv_at (ck : Dev nD × Fin 17) : records m K ⊢ cellInv ER (sched m) (K ck) (kcell ck) := by
  unfold records
  exact sep_elim_left.trans (bigSep_elim (Φ := fun ck : Dev nD × Fin 17 => cellInv ER (sched m) (K ck) (kcell ck)) (Finset.mem_univ ck))
theorem reached_at (ck : Dev nD × Fin 17) : records m K ⊢ reached ER (kcell ck) 0 := by
  unfold records
  exact sep_elim_right.trans (bigSep_elim (Φ := fun ck : Dev nD × Fin 17 => reached ER (kcell ck) 0) (Finset.mem_univ ck))

theorem inv_bar (c : Dev nD) : records m K ⊢ cellInv ER (sched m) (K (c, 0)) (barC c) := inv_at m K (c, 0)
theorem inv_snd (c e : Dev nD) : records m K ⊢ cellInv ER (sched m) (K (c, sndIx e)) (sndC c e) := by
  have h := inv_at m K (c, sndIx e); rwa [show kcell (c, sndIx e) = sndC c e from congrArg (Prod.mk _) (xsem_snd e)] at h
theorem inv_rcv (c e : Dev nD) : records m K ⊢ cellInv ER (sched m) (K (c, rcvIx e)) (rcvC c e) := by
  have h := inv_at m K (c, rcvIx e); rwa [show kcell (c, rcvIx e) = rcvC c e from congrArg (Prod.mk _) (xsem_rcv e)] at h
theorem reached_bar (c : Dev nD) : records m K ⊢ reached ER (barC c) 0 := reached_at m K (c, 0)
theorem reached_snd (c e : Dev nD) : records m K ⊢ reached ER (sndC c e) 0 := by
  have h := reached_at m K (c, sndIx e); rwa [show kcell (c, sndIx e) = sndC c e from congrArg (Prod.mk _) (xsem_snd e)] at h
theorem reached_rcv (c e : Dev nD) : records m K ⊢ reached ER (rcvC c e) 0 := by
  have h := reached_at m K (c, rcvIx e); rwa [show kcell (c, rcvIx e) = rcvC c e from congrArg (Prod.mk _) (xsem_rcv e)] at h

/-! ## What a device holds -/

/-- What it owes, whatever it has waited for. -/
def ow (c : Dev nD) (O : CellTallies nD τ sig Unit) : sProp 𝕄 := iprop(∃ W, owes (c : Thread nD τ) O W)

/-- For the signals left when `n` are: the duty, and the slice the signalled device may fill. -/
def sigs (c : Dev nD) : ℕ → sProp 𝕄
  | 0 => iprop(emp)
  | n + 1 => iprop((dutyTok ER (barC (nx c (7 - n))) 0 c ∗ ∃ f, gLoc c ↦[gSet (7 - n)]{fullShare} f) ∗ sigs c n)

theorem sigs_succ (c : Dev nD) (n : ℕ) : sigs c (n + 1) = (iprop((dutyTok ER (barC (nx c (7 - n))) 0 c ∗ ∃ f, gLoc c ↦[gSet (7 - n)]{fullShare} f) ∗ sigs c n) : sProp 𝕄) := rfl

/-- For the departures left when `n` are: the two duties, the place at the departure's semaphore, the rows to send. -/
def sends (c : Dev nD) : ℕ → sProp 𝕄
  | 0 => iprop(emp)
  | n + 1 => iprop((dutyTok ER (sndC c (nx c (n + 1))) 0 c ∗ dutyTok ER (rcvC (nx c (n + 1)) c) 0 c
      ∗ atPos ER (sndC c (nx c (n + 1))) 0 ∅ 0 ∗ xLoc c ↦[xSet (nx c (n + 1)).val]{fullShare} m (xLoc c)) ∗ sends c n)

theorem sends_succ (c : Dev nD) (n : ℕ) : sends m c (n + 1) = (iprop((dutyTok ER (sndC c (nx c (n + 1))) 0 c ∗ dutyTok ER (rcvC (nx c (n + 1)) c) 0 c
      ∗ atPos ER (sndC c (nx c (n + 1))) 0 ∅ 0 ∗ xLoc c ↦[xSet (nx c (n + 1)).val]{fullShare} m (xLoc c)) ∗ sends m c n) : sProp 𝕄) := rfl

/-- Of the `n` departures under way towards the devices `c + 8 - n`, …, `c + 7`: what to wait for each with. -/
def sents (c : Dev nD) : ℕ → sProp 𝕄
  | 0 => iprop(emp)
  | n + 1 => iprop((cred (tallyAt (sndC c (nx c (7 - n))) () NX) ∗ atPos ER (sndC c (nx c (7 - n))) 0 ∅ 0) ∗ sents c n)

theorem sents_succ (c : Dev nD) (n : ℕ) : sents c (n + 1) = (iprop((cred (tallyAt (sndC c (nx c (7 - n))) () NX) ∗ atPos ER (sndC c (nx c (7 - n))) 0 ∅ 0) ∗ sents c n) : sProp 𝕄) := rfl

/-- Of the `n` departures waited for, towards the devices `c + 1`, …, `c + n`: the rows and the semaphore at rest. -/
def dones (c : Dev nD) : ℕ → sProp 𝕄
  | 0 => iprop(emp)
  | n + 1 => iprop(((xLoc c ↦[xSet (nx c (n + 1)).val]{fullShare} m (xLoc c)) ∗ semVal (sndC c (nx c (n + 1))) 0) ∗ dones c n)

theorem dones_succ (c : Dev nD) (n : ℕ) : dones m c (n + 1) = (iprop(((xLoc c ↦[xSet (nx c (n + 1)).val]{fullShare} m (xLoc c)) ∗ semVal (sndC c (nx c (n + 1))) 0) ∗ dones m c n) : sProp 𝕄) := rfl

/-- For the `n` arrivals not waited for yet, from the devices `c + 8 - n`, …, `c + 7`: what to wait for each with. -/
def pend (c : Dev nD) : ℕ → sProp 𝕄
  | 0 => iprop(emp)
  | n + 1 => iprop((cred (tallyAt (rcvC c (nx c (7 - n))) () NX) ∗ atPos ER (rcvC c (nx c (7 - n))) 0 ∅ 0) ∗ pend c n)

theorem pend_succ (c : Dev nD) (n : ℕ) : pend c (n + 1) = (iprop((cred (tallyAt (rcvC c (nx c (7 - n))) () NX) ∗ atPos ER (rcvC c (nx c (7 - n))) 0 ∅ 0) ∗ pend c n) : sProp 𝕄) := rfl

/-- Of the first `n` blocks of the gathered operand: the block, filled, and its semaphore at rest. -/
def haves (c : Dev nD) : ℕ → sProp 𝕄
  | 0 => iprop(emp)
  | n + 1 => iprop(((gLoc c ↦[gSet n]{fullShare} gC m c) ∗ semVal (rcvC c (nx c n)) 0) ∗ haves c n)

theorem haves_succ (c : Dev nD) (n : ℕ) : haves m c (n + 1) = (iprop(((gLoc c ↦[gSet n]{fullShare} gC m c) ∗ semVal (rcvC c (nx c n)) 0) ∗ haves m c n) : sProp 𝕄) := rfl

abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A signal to `c + (7 - n)`. -/
theorem signal_step {α : Type} {Q : α → sProp 𝕄} {k : PUnit → Prog (TpuEff nD τ sig (Elt F) Λ₀ .tc) α} (c : Dev nD) (n : ℕ) (hn : n < 7) (d : Dev nD) (hd : d = nx c (7 - n)) (a : ℕ) (ha : a = 1) :
    iprop(records m K ∗ sigs c (n + 1) ∗ ow c (OB c (n + 1)))
      ⊢ iprop((sigs c n ∗ ow c (OB c n) -∗ run c (k ⟨⟩) Q)
          -∗ run c (.op (.semSignal (d : Thread nD τ) barS a) k) Q) := by
  subst hd ha
  have hne : c ≠ nx c (7 - n) := fun h => nx_ne c ⟨6 - n, by omega⟩ (by
    have : (⟨6 - n, by omega⟩ : Fin 7).val + 1 = 7 - n := by show 6 - n + 1 = 7 - n; omega
    rw [this]; exact h.symm)
  have hdf : df c (nx c (7 - n)) = 7 - n := df_nx c ⟨7 - n, by omega⟩
  iintro ⟨#HR, Hs, Ho⟩ Hk
  unfold ow
  icases Ho with ⟨%W, Ho⟩
  ihave Hs := (Entails.of_eq (sigs_succ c n)) $$ Hs
  icases Hs with ⟨⟨Ht, Hg⟩, Hs⟩
  iapply (Rounds.wp_signal 𝒱₀ ER (sched m) (c : Thread nD τ) none (dst := (nx c (7 - n) : Thread nD τ)) (κ := K (nx c (7 - n), 0))
      (d := c) (by rw [duties_bar]; exact Finset.mem_erase.mpr ⟨hne, Finset.mem_univ _⟩) (amount_bar m (nx c (7 - n)) c) () (OB c n) rfl)
    $$ [Ho Ht Hg]
  · isplitr; · iapply (inv_bar m K (nx c (7 - n))); iexact HR
    isplitl [Ho]; · iexact Ho
    isplitl [Ht]; · iexact Ht
    isplitl [Hg]
    · rw [payload_bar]; unfold barPay; rw [hdf]
      isplitl [Hg]; · iexact Hg
      iapply (reached_rcv m K c (nx c (7 - n))); iexact HR
    iapply (reached_bar m K (nx c (7 - n))); iexact HR
  iintro Ho
  iapply Hk
  isplitl [Hs]; · iexact Hs
  iexists W; iexact Ho

/-- The barrier wait: every other device's slice for `c` comes with it, and the semaphore is at rest. -/
theorem barrier_step {α : Type} {Q : α → sProp 𝕄} {k : PUnit → Prog (TpuEff nD τ sig (Elt F) Λ₀ .tc) α} (c : Dev nD) (a : ℕ) (ha : a = 7) :
    iprop(records m K ∗ levAts L lv ∗ cred (tallyAt (barC c) () 7) ∗ atPos ER (barC c) 0 ∅ 0 ∗ ow c (OR c 7))
      ⊢ iprop((barPays c 7 ∗ semVal (barC c) 0 ∗ ow c (OR c 7) -∗ run c (k ⟨⟩) Q)
          -∗ run c (.op (.semWait barS a) k) Q) := by
  subst ha
  iintro ⟨#HR, #Hlev, Hc, Hat, Ho⟩ Hk
  unfold ow
  icases Ho with ⟨%W, Ho⟩
  iapply (Rounds.wp_wait_rest_token 𝒱₀ ER (sched m) (c : Thread nD τ) none (κ := K (c, 0))
      (wpE_semWait_eq 𝒱₀ (c : Thread nD τ) none Set.univ) (Set.mem_univ _) () (O := OR c 7) (W := W) (R := 0) (m := 0) (T := ∅)
      (by rw [expect_bar])) $$ [Hc Ho Hat]
  · isplitr; · iapply (inv_bar m K c); iexact HR
    isplitl [Hc]; · iexact Hc
    isplitl [Ho]; · iexact Ho
    isplitr; · iapply (mayWait_bar c 7); iexact Hlev
    iexact Hat
  iintro ⟨Ho, Hat, -, Hpay⟩
  ihave Hp := (Entails.of_eq (rest_bar m c)) $$ Hpay
  imod (Rounds.cell_close ER (sched m) (Set.mem_univ (K (c, 0))) (fun h => h) (R := 0 + 1) (duties_later m (barC c))) $$ [Hat] with Hz
  · isplitr; · iapply (inv_bar m K c); iexact HR
    iexact Hat
  iapply Hk
  isplitl [Hp]; · iexact Hp
  isplitl [Hz]; · iexact Hz
  iexists _; iexact Ho

/-- A block's departure, to `c + (n + 1)`, into slice `7 - n` there. -/
theorem send_step {α : Type} {Q : α → sProp 𝕄} {k : PUnit → Prog (TpuEff nD τ sig (Elt F) Λ₀ .tc) α} (c : Dev nD) (n : ℕ) (hn : n < 7) (d : Dev nD) (hd : d = nx c (n + 1))
    (o o') (ho : o = ![0, 1024 * (7 - n)]) (ho' : o' = ![1024 * (nx c (n + 1)).val, 0]) (inb inb')
    (sS sR : DmaSem sig) (hsS : sS = sSem (nx c (n + 1))) (hsR : sR = rSem c)
    {hsc} {hsrc hdst hsem} :
    iprop(records m K ∗ sends m c (n + 1) ∗ barPays c (n + 1) ∗ sents c (6 - n) ∗ ow c (OR c (n + 1)))
      ⊢ iprop((sends m c n ∗ barPays c n ∗ sents c (7 - n) ∗ ow c (OR c n) -∗ run c (k ⟨⟩) Q)
          -∗ run c (.op (.enqueueDma (xSl o' inb') (.remote (Dev.tc d : Thread nD τ) (gSl o inb) (.dma sS) hsc) (.dma sR) hsrc hdst hsem) k) Q) := by
  subst hd
  subst hsS hsR
  have hne : nx c (n + 1) ≠ c := nx_ne c ⟨n, hn⟩
  have hdf : df (nx c (n + 1)) c = 7 - n := df_nx_back c ⟨n, hn⟩
  have hback : nx (nx c (n + 1)) (7 - n) = c := by rw [nx_nx, show n + 1 + (7 - n) = 8 by omega]; exact (nx_add_eight c 0).trans (nx_zero c)
  have hset := gSl_set (7 - n) o ho inb
  have hset' := xSl_set (nx c (n + 1)).val o' ho' inb'
  iintro ⟨#HR, Hs, Hb, Hst, Ho⟩ Hk
  unfold ow
  icases Ho with ⟨%W, Ho⟩
  ihave Hs := (Entails.of_eq (sends_succ m c n)) $$ Hs
  icases Hs with ⟨⟨Ht1, Ht2, Hat, Hx⟩, Hs⟩
  ihave Hb := (Entails.of_eq (show barPays (F := F) c (n + 1) = iprop(((∃ f, gLoc (nx c (n + 1)) ↦[(gSl o inb).view.set]{fullShare} f) ∗ reached ER (rcvC (nx c (n + 1)) c) 0) ∗ barPays c n) from by
    rw [hset, ← hdf]; rfl)) $$ Hb
  icases Hb with ⟨⟨⟨%f, Hg⟩, #Hre⟩, Hb⟩
  ihave Hx := (Entails.of_eq (show (xLoc c ↦[xSet (nx c (n + 1)).val]{fullShare} m (xLoc c) : sProp 𝕄) = (xLoc c ↦[(xSl o' inb').view.set]{fullShare} m (xLoc c)) from by rw [hset'])) $$ Hx
  iapply (Rounds.wp_send_pointsTo 𝒱₀ ER (sched m) (c : Thread nD τ) none (κ₁ := K (c, sndIx (nx c (n + 1)))) (κ₂ := K (nx c (n + 1), rcvIx c))
    (r₁ := 0) (r₂ := 0) (d₁ := c) (d₂ := c) (fd := f)
    (by rw [duties_snd m c _ hne]; exact Finset.mem_singleton_self _) (by rw [duties_rcv m _ c hne.symm]; exact Finset.mem_singleton_self _)
    () () NX rfl (amount_snd m c _ c) (amount_rcv m _ c c) (OR c n) rfl (W := W)
    (by rw [payload_snd]; unfold sndPay; rw [hset'])
    (by
      rw [payload_rcv]; unfold rcvPay
      rw [hdf, hset]
      refine Entails.of_eq (pointsTo_congr fun i hi => ?_)
      refine write_agrees (gSl o inb).view f (gC m (nx c (n + 1))) _ (fun x => ?_) i (hset ▸ hi)
      rw [gC_read m (nx c (n + 1)) (7 - n) o o' ho ho' inb inb' x, hback])) $$ [Hx Hg Ho Ht1 Ht2]
  · isplitr; · iapply (inv_snd m K c (nx c (n + 1))); iexact HR
    isplitr; · iapply (inv_rcv m K (nx c (n + 1)) c); iexact HR
    isplitl [Hx]; · iexact Hx
    isplitl [Hg]; · iexact Hg
    isplitl [Ho]; · iexact Ho
    isplitl [Ht1]; · iexact Ht1
    isplitr; · iapply (reached_snd m K c (nx c (n + 1))); iexact HR
    isplitl [Ht2]; · iexact Ht2
    iexact Hre
  iintro ⟨Hc, Ho⟩
  iapply Hk
  isplitl [Hs]; · iexact Hs
  isplitl [Hb]; · iexact Hb
  isplitl [Hc Hat Hst]
  · rw [show 7 - n = 6 - n + 1 by omega, sents_succ, show 7 - (6 - n) = n + 1 by omega]
    isplitl [Hc Hat]
    · isplitl [Hc] <;> iassumption
    iexact Hst
  iexists W; iexact Ho

/-- The wait for the arrival from `c + (7 - n)`: one more block of the gathered operand is there. -/
theorem recv_step {α : Type} {Q : α → sProp 𝕄} {k : PUnit → Prog (TpuEff nD τ sig (Elt F) Λ₀ .tc) α} (c : Dev nD) (n : ℕ) (hn : n < 7) (s : DmaSem sig) (hs : s = rSem (nx c (7 - n)))
    {sp sp' : Space}
    {srcw : Memref sig .tc sp' S1024x1024 .bf16} {dstw : Memref sig .tc sp S1024x1024 .bf16} {hsrc hdst} :
    iprop(records m K ∗ pend c (n + 1) ∗ haves m c (7 - n) ∗ ow c 0)
      ⊢ iprop((pend c n ∗ haves m c (8 - n) ∗ ow c 0 -∗ run c (k ⟨⟩) Q)
          -∗ run c (.op (.waitDma2 s srcw dstw hsrc hdst) k) Q) := by
  subst hs
  have hne : nx c (7 - n) ≠ c := by
    have h := nx_ne c ⟨6 - n, by omega⟩
    rwa [show (⟨6 - n, by omega⟩ : Fin 7).val + 1 = 7 - n by show 6 - n + 1 = 7 - n; omega] at h
  have hdf : df c (nx c (7 - n)) = 7 - n := df_nx c ⟨7 - n, by omega⟩
  iintro ⟨#HR, Hp, Hh, Ho⟩ Hk
  unfold ow
  icases Ho with ⟨%W, Ho⟩
  ihave Hp := (Entails.of_eq (pend_succ c n)) $$ Hp
  icases Hp with ⟨⟨Hc, Hat⟩, Hp⟩
  iapply (Rounds.wp_wait_rest_token 𝒱₀ ER (sched m) (c : Thread nD τ) none (κ := K (c, rcvIx (nx c (7 - n))))
      (wpE_waitDma2_eq 𝒱₀ (c : Thread nD τ) none Set.univ) (Set.mem_univ _) () (O := 0) (W := W) (R := 0) (m := 0) (T := ∅)
      (by rw [Nat.zero_add, expect_rcv m c _ hne])) $$ [Hc Ho Hat]
  · isplitr; · iapply (inv_rcv m K c (nx c (7 - n))); iexact HR
    isplitl [Hc]; · iexact Hc
    isplitl [Ho]; · iexact Ho
    isplitr; · rw [MayWait_zero]; iempintro
    iexact Hat
  iintro ⟨Ho, Hat, -, Hpay⟩
  ihave Hg := (Entails.of_eq (rest_rcv m c (nx c (7 - n)) hne)) $$ Hpay
  imod (Rounds.cell_close ER (sched m) (Set.mem_univ (K (c, rcvIx (nx c (7 - n))))) (fun h => h) (R := 0 + 1) (duties_later m (rcvC c (nx c (7 - n))))) $$ [Hat] with Hz
  · isplitr; · iapply (inv_rcv m K c (nx c (7 - n))); iexact HR
    iexact Hat
  iapply Hk
  isplitl [Hp]; · iexact Hp
  isplitl [Hh Hg Hz]
  · rw [show 8 - n = 7 - n + 1 by omega, haves_succ]
    unfold rcvPay; rw [hdf]
    isplitl [Hg Hz]
    · isplitl [Hg] <;> iassumption
    iexact Hh
  iexists _; iexact Ho

/-- The wait for the departure towards `c + (7 - n)`: its rows are back. -/
theorem sent_step {α : Type} {Q : α → sProp 𝕄} {k : PUnit → Prog (TpuEff nD τ sig (Elt F) Λ₀ .tc) α} (c : Dev nD) (n : ℕ) (hn : n < 7) (s : DmaSem sig) (hs : s = sSem (nx c (7 - n)))
    {sp sp' : Space} {srcw : Memref sig .tc sp' S1024x1024 .bf16} {dstw : Memref sig .tc sp S1024x1024 .bf16} {hsrc hdst} :
    iprop(records m K ∗ sents c (n + 1) ∗ dones m c (6 - n) ∗ ow c 0)
      ⊢ iprop((sents c n ∗ dones m c (7 - n) ∗ ow c 0 -∗ run c (k ⟨⟩) Q)
          -∗ run c (.op (.waitDma2 s srcw dstw hsrc hdst) k) Q) := by
  subst hs
  have hne : nx c (7 - n) ≠ c := by
    have h := nx_ne c ⟨6 - n, by omega⟩
    rwa [show (⟨6 - n, by omega⟩ : Fin 7).val + 1 = 7 - n by show 6 - n + 1 = 7 - n; omega] at h
  iintro ⟨#HR, Hp, Hh, Ho⟩ Hk
  unfold ow
  icases Ho with ⟨%W, Ho⟩
  ihave Hp := (Entails.of_eq (sents_succ c n)) $$ Hp
  icases Hp with ⟨⟨Hc, Hat⟩, Hp⟩
  iapply (Rounds.wp_wait_rest_token 𝒱₀ ER (sched m) (c : Thread nD τ) none (κ := K (c, sndIx (nx c (7 - n))))
      (wpE_waitDma2_eq 𝒱₀ (c : Thread nD τ) none Set.univ) (Set.mem_univ _) () (O := 0) (W := W) (R := 0) (m := 0) (T := ∅)
      (by rw [Nat.zero_add, expect_snd m c _ hne])) $$ [Hc Ho Hat]
  · isplitr; · iapply (inv_snd m K c (nx c (7 - n))); iexact HR
    isplitl [Hc]; · iexact Hc
    isplitl [Ho]; · iexact Ho
    isplitr; · rw [MayWait_zero]; iempintro
    iexact Hat
  iintro ⟨Ho, Hat, -, Hpay⟩
  ihave Hg := (Entails.of_eq (rest_snd m c (nx c (7 - n)) hne)) $$ Hpay
  imod (Rounds.cell_close ER (sched m) (Set.mem_univ (K (c, sndIx (nx c (7 - n))))) (fun h => h) (R := 0 + 1) (duties_later m (sndC c (nx c (7 - n))))) $$ [Hat] with Hz
  · isplitr; · iapply (inv_snd m K c (nx c (7 - n))); iexact HR
    iexact Hat
  iapply Hk
  isplitl [Hp]; · iexact Hp
  isplitl [Hh Hg Hz]
  · rw [show 7 - n = 6 - n + 1 by omega, dones_succ]
    unfold sndPay
    isplitl [Hg Hz]
    · isplitl [Hg] <;> iassumption
    iexact Hh
  iexists _; iexact Ho

end Cert.KernelIdeal.Gather
-- ==== Proof.Weights.lean ====
/- The kernel's local work, one rule each: the copies of weight tiles into the two slots of the weight buffer and the waits
   for them, the copy of the device's own block, the loads and the store; and what a slot holds in between. -/
module

public import proofs.«01_k».proof.Proof.Steps

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The halves of the slots -/

/-- The share of the weights that half `j` of slot `p` is filled through. -/
def wq (p : Fin 2) (j : ℕ) : PosShare TreeShare :=
  if p.val = 0 then (if j = 0 then fullShare.left.left else fullShare.left.right)
  else (if j = 0 then fullShare.right.left else fullShare.right.right)

/-- A half at rest: anything in it, its share of the weights whole. -/
def hfree (c : Dev nD) (p : Fin 2) (j : ℕ) : sProp 𝕄 :=
  iprop((∃ f, bLoc c ↦[bSet p.val j]{fullShare} f) ∗ (wLoc c ↦{wq p j} m (wLoc c)))
/-- What a copy of the weights at row block `c + r + j` and column block `h` into the half delivers; -/
def dlv (c : Dev nD) (p : Fin 2) (r : ℕ) (h : Fin 4) (j : ℕ) : sProp 𝕄 :=
  iprop((bLoc c ↦[bSet p.val j]{fullShare} wC m c r h) ∗ (wLoc c ↦[wSet (nx c (r + j)).val h.val]{wq p j} m (wLoc c)))
/-- what of the half's share stays behind meanwhile; -/
def hleft (c : Dev nD) (p : Fin 2) (r : ℕ) (h : Fin 4) (j : ℕ) : sProp 𝕄 :=
  wLoc c ↦[Finset.univ \ wSet (nx c (r + j)).val h.val]{wq p j} m (wLoc c)
/-- the half filled, its share whole again. -/
def hgot (c : Dev nD) (p : Fin 2) (r : ℕ) (h : Fin 4) (j : ℕ) : sProp 𝕄 :=
  iprop((bLoc c ↦[bSet p.val j]{fullShare} wC m c r h) ∗ (wLoc c ↦{wq p j} m (wLoc c)))

instance dlv_storable (c : Dev nD) (p : Fin 2) (r : ℕ) (h : Fin 4) (j : ℕ) : BI.Storable (upEmb : UEmb _ 𝕄) (dlv m c p r h j) := by
  unfold dlv; infer_instance

theorem hgot_free (c : Dev nD) (p : Fin 2) (r : ℕ) (h : Fin 4) (j : ℕ) : hgot m c p r h j ⊢ hfree m c p j := by
  unfold hgot hfree
  iintro ⟨H, Hw⟩
  isplitl [H]
  · iexists _; iexact H
  iexact Hw

theorem hgot_intro (c : Dev nD) (p : Fin 2) (r : ℕ) (h : Fin 4) (j : ℕ) : iprop(dlv m c p r h j ∗ hleft m c p r h j) ⊢ hgot m c p r h j := by
  unfold dlv hleft hgot
  iintro ⟨⟨H, Hw⟩, Hl⟩
  isplitl [H]; · iexact H
  iapply (pointsTo_split_subset (Finset.subset_univ (wSet (nx c (r + j)).val h.val))).2
  isplitl [Hw] <;> iassumption

/-- A slot's copies, `N` of them, `i` issued. -/
def bat (c : Dev nD) (p : Fin 2) (r : ℕ) (h : Fin 4) (N i u : ℕ) : sProp 𝕄 :=
  Transfers.Batch (n := N) EC (c : Thread nD τ) (.dma (wSem p)) () NW (fun t : Fin N => dlv m c p r h t.val) i u

/-- A slot at rest; -/
def Free (c : Dev nD) (p : Fin 2) : sProp 𝕄 := iprop(semVal ((c : Thread nD τ), .dma (wSem p)) 0 ∗ hfree m c p 0 ∗ hfree m c p 1)
/-- with its first half being filled; -/
def Fly1 (c : Dev nD) (p : Fin 2) (r : ℕ) (h : Fin 4) : sProp 𝕄 := iprop(bat m c p r h 1 1 0 ∗ hleft m c p r h 0 ∗ hfree m c p 1)
/-- with both; -/
def Fly2 (c : Dev nD) (p : Fin 2) (r : ℕ) (h : Fin 4) : sProp 𝕄 := iprop(bat m c p r h 2 2 0 ∗ hleft m c p r h 0 ∗ hleft m c p r h 1)
/-- with its first half filled; -/
def Got1 (c : Dev nD) (p : Fin 2) (r : ℕ) (h : Fin 4) : sProp 𝕄 := iprop(semVal ((c : Thread nD τ), .dma (wSem p)) 0 ∗ hgot m c p r h 0 ∗ hfree m c p 1)
/-- with both. -/
def Got2 (c : Dev nD) (p : Fin 2) (r : ℕ) (h : Fin 4) : sProp 𝕄 := iprop(semVal ((c : Thread nD τ), .dma (wSem p)) 0 ∗ hgot m c p r h 0 ∗ hgot m c p r h 1)

theorem Got1_free (c : Dev nD) (p : Fin 2) (r : ℕ) (h : Fin 4) : Got1 m c p r h ⊢ Free m c p := by
  unfold Got1 Free
  iintro ⟨Hs, H0, H1⟩
  isplitl [Hs]; · iexact Hs
  isplitl [H0]; · iapply (hgot_free m c p r h 0) $$ H0
  iexact H1
theorem Got2_free (c : Dev nD) (p : Fin 2) (r : ℕ) (h : Fin 4) : Got2 m c p r h ⊢ Free m c p := by
  unfold Got2 Free
  iintro ⟨Hs, H0, H1⟩
  isplitl [Hs]; · iexact Hs
  isplitl [H0]; · iapply (hgot_free m c p r h 0) $$ H0
  iapply (hgot_free m c p r h 1) $$ H1

/-! ## The copies -/

theorem open_slot (c : Dev nD) (p : Fin 2) (r : ℕ) (h : Fin 4) (N : ℕ) :
    Free m c p ⊢ |={Set.univ}=> iprop(bat m c p r h N 0 0 ∗ hfree m c p 0 ∗ hfree m c p 1) := by
  unfold Free bat
  iintro ⟨Hs, H⟩
  imod (Transfers.batch_alloc' EC (c : Thread nD τ) (sm := .dma (wSem p)) () NW (fun t : Fin N => dlv m c p r h t.val) (E := Set.univ)) $$ Hs with Hb
  imodintro
  isplitl [Hb]; · iexact Hb
  iexact H

theorem copy_step {α : Type} {Q : α → sProp 𝕄} {k : PUnit → Prog (TpuEff nD τ sig (Elt F) Λ₀ .tc) α} (c : Dev nD) (p : Fin 2) (r : ℕ) (h : Fin 4) (N j : ℕ) (hj : j < N)
    (o o') (ho : o = ![p.val, 1024 * j, 0]) (ho' : o' = ![1024 * (nx c (r + j)).val, 1024 * h.val]) (inb inb')
    (s : DmaSem sig) (hs : s = wSem p) {hsrc hdst hsem} :
    iprop(bat m c p r h N j 0 ∗ hfree m c p j)
      ⊢ iprop((bat m c p r h N (j + 1) 0 ∗ hleft m c p r h j -∗ run c (k ⟨⟩) Q)
          -∗ run c (.op (.enqueueDma (wSl o' inb') (.here (bSl o inb)) (.dma s) hsrc hdst hsem) k) Q) := by
  subst hs
  have hset := bSl_set p.val j o ho inb
  have hset' := wSl_set (nx c (r + j)).val h.val o' ho' inb'
  unfold bat hfree hleft
  iintro ⟨Hb, ⟨%f, Hf⟩, Hw⟩ Hk
  ihave Hw := (pointsTo_split_subset (Finset.subset_univ (wSet (nx c (r + j)).val h.val))).1 $$ Hw
  icases Hw with ⟨Hw, Hl⟩
  ihave Hw := (Entails.of_eq (show (wLoc c ↦[wSet (nx c (r + j)).val h.val]{wq p j} m (wLoc c) : sProp 𝕄) = (wLoc c ↦[(wSl o' inb').view.set]{wq p j} m (wLoc c)) from by rw [hset'])) $$ Hw
  iapply (Transfers.wp_dmaBatch EC 𝒱₀ (c : Thread nD τ) none (src := wSl o' inb') (dst := bSl o inb) (via := ReadAs.same) (sm := .dma (wSem p))
    (q := wq p j) (fs := m (wLoc c)) (Sd := bSet p.val j) (fd := f) (D := fun t : Fin N => dlv m c p r h t.val) () NW rfl hset.le hj (Nat.zero_le _)
    (by
      unfold dlv
      rw [hset']
      refine sep_mono_left (Entails.of_eq (pointsTo_congr fun i hi => ?_))
      refine write_agrees (bSl o inb).view f (wC m c r h) _ (fun x => ?_) i (hset ▸ hi)
      exact wC_read m c r h p.val j o o' ho ho' inb inb' x)) $$ [Hw Hf Hb]
  · isplitl [Hw]; · iexact Hw
    isplitl [Hf]; · iexact Hf
    iexact Hb
  iintro Hb
  iapply Hk
  isplitl [Hb]; · iexact Hb
  iexact Hl

theorem fill1_wait {α : Type} {Q : α → sProp 𝕄} {k : PUnit → Prog (TpuEff nD τ sig (Elt F) Λ₀ .tc) α} (c : Dev nD) (p : Fin 2) (r : ℕ) (h : Fin 4) (o inb)
    (s : DmaSem sig) (hs : s = wSem p) {sp : Space} {srcw : Memref sig .tc sp S1024x1024 .f32} {hsrc hdst} :
    iprop(Fly1 m c p r h ∗ ow c 0)
      ⊢ iprop((Got1 m c p r h ∗ ow c 0 -∗ run c (k ⟨⟩) Q)
          -∗ run c (.op (.waitDma2 s srcw (bSl o inb) hsrc hdst) k) Q) := by
  subst hs
  unfold Fly1 ow bat
  iintro ⟨⟨Hb, Hl, Hf⟩, ⟨%W, Ho⟩⟩ Hk
  iapply (Transfers.wp_waitBatchLast EC 𝒱₀ (c : Thread nD τ) none () (N := NW) rfl NW_pos (D := fun t : Fin 1 => dlv m c p r h t.val)
    (by rw [Nat.zero_add, Nat.mul_one]) (W := W)) $$ [Hb Ho]
  · isplitl [Hb] <;> iassumption
  iintro ⟨Hd, Hs, Ho⟩
  ihave Hd := (Entails.of_eq ((bigSep_univ_eq_bigSepL [(0 : Fin 1)] (by decide) (by decide) (fun t : Fin 1 => dlv m c p r h t.val)).trans (bigSepL_singleton _ _))) $$ Hd
  iapply Hk
  isplitr [Ho]
  · unfold Got1
    isplitl [Hs]; · iexact Hs
    isplitl [Hd Hl]
    · iapply (hgot_intro m c p r h 0)
      isplitl [Hd]; · iexact Hd
      iexact Hl
    iexact Hf
  iexists _; iexact Ho

theorem fill2_wait0 {α : Type} {Q : α → sProp 𝕄} {k : PUnit → Prog (TpuEff nD τ sig (Elt F) Λ₀ .tc) α} (c : Dev nD) (p : Fin 2) (r : ℕ) (h : Fin 4) (o inb)
    (s : DmaSem sig) (hs : s = wSem p) {sp : Space} {srcw : Memref sig .tc sp S1024x1024 .f32} {hsrc hdst} :
    iprop(bat m c p r h 2 2 0 ∗ ow c 0)
      ⊢ iprop((bat m c p r h 2 2 NW ∗ ow c 0 -∗ run c (k ⟨⟩) Q)
          -∗ run c (.op (.waitDma2 s srcw (bSl o inb) hsrc hdst) k) Q) := by
  subst hs
  unfold ow bat
  iintro ⟨Hb, ⟨%W, Ho⟩⟩ Hk
  iapply (Transfers.wp_waitBatch EC 𝒱₀ (c : Thread nD τ) none () (N := NW) rfl (D := fun t : Fin 2 => dlv m c p r h t.val)
    (u := 0) (by have := NW_pos; omega) (W := W)) $$ [Hb Ho]
  · isplitl [Hb] <;> iassumption
  iintro ⟨Hd, Ho⟩
  rw [Nat.zero_add]
  iapply Hk
  isplitl [Hd]; · iexact Hd
  iexists _; iexact Ho

theorem fill2_wait1 {α : Type} {Q : α → sProp 𝕄} {k : PUnit → Prog (TpuEff nD τ sig (Elt F) Λ₀ .tc) α} (c : Dev nD) (p : Fin 2) (r : ℕ) (h : Fin 4) (o inb)
    (s : DmaSem sig) (hs : s = wSem p) {sp : Space} {srcw : Memref sig .tc sp S1024x1024 .f32} {hsrc hdst} :
    iprop(bat m c p r h 2 2 NW ∗ hleft m c p r h 0 ∗ hleft m c p r h 1 ∗ ow c 0)
      ⊢ iprop((Got2 m c p r h ∗ ow c 0 -∗ run c (k ⟨⟩) Q)
          -∗ run c (.op (.waitDma2 s srcw (bSl o inb) hsrc hdst) k) Q) := by
  subst hs
  unfold ow bat
  iintro ⟨Hb, Hl0, Hl1, ⟨%W, Ho⟩⟩ Hk
  iapply (Transfers.wp_waitBatchLast EC 𝒱₀ (c : Thread nD τ) none () (N := NW) rfl NW_pos (D := fun t : Fin 2 => dlv m c p r h t.val)
    (u := NW) (by omega) (W := W)) $$ [Hb Ho]
  · isplitl [Hb] <;> iassumption
  iintro ⟨Hd, Hs, Ho⟩
  ihave Hd := (Entails.of_eq (show _ = iprop(dlv m c p r h 0 ∗ dlv m c p r h 1) from (bigSep_univ_eq_bigSepL [(0 : Fin 2), 1] (by decide) (by decide) (fun t : Fin 2 => dlv m c p r h t.val)))) $$ Hd
  icases Hd with ⟨Hd0, Hd1⟩
  iapply Hk
  isplitr [Ho]
  · unfold Got2
    isplitl [Hs]; · iexact Hs
    isplitl [Hd0 Hl0]
    · iapply (hgot_intro m c p r h 0)
      isplitl [Hd0]; · iexact Hd0
      iexact Hl0
    iapply (hgot_intro m c p r h 1)
    isplitl [Hd1]; · iexact Hd1
    iexact Hl1
  iexists _; iexact Ho

/-! ## The device's own block -/

/-- What the copy of the device's own block delivers. -/
def ldlv (c : Dev nD) : sProp 𝕄 :=
  iprop((gLoc c ↦[gSet 0]{fullShare} gC m c) ∗ (xLoc c ↦[xSet c.val]{fullShare} m (xLoc c)))
instance ldlv_storable (c : Dev nD) : BI.Storable (upEmb : UEmb _ 𝕄) (ldlv m c) := by unfold ldlv; infer_instance
/-- That copy under way. -/
def LFly (c : Dev nD) : sProp 𝕄 := Transfers.Batch (n := 1) EC (c : Thread nD τ) (.dma lSem) () NX (fun _ : Fin 1 => ldlv m c) 1 0

theorem own_step {α : Type} {Q : α → sProp 𝕄} {k : PUnit → Prog (TpuEff nD τ sig (Elt F) Λ₀ .tc) α} (c : Dev nD) (o o') (ho : o = ![0, 0]) (ho' : o' = ![1024 * c.val, 0]) (inb inb') {hsrc hdst hsem} :
    iprop(semVal ((c : Thread nD τ), .dma lSem) 0 ∗ (∃ f, gLoc c ↦[gSet 0]{fullShare} f) ∗ (xLoc c ↦[xSet c.val]{fullShare} m (xLoc c)))
      ⊢ iprop((LFly m c -∗ run c (k ⟨⟩) Q)
          -∗ run c (.op (.enqueueDma (xSl o' inb') (.here (gSl o inb)) (.dma lSem) hsrc hdst hsem) k) Q) := by
  have hset := gSl_set 0 o (ho.trans (by rw [Nat.mul_zero])) inb
  have hset' := xSl_set c.val o' ho' inb'
  iintro ⟨Hs, ⟨%f, Hf⟩, Hx⟩ Hk
  imod (Transfers.batch_alloc' EC (c : Thread nD τ) (sm := .dma lSem) () NX (fun _ : Fin 1 => ldlv m c) (E := Set.univ)) $$ Hs with Hb
  ihave Hx := (Entails.of_eq (show (xLoc c ↦[xSet c.val]{fullShare} m (xLoc c) : sProp 𝕄) = (xLoc c ↦[(xSl o' inb').view.set]{fullShare} m (xLoc c)) from by rw [hset'])) $$ Hx
  iapply (Transfers.wp_dmaBatch EC 𝒱₀ (c : Thread nD τ) none (src := xSl o' inb') (dst := gSl o inb) (via := ReadAs.same) (sm := .dma lSem)
    (q := fullShare) (fs := m (xLoc c)) (Sd := gSet 0) (fd := f) (D := fun _ : Fin 1 => ldlv m c) () NX rfl hset.le Nat.one_pos (Nat.zero_le _)
    (by
      unfold ldlv
      rw [hset']
      refine sep_mono_left (Entails.of_eq (pointsTo_congr fun i hi => ?_))
      refine write_agrees (gSl o inb).view f (gC m c) _ (fun x => ?_) i (hset ▸ hi)
      rw [gC_read m c 0 o o' (ho.trans (by rw [Nat.mul_zero])) ho' inb inb' x, nx_zero])) $$ [Hx Hf Hb]
  · isplitl [Hx]; · iexact Hx
    isplitl [Hf]; · iexact Hf
    iexact Hb
  iintro Hb
  iapply Hk
  unfold LFly
  iexact Hb

theorem own_wait {α : Type} {Q : α → sProp 𝕄} {k : PUnit → Prog (TpuEff nD τ sig (Elt F) Λ₀ .tc) α} (c : Dev nD) {sp sp' : Space} {srcw : Memref sig .tc sp' S1024x1024 .bf16} {dstw : Memref sig .tc sp S1024x1024 .bf16} {hsrc hdst} :
    iprop(LFly m c ∗ ow c 0)
      ⊢ iprop(((gLoc c ↦[gSet 0]{fullShare} gC m c) ∗ (xLoc c ↦[xSet c.val]{fullShare} m (xLoc c)) ∗ semVal ((c : Thread nD τ), .dma lSem) 0 ∗ ow c 0 -∗ run c (k ⟨⟩) Q)
          -∗ run c (.op (.waitDma2 lSem srcw dstw hsrc hdst) k) Q) := by
  unfold LFly ow
  iintro ⟨Hb, ⟨%W, Ho⟩⟩ Hk
  iapply (Transfers.wp_waitBatchLast EC 𝒱₀ (c : Thread nD τ) none () (N := NX) rfl NX_pos (D := fun _ : Fin 1 => ldlv m c)
    (by rw [Nat.zero_add, Nat.mul_one]) (W := W)) $$ [Hb Ho]
  · isplitl [Hb] <;> iassumption
  iintro ⟨Hd, Hs, Ho⟩
  ihave Hd := (Entails.of_eq (bigSep_univ_eq_bigSepL [(0 : Fin 1)] (by decide) (by decide) (fun _ : Fin 1 => ldlv m c))) $$ Hd
  ihave Hd := (show (bigSepL [(0 : Fin 1)] (fun _ => ldlv m c) : sProp 𝕄) ⊢ iprop((gLoc c ↦[gSet 0]{fullShare} gC m c) ∗ (xLoc c ↦[xSet c.val]{fullShare} m (xLoc c))) from Entails.of_eq rfl) $$ Hd
  icases Hd with ⟨Hg, Hx⟩
  iapply Hk
  isplitl [Hg]; · iexact Hg
  isplitl [Hx]; · iexact Hx
  isplitl [Hs]; · iexact Hs
  iexists _; iexact Ho

/-! ## The loads and the store -/

theorem gM_covers (j w : ℕ) (o) (ho : o = ![0, 1024 * j]) (sz : Fin 2 → ℕ) (hsz : sz = ![1024, 1024 * w]) (inb) :
    ∀ i ∈ gM.view.setOn (Rect.unit (s := S1024x8192) o sz inb).toLoadRect.set, j ≤ (i 1).val / 1024 ∧ (i 1).val / 1024 < j + w := by
  subst ho hsz
  intro i hi
  obtain ⟨x, hx, rfl⟩ := Finset.mem_map.mp hi
  have h := (Rect.mem_set_unit.mp hx) 1
  have h' : 1024 * j ≤ (x 1).val ∧ (x 1).val < 1024 * j + 1024 * w := h
  show j ≤ (x 1).val / 1024 ∧ (x 1).val / 1024 < j + w
  omega

theorem gload1 {α : Type} {Q : α → sProp 𝕄} {k : Vec F S1024x1024 .bf16 → Prog (TpuEff nD τ sig (Elt F) Λ₀ .tc) α} (c : Dev nD) (j : Fin 8) (o) (ho : o = ![0, 1024 * j.val]) (inb) {hl} :
    (gLoc c ↦[gSet j.val]{fullShare} gC m c)
      ⊢ iprop(((gLoc c ↦[gSet j.val]{fullShare} gC m c) -∗ run c (k (gv1 m c j)) Q)
          -∗ run c (.op (.load gM (Rect.unit (s := S1024x8192) o S1024x1024.size inb).toLoadRect hl) k) Q) := by
  rw [← read_gv1 m c j o ho inb]
  refine wp_load 𝒱₀ (c : Thread nD τ) none Set.univ (m := gM) (fun i hi => Finset.mem_filter.mpr ⟨Finset.mem_univ _, ?_⟩)
  have h := gM_covers j.val 1 o ho S1024x1024.size rfl inb i hi
  exact Nat.le_antisymm (by omega) h.1

theorem gload2 {α : Type} {Q : α → sProp 𝕄} {k : Vec F S1024x2048 .bf16 → Prog (TpuEff nD τ sig (Elt F) Λ₀ .tc) α} (c : Dev nD) (j : Fin 7) (o) (ho : o = ![0, 1024 * j.val]) (inb) {hl} :
    iprop((gLoc c ↦[gSet j.val]{fullShare} gC m c) ∗ (gLoc c ↦[gSet (j.val + 1)]{fullShare} gC m c))
      ⊢ iprop(((gLoc c ↦[gSet j.val]{fullShare} gC m c) ∗ (gLoc c ↦[gSet (j.val + 1)]{fullShare} gC m c) -∗ run c (k (gv2 m c j)) Q)
          -∗ run c (.op (.load gM (Rect.unit (s := S1024x8192) o S1024x2048.size inb).toLoadRect hl) k) Q) := by
  rw [← read_gv2 m c j o ho inb]
  have hd : Disjoint (gSet j.val) (gSet (j.val + 1)) := Finset.disjoint_left.mpr fun i h h' => by
    have h1 := (Finset.mem_filter.mp h).2
    have h2 := (Finset.mem_filter.mp h').2
    omega
  have hu := pointsTo_union (Ix := Unit) (Name := ℕ) (U := UU) (Lvl := ℕ) (ℓ := gLoc c) (q := fullShare) (f := gC m c) hd
  iintro Hb Hk
  ihave Hb := hu.2 $$ Hb
  iapply (wp_load 𝒱₀ (c : Thread nD τ) none Set.univ (m := gM) (S := gSet j.val ∪ gSet (j.val + 1)) (fun i hi => Finset.mem_union.mpr (by
    have h := gM_covers j.val 2 o ho S1024x2048.size rfl inb i hi
    rcases Nat.lt_or_ge ((i 1).val / 1024) (j.val + 1) with h' | h'
    · exact Or.inl (Finset.mem_filter.mpr ⟨Finset.mem_univ _, Nat.le_antisymm (by omega) h.1⟩)
    · exact Or.inr (Finset.mem_filter.mpr ⟨Finset.mem_univ _, Nat.le_antisymm (by omega) h'⟩)))) $$ Hb
  iintro Hb
  ihave Hb := hu.1 $$ Hb
  iapply Hk
  iexact Hb

theorem bM_covers (p w : ℕ) (o) (ho : o = ![p, 0, 0]) (sz : Fin 3 → ℕ) (hsz : sz = ![1, 1024 * w, 1024]) (inb) :
    ∀ i ∈ bM.view.setOn (Rect.unit (s := S2x2048x1024) o sz inb).toLoadRect.set, (i 0).val = p ∧ (i 1).val / 1024 < w := by
  subst ho hsz
  intro i hi
  obtain ⟨x, hx, rfl⟩ := Finset.mem_map.mp hi
  have h0 : p ≤ (x 0).val ∧ (x 0).val < p + 1 := (Rect.mem_set_unit.mp hx) 0
  have h1 : 0 ≤ (x 1).val ∧ (x 1).val < 0 + 1024 * w := (Rect.mem_set_unit.mp hx) 1
  show (x 0).val = p ∧ (x 1).val / 1024 < w
  omega

theorem bload1 {α : Type} {Q : α → sProp 𝕄} {k : Vec F S1x1024x1024 .f32 → Prog (TpuEff nD τ sig (Elt F) Λ₀ .tc) α} (c : Dev nD) (p : Fin 2) (r : ℕ) (h : Fin 4) (o) (ho : o = ![p.val, 0, 0]) (inb) {hl} :
    Got1 m c p r h
      ⊢ iprop((Got1 m c p r h -∗ run c (k (wv1 m c r h)) Q)
          -∗ run c (.op (.load bM (Rect.unit (s := S2x2048x1024) o S1x1024x1024.size inb).toLoadRect hl) k) Q) := by
  rw [← read_wv1 m c r h p.val o ho inb]
  unfold Got1 hgot
  iintro ⟨Hs, ⟨Hb, Hw⟩, Hf⟩ Hk
  iapply (wp_load 𝒱₀ (c : Thread nD τ) none Set.univ (m := bM) (S := bSet p.val 0) (fun i hi => Finset.mem_filter.mpr ⟨Finset.mem_univ _, by
    have h := bM_covers p.val 1 o ho S1x1024x1024.size rfl inb i hi
    exact ⟨h.1, by omega⟩⟩)) $$ Hb
  iintro Hb
  iapply Hk
  isplitl [Hs]; · iexact Hs
  isplitr [Hf]
  · isplitl [Hb] <;> iassumption
  iexact Hf

theorem bload2 {α : Type} {Q : α → sProp 𝕄} {k : Vec F S1x2048x1024 .f32 → Prog (TpuEff nD τ sig (Elt F) Λ₀ .tc) α} (c : Dev nD) (p : Fin 2) (r : ℕ) (h : Fin 4) (o) (ho : o = ![p.val, 0, 0]) (inb) {hl} :
    Got2 m c p r h
      ⊢ iprop((Got2 m c p r h -∗ run c (k (wv2 m c r h)) Q)
          -∗ run c (.op (.load bM (Rect.unit (s := S2x2048x1024) o S1x2048x1024.size inb).toLoadRect hl) k) Q) := by
  rw [← read_wv2 m c r h p.val o ho inb]
  have hd : Disjoint (bSet p.val 0) (bSet p.val 1) := Finset.disjoint_left.mpr fun i h h' => by
    have h1 := (Finset.mem_filter.mp h).2.2
    have h2 := (Finset.mem_filter.mp h').2.2
    omega
  have hu := pointsTo_union (Ix := Unit) (Name := ℕ) (U := UU) (Lvl := ℕ) (ℓ := bLoc c) (q := fullShare) (f := wC m c r h) hd
  unfold Got2 hgot
  iintro ⟨Hs, ⟨Hb0, Hw0⟩, ⟨Hb1, Hw1⟩⟩ Hk
  ihave Hb := hu.2 $$ [Hb0 Hb1]
  · isplitl [Hb0] <;> iassumption
  iapply (wp_load 𝒱₀ (c : Thread nD τ) none Set.univ (m := bM) (S := bSet p.val 0 ∪ bSet p.val 1) (fun i hi => Finset.mem_union.mpr (by
    have h := bM_covers p.val 2 o ho S1x2048x1024.size rfl inb i hi
    rcases Nat.lt_or_ge ((i 1).val / 1024) 1 with h' | h'
    · exact Or.inl (Finset.mem_filter.mpr ⟨Finset.mem_univ _, h.1, by omega⟩)
    · exact Or.inr (Finset.mem_filter.mpr ⟨Finset.mem_univ _, h.1, by omega⟩)))) $$ Hb
  iintro Hb
  ihave Hb := hu.1 $$ Hb
  icases Hb with ⟨Hb0, Hb1⟩
  iapply Hk
  isplitl [Hs]; · iexact Hs
  isplitl [Hb0 Hw0]
  · isplitl [Hb0] <;> iassumption
  isplitl [Hb1] <;> iassumption

theorem oload {α : Type} {Q : α → sProp 𝕄} {k : Vec F S1024x1024 .f32 → Prog (TpuEff nD τ sig (Elt F) Λ₀ .tc) α} (c : Dev nD) (h : Fin 4) (f : Vec F S1024x4096 .f32) (o) (ho : o = ![0, 1024 * h.val]) (inb) {hl} :
    (oLoc c ↦{fullShare} (f : Buf (Elt F) (oLoc c)))
      ⊢ iprop(((oLoc c ↦{fullShare} (f : Buf (Elt F) (oLoc c))) -∗ run c (k (oblk f h)) Q)
          -∗ run c (.op (.load oM (Rect.unit (s := S1024x4096) o S1024x1024.size inb).toLoadRect hl) k) Q) := by
  rw [← read_oblk f h o ho inb]
  exact wp_load 𝒱₀ (c : Thread nD τ) none Set.univ (m := oM) (Finset.subset_univ _)

theorem ostore {α : Type} {Q : α → sProp 𝕄} {k : PUnit → Prog (TpuEff nD τ sig (Elt F) Λ₀ .tc) α} (c : Dev nD) (h : Fin 4) (f : Vec F S1024x4096 .f32) (w : Vec F S1024x1024 .f32) (o) (ho : o = ![0, 1024 * h.val]) (inb) {hx hm} :
    (oLoc c ↦{fullShare} (f : Buf (Elt F) (oLoc c)))
      ⊢ iprop((∀ f' : Vec F S1024x4096 .f32, ⌜∀ h', oblk f' h' = if h' = h then w else oblk f h'⌝ -∗ (oLoc c ↦{fullShare} (f' : Buf (Elt F) (oLoc c))) -∗ run c (k ⟨⟩) Q)
          -∗ run c (.op (.store oM (Rect.unit (s := S1024x4096) o S1024x1024.size inb) w Finset.univ hx hm) k) Q) := by
  iintro Ho Hk
  iapply (wp_store 𝒱₀ (c : Thread nD τ) none Set.univ (m := oM) (r := Rect.unit (s := S1024x4096) o S1024x1024.size inb) (Mk := Finset.univ) (Finset.subset_univ _)) $$ Ho
  iintro Ho
  iapply Hk $$ [] Ho
  ipureintro
  exact fun h' => write_oblk f w h h' o ho inb

end Cert.KernelIdeal.Gather
-- ==== Proof.Moves.lean ====
/- The kernel's local work, grouped: filling a slot of the weight buffer, and using a slot that is being filled, with the
   gathered block beside it, to update one column block of the output. -/
module

public import proofs.«01_k».proof.Proof.Weights

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem fill1 {α : Type} {Q : α → sProp 𝕄} {k : PUnit → Prog (TpuEff nD τ sig (Elt F) Λ₀ .tc) α} (c : Dev nD) (p : Fin 2) (r : ℕ) (h : Fin 4)
    (o o') (ho : o = ![p.val, 0, 0]) (ho' : o' = ![1024 * (nx c r).val, 1024 * h.val]) (inb inb') (s : DmaSem sig) (hs : s = wSem p) {hsrc hdst hsem} :
    Free m c p
      ⊢ iprop((Fly1 m c p r h -∗ run c (k ⟨⟩) Q)
          -∗ run c (.op (.enqueueDma (wSl o' inb') (.here (bSl o inb)) (.dma s) hsrc hdst hsem) k) Q) := by
  iintro H Hk
  imod (open_slot m c p r h 1) $$ H with ⟨Hb, H0, H1⟩
  iapply (copy_step m c p r h 1 0 Nat.one_pos o o' (ho.trans (by rw [Nat.mul_zero])) (ho'.trans (by rw [Nat.add_zero])) inb inb' s hs) $$ [Hb H0]
  · isplitl [Hb] <;> iassumption
  iintro ⟨Hb, Hl⟩
  iapply Hk
  unfold Fly1
  isplitl [Hb]; · iexact Hb
  isplitl [Hl]; · iexact Hl
  iexact H1

theorem fill2 {α : Type} {Q : α → sProp 𝕄} {k : PUnit → Prog (TpuEff nD τ sig (Elt F) Λ₀ .tc) α} (c : Dev nD) (p : Fin 2) (r : ℕ) (h : Fin 4)
    (o o' u u') (ho : o = ![p.val, 0, 0]) (ho' : o' = ![1024 * (nx c r).val, 1024 * h.val]) (hu : u = ![p.val, 1024, 0]) (hu' : u' = ![1024 * (nx c (r + 1)).val, 1024 * h.val])
    (inb inb' jnb jnb') (s t : DmaSem sig) (hs : s = wSem p) (ht : t = wSem p) {hsrc hdst hsem hsrc' hdst' hsem'} :
    Free m c p
      ⊢ iprop((Fly2 m c p r h -∗ run c (k ⟨⟩) Q)
          -∗ run c (.op (.enqueueDma (wSl o' inb') (.here (bSl o inb)) (.dma s) hsrc hdst hsem)
              fun _ => .op (.enqueueDma (wSl u' jnb') (.here (bSl u jnb)) (.dma t) hsrc' hdst' hsem') k) Q) := by
  iintro H Hk
  imod (open_slot m c p r h 2) $$ H with ⟨Hb, H0, H1⟩
  iapply (copy_step m c p r h 2 0 (by decide) o o' (ho.trans (by rw [Nat.mul_zero])) (ho'.trans (by rw [Nat.add_zero])) inb inb' s hs) $$ [Hb H0]
  · isplitl [Hb] <;> iassumption
  iintro ⟨Hb, Hl⟩
  iapply (copy_step m c p r h 2 1 (by decide) u u' (hu.trans (by rw [Nat.mul_one])) hu' jnb jnb' t ht) $$ [Hb H1]
  · isplitl [Hb] <;> iassumption
  iintro ⟨Hb, Hl'⟩
  iapply Hk
  unfold Fly2
  isplitl [Hb]; · iexact Hb
  isplitl [Hl]; · iexact Hl
  iexact Hl'

/-- The column block `h` holds `w`, the others are as before. -/
def Put (f f' : Vec F S1024x4096 .f32) (h : Fin 4) (w : Vec F S1024x1024 .f32) : Prop := ∀ h', oblk f' h' = if h' = h then w else oblk f h'

/-- The update of column block `h`: its old value is read, once -/
theorem out1 {α : Type} {Q : α → sProp 𝕄} {k : PUnit → Prog (TpuEff nD τ sig (Elt F) Λ₀ .tc) α} (c : Dev nD) (h : Fin 4) (f : Vec F S1024x4096 .f32) (w : Vec F S1024x1024 .f32)
    (oo oo') (hoo : oo = ![0, 1024 * h.val]) (hoo' : oo' = ![0, 1024 * h.val]) (ino ino') {h5 h7 h8} :
    (oLoc c ↦{fullShare} (f : Buf (Elt F) (oLoc c)))
      ⊢ iprop((∀ f' : Vec F S1024x4096 .f32, ⌜Put f f' h w⌝ -∗ (oLoc c ↦{fullShare} (f' : Buf (Elt F) (oLoc c))) -∗ run c (k ⟨⟩) Q)
          -∗ run c (.op (.load oM (Rect.unit (s := S1024x4096) oo S1024x1024.size ino).toLoadRect h5)
              fun _ => .op (.store oM (Rect.unit (s := S1024x4096) oo' S1024x1024.size ino') w Finset.univ h7 h8) k) Q) := by
  iintro Hout Hk
  iapply (oload c h f oo hoo ino) $$ Hout
  iintro Hout
  iapply (ostore c h f w oo' hoo' ino') $$ Hout
  iintro %f' %hf' Hout
  iapply Hk $$ [] Hout
  ipureintro; exact hf'

/-- or twice, the first time for its use. -/
theorem out2 {α : Type} {Q : α → sProp 𝕄} {k : PUnit → Prog (TpuEff nD τ sig (Elt F) Λ₀ .tc) α} (c : Dev nD) (h : Fin 4) (f : Vec F S1024x4096 .f32) (pay : Vec F S1024x1024 .f32 → Vec F S1024x1024 .f32)
    (oo oo' oo'') (hoo : oo = ![0, 1024 * h.val]) (hoo' : oo' = ![0, 1024 * h.val]) (hoo'' : oo'' = ![0, 1024 * h.val]) (ino ino' ino'') {h5 h6 h7 h8} :
    (oLoc c ↦{fullShare} (f : Buf (Elt F) (oLoc c)))
      ⊢ iprop((∀ f' : Vec F S1024x4096 .f32, ⌜Put f f' h (pay (oblk f h))⌝ -∗ (oLoc c ↦{fullShare} (f' : Buf (Elt F) (oLoc c))) -∗ run c (k ⟨⟩) Q)
          -∗ run c (.op (.load oM (Rect.unit (s := S1024x4096) oo S1024x1024.size ino).toLoadRect h5)
              fun o => .op (.load oM (Rect.unit (s := S1024x4096) oo' S1024x1024.size ino').toLoadRect h6)
              fun _ => .op (.store oM (Rect.unit (s := S1024x4096) oo'' S1024x1024.size ino'') (pay o) Finset.univ h7 h8) k) Q) := by
  iintro Hout Hk
  iapply (oload c h f oo hoo ino) $$ Hout
  iintro Hout
  iapply (out1 c h f (pay (oblk f h)) oo' oo'' hoo' hoo'' ino' ino'') $$ Hout
  iexact Hk

/-- A slot filled in one half: the wait for it, and the two operands read. -/
theorem use1 {α : Type} {Q : α → sProp 𝕄} {k : Vec F S1024x1024 .bf16 → Vec F S1x1024x1024 .f32 → Prog (TpuEff nD τ sig (Elt F) Λ₀ .tc) α} (c : Dev nD) (p : Fin 2) (r : Fin 8) (h : Fin 4)
    (og ob) (hg : og = ![0, 1024 * r.val]) (hb : ob = ![p.val, 0, 0])
    (ow₀ inw ing inbb) (s : DmaSem sig) (hs : s = wSem p) {sp : Space} {srcw : Memref sig .tc sp S1024x1024 .f32} {h1 h2 h3 h4} :
    iprop(Fly1 m c p r.val h ∗ haves m c (r.val + 1) ∗ ow c 0)
      ⊢ iprop((Free m c p ∗ haves m c (r.val + 1) ∗ ow c 0 -∗ run c (k (gv1 m c r) (wv1 m c r.val h)) Q)
          -∗ run c (.op (.waitDma2 s srcw (bSl ow₀ inw) h1 h2)
              fun _ => .op (.load gM (Rect.unit (s := S1024x8192) og S1024x1024.size ing).toLoadRect h3)
              fun g => .op (.load bM (Rect.unit (s := S2x2048x1024) ob S1x1024x1024.size inbb).toLoadRect h4)
              fun b => k g b) Q) := by
  iintro ⟨Hf, Hh, Ho⟩ Hk
  iapply (fill1_wait m c p r.val h ow₀ inw s hs) $$ [Hf Ho]
  · isplitl [Hf] <;> iassumption
  iintro ⟨Hg, Ho⟩
  ihave Hh := (Entails.of_eq (haves_succ m c r.val)) $$ Hh
  icases Hh with ⟨⟨Hs, Hsem⟩, Hh⟩
  iapply (gload1 m c r og hg ing) $$ Hs
  iintro Hs
  iapply (bload1 m c p r.val h ob hb inbb) $$ Hg
  iintro Hg
  iapply Hk
  isplitl [Hg]; · iapply (Got1_free m c p r.val h) $$ Hg
  isplitr [Ho]
  · iapply (Entails.of_eq (haves_succ m c r.val).symm)
    isplitr [Hh]
    · isplitl [Hs] <;> iassumption
    iexact Hh
  iexact Ho

/-- A slot filled in both. -/
theorem use2 {α : Type} {Q : α → sProp 𝕄} {k : Vec F S1024x2048 .bf16 → Vec F S1x2048x1024 .f32 → Prog (TpuEff nD τ sig (Elt F) Λ₀ .tc) α} (c : Dev nD) (p : Fin 2) (r : Fin 7) (h : Fin 4)
    (og ob) (hg : og = ![0, 1024 * r.val]) (hb : ob = ![p.val, 0, 0])
    (ow₀ inw ow₁ inw' ing inbb) (s t : DmaSem sig) (hs : s = wSem p) (ht : t = wSem p) {sp sp' : Space} {srcw : Memref sig .tc sp S1024x1024 .f32} {srcw' : Memref sig .tc sp' S1024x1024 .f32}
    {h1 h2 h1' h2' h3 h4} :
    iprop(Fly2 m c p r.val h ∗ haves m c (r.val + 2) ∗ ow c 0)
      ⊢ iprop((Free m c p ∗ haves m c (r.val + 2) ∗ ow c 0 -∗ run c (k (gv2 m c r) (wv2 m c r.val h)) Q)
          -∗ run c (.op (.waitDma2 s srcw (bSl ow₀ inw) h1 h2)
              fun _ => .op (.waitDma2 t srcw' (bSl ow₁ inw') h1' h2')
              fun _ => .op (.load gM (Rect.unit (s := S1024x8192) og S1024x2048.size ing).toLoadRect h3)
              fun g => .op (.load bM (Rect.unit (s := S2x2048x1024) ob S1x2048x1024.size inbb).toLoadRect h4)
              fun b => k g b) Q) := by
  unfold Fly2
  iintro ⟨⟨Hb, Hl0, Hl1⟩, Hh, Ho⟩ Hk
  iapply (fill2_wait0 m c p r.val h ow₀ inw s hs) $$ [Hb Ho]
  · isplitl [Hb] <;> iassumption
  iintro ⟨Hb, Ho⟩
  iapply (fill2_wait1 m c p r.val h ow₁ inw' t ht) $$ [Hb Hl0 Hl1 Ho]
  · isplitl [Hb]; · iexact Hb
    isplitl [Hl0]; · iexact Hl0
    isplitl [Hl1]; · iexact Hl1
    iexact Ho
  iintro ⟨Hg, Ho⟩
  ihave Hh := (Entails.of_eq (haves_succ m c (r.val + 1))) $$ Hh
  icases Hh with ⟨⟨Hs1, Hsem1⟩, Hh⟩
  ihave Hh := (Entails.of_eq (haves_succ m c r.val)) $$ Hh
  icases Hh with ⟨⟨Hs0, Hsem0⟩, Hh⟩
  iapply (gload2 m c r og hg ing) $$ [Hs0 Hs1]
  · isplitl [Hs0] <;> iassumption
  iintro ⟨Hs0, Hs1⟩
  iapply (bload2 m c p r.val h ob hb inbb) $$ Hg
  iintro Hg
  iapply Hk
  isplitl [Hg]; · iapply (Got2_free m c p r.val h) $$ Hg
  isplitr [Ho]
  · iapply (Entails.of_eq (haves_succ m c (r.val + 1)).symm)
    isplitl [Hs1 Hsem1]
    · isplitl [Hs1] <;> iassumption
    iapply (Entails.of_eq (haves_succ m c r.val).symm)
    isplitr [Hh]
    · isplitl [Hs0] <;> iassumption
    iexact Hh
  iexact Ho

/-! ## The arrivals -/

/-- `R` slices of the gathered block are there, the rest pending. -/
def gat (c : Dev nD) (R : ℕ) : sProp 𝕄 := iprop(haves m c R ∗ pend c (8 - R))

theorem gat_step {α : Type} {Q : α → sProp 𝕄} {k : PUnit → Prog (TpuEff nD τ sig (Elt F) Λ₀ .tc) α} (K : Dev nD × Fin 17 → ℕ) (c : Dev nD) (R : ℕ) (hR : 1 ≤ R) (hR' : R ≤ 7)
    (s : DmaSem sig) (hs : s = rSem (nx c R)) {sp sp' : Space} {srcw : Memref sig .tc sp' S1024x1024 .bf16} {dstw : Memref sig .tc sp S1024x1024 .bf16} {hsrc hdst} :
    iprop(records m K ∗ gat m c R ∗ ow c 0)
      ⊢ iprop((gat m c (R + 1) ∗ ow c 0 -∗ run c (k ⟨⟩) Q)
          -∗ run c (.op (.waitDma2 s srcw dstw hsrc hdst) k) Q) := by
  have h1 : 7 - (7 - R) = R := by omega
  have h2 : 7 - R + 1 = 8 - R := by omega
  have h3 : 8 - (7 - R) = R + 1 := by omega
  have h4 : 7 - R = 8 - (R + 1) := by omega
  have step := recv_step (Q := Q) (k := k) (srcw := srcw) (dstw := dstw) (hsrc := hsrc) (hdst := hdst) m K c (7 - R) (by omega) s (by rw [h1]; exact hs)
  rw [h1, h2, h3, h4] at step
  unfold gat
  iintro ⟨HR, ⟨Hh, Hp⟩, Ho⟩ Hk
  iapply step $$ [HR Hh Hp Ho]
  · isplitl [HR]; · iexact HR
    isplitl [Hp]; · iexact Hp
    isplitl [Hh] <;> iassumption
  iintro ⟨Hp, Hh, Ho⟩
  iapply Hk
  isplitr [Ho]
  · isplitl [Hh] <;> iassumption
  iexact Ho

/-- Two arrivals. -/
theorem gat_step2 {α : Type} {Q : α → sProp 𝕄} {k : PUnit → Prog (TpuEff nD τ sig (Elt F) Λ₀ .tc) α} (K : Dev nD × Fin 17 → ℕ) (c : Dev nD) (R : ℕ) (hR : 1 ≤ R) (hR' : R + 1 ≤ 7)
    (s t : DmaSem sig) (hs : s = rSem (nx c R)) (ht : t = rSem (nx c (R + 1))) {sp sp' : Space} {srcw : Memref sig .tc sp' S1024x1024 .bf16} {dstw : Memref sig .tc sp S1024x1024 .bf16} {hsrc hdst}
    {sq sq' : Space} {srcw' : Memref sig .tc sq' S1024x1024 .bf16} {dstw' : Memref sig .tc sq S1024x1024 .bf16} {hsrc' hdst'} :
    iprop(records m K ∗ gat m c R ∗ ow c 0)
      ⊢ iprop((gat m c (R + 2) ∗ ow c 0 -∗ run c (k ⟨⟩) Q)
          -∗ run c (.op (.waitDma2 s srcw dstw hsrc hdst) fun _ => .op (.waitDma2 t srcw' dstw' hsrc' hdst') k) Q) := by
  iintro ⟨#HR, Hg, Ho⟩ Hk
  iapply (gat_step m K c R hR (by omega) s hs) $$ [Hg Ho]
  · isplitr; · iexact HR
    isplitl [Hg]; · iexact Hg
    iexact Ho
  iintro ⟨Hg, Ho⟩
  iapply (gat_step m K c (R + 1) (by omega) hR' t ht) $$ [Hg Ho]
  · isplitr; · iexact HR
    isplitl [Hg]; · iexact Hg
    iexact Ho
  iexact Hk

end Cert.KernelIdeal.Gather
-- ==== Proof.Groups.lean ====
/- What one grid point of each group of slices does: it starts the next point's weights, waits for what it needs, and
   updates its column block. -/
module

public import proofs.«01_k».proof.Proof.Moves
public import proofs.«01_k».proof.Proof.Gen.KernelIdeal.Skeleton

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel's body at a point, on the buffers it is given. -/
abbrev body (i : grid0.Coords) : Prog (TpuEff nD τ sig (Elt F) Λ₀ .tc) PUnit :=
  cc0_body i xM (Memref.isWhole_whole _) wM (Memref.isWhole_whole _) oM (Memref.isWhole_whole _) gM (Memref.isWhole_whole _) bM (Memref.isWhole_whole _) cc0_scratch2 cc0_scratch3 cc0_scratch4 cc0_scratch5

/-- Point `n`'s slot of the weight buffer, and its column block. -/
def slot (n : ℕ) : Fin 2 := ⟨n % 2, Nat.mod_lt _ (by decide)⟩
def col (n : ℕ) : Fin 4 := ⟨n % 4, Nat.mod_lt _ (by decide)⟩

/-- The update of a column block in group `g`. -/
def upd (c : Dev nD) (g : ℕ) (h : Fin 4) (a : Vec F S1024x1024 .f32) : Vec F S1024x1024 .f32 := match g with
  | 0 => k0_pay1 (gv1 m c 0) (wv1 m c 0 h)
  | 1 => k0_pay2 (gv2 m c 1) (wv2 m c 1 h) a
  | 2 => k0_pay2 (gv2 m c 3) (wv2 m c 3 h) a
  | 3 => k0_pay2 (gv2 m c 5) (wv2 m c 5 h) a
  | _ => k0_pay5 (gv1 m c 7) (wv1 m c 7 h) a

/-- Point `n`'s weights on their way; past the last point, its slot at rest. -/
def flightG (c : Dev nD) (g : ℕ) (p : Fin 2) (h : Fin 4) : sProp 𝕄 := match g with
  | 0 => Fly1 m c p 0 h
  | 1 => Fly2 m c p 1 h
  | 2 => Fly2 m c p 3 h
  | 3 => Fly2 m c p 5 h
  | 4 => Fly1 m c p 7 h
  | _ => Free m c p
def flight (c : Dev nD) (n : ℕ) : sProp 𝕄 := flightG m c (n / 4) (slot n) (col n)
theorem flight_eq (c : Dev nD) {n g : ℕ} (h : n / 4 = g) : flight m c n = flightG m c g (slot n) (col n) := by unfold flight; rw [h]

/-- How many slices the points before `n` waited for. -/
def arrivedG : ℕ → ℕ
  | 0 => 1
  | 1 => 3
  | 2 => 5
  | 3 => 7
  | _ => 8
def arrived (n : ℕ) : ℕ := arrivedG ((n - 1) / 4)
theorem arrived_eq {n g : ℕ} (h : (n - 1) / 4 = g) : arrived n = arrivedG g := by unfold arrived; rw [h]

/-- What point `n` finds, the output's buffer holding `f`; -/
def before (c : Dev nD) (n : ℕ) (f : Vec F S1024x4096 .f32) : sProp 𝕄 :=
  iprop(flight m c n ∗ Free m c (slot (n + 1)) ∗ gat m c (arrived n) ∗ ow c 0 ∗ (oLoc c ↦{fullShare} (f : Buf (Elt F) (oLoc c))))
/-- and what it leaves. -/
def after (c : Dev nD) (n : ℕ) (f : Vec F S1024x4096 .f32) : sProp 𝕄 :=
  iprop(flight m c (n + 1) ∗ Free m c (slot n) ∗ gat m c (arrived (n + 1)) ∗ ow c 0
    ∗ ∃ f' : Vec F S1024x4096 .f32, ⌜Put f f' (col n) (upd m c (n / 4) (col n) (oblk f (col n)))⌝ ∗ (oLoc c ↦{fullShare} (f' : Buf (Elt F) (oLoc c))))

theorem slot_off {n h : ℕ} (hh : h = n % 4) : h % 2 = (slot n).val := by show h % 2 = n % 2; omega
theorem slot_off' {n h : ℕ} (hh : h = n % 4) : (h + 1) % 2 = (slot (n + 1)).val := by show (h + 1) % 2 = (n + 1) % 2; omega
theorem col_off {n h : ℕ} (hh : h = n % 4) : h = (col n).val := hh
theorem col_off' {n h : ℕ} (hh : h = n % 4) (h3 : h < 3) : h + 1 = (col (n + 1)).val := by show h + 1 = (n + 1) % 4; omega
theorem col_zero {n : ℕ} (hh : n % 4 = 3) : (col (n + 1)).val = 0 := by show (n + 1) % 4 = 0; omega

theorem run_ret {α : Type} {Q : α → sProp 𝕄} (c : Dev nD) (a : α) : Q a ⊢ run c (.ret a) Q := by
  show Q a ⊢ wp frame (wpE (defs₀ (F := F)) 𝒱₀ (c : Thread nD τ) none) Set.univ (.ret a) Q
  rw [wp_ret]; exact fupd_intro

/-! ## Both ends of a point, whatever the group -/

section ends
variable (c : Dev nD) (n : ℕ)

/-- The next point's weights, one half's worth, are started; -/
theorem start1 {Q : PUnit → sProp 𝕄} {k : PUnit → Prog (TpuEff nD τ sig (Elt F) Λ₀ .tc) PUnit} (g r : ℕ) (hg : (n + 1) / 4 = g) (hr : flightG m c g = fun p h => Fly1 m c p r h)
    (o o') (ho : o = ![(slot (n + 1)).val, 0, 0]) (ho' : o' = ![1024 * (nx c r).val, 1024 * (col (n + 1)).val]) (inb inb') (s : DmaSem sig) (hs : s = wSem (slot (n + 1))) {hsrc hdst hsem} :
    Free m c (slot (n + 1))
      ⊢ iprop((flight m c (n + 1) -∗ run c (k ⟨⟩) Q)
          -∗ run c (.op (.enqueueDma (wSl o' inb') (.here (bSl o inb)) (.dma s) hsrc hdst hsem) k) Q) := by
  rw [flight_eq m c hg, hr]
  exact fill1 m c (slot (n + 1)) r (col (n + 1)) o o' ho ho' inb inb' s hs

/-- two halves' worth. -/
theorem start2 {Q : PUnit → sProp 𝕄} {k : PUnit → Prog (TpuEff nD τ sig (Elt F) Λ₀ .tc) PUnit} (g r : ℕ) (hg : (n + 1) / 4 = g) (hr : flightG m c g = fun p h => Fly2 m c p r h)
    (o o' u u') (ho : o = ![(slot (n + 1)).val, 0, 0]) (ho' : o' = ![1024 * (nx c r).val, 1024 * (col (n + 1)).val])
    (hu : u = ![(slot (n + 1)).val, 1024, 0]) (hu' : u' = ![1024 * (nx c (r + 1)).val, 1024 * (col (n + 1)).val])
    (inb inb' jnb jnb') (s t : DmaSem sig) (hs : s = wSem (slot (n + 1))) (ht : t = wSem (slot (n + 1))) {hsrc hdst hsem hsrc' hdst' hsem'} :
    Free m c (slot (n + 1))
      ⊢ iprop((flight m c (n + 1) -∗ run c (k ⟨⟩) Q)
          -∗ run c (.op (.enqueueDma (wSl o' inb') (.here (bSl o inb)) (.dma s) hsrc hdst hsem)
              fun _ => .op (.enqueueDma (wSl u' jnb') (.here (bSl u jnb)) (.dma t) hsrc' hdst' hsem') k) Q) := by
  rw [flight_eq m c hg, hr]
  exact fill2 m c (slot (n + 1)) r (col (n + 1)) o o' u u' ho ho' hu hu' inb inb' jnb jnb' s t hs ht

/-- What is left to do once the next point's weights are on their way and the arrivals are in. -/
def during (f : Vec F S1024x4096 .f32) : sProp 𝕄 :=
  iprop(flight m c n ∗ flight m c (n + 1) ∗ gat m c (arrived (n + 1)) ∗ ow c 0 ∗ (oLoc c ↦{fullShare} (f : Buf (Elt F) (oLoc c))))

/-- What a point leaves, put together. -/
theorem after_intro (g R : ℕ) (hg : n / 4 = g) (hR : arrivedG g = R) (f f' : Vec F S1024x4096 .f32) (w : Vec F S1024x1024 .f32) (hw : upd m c g (col n) (oblk f (col n)) = w) (hf' : Put f f' (col n) w) :
    iprop(flight m c (n + 1) ∗ pend c (8 - R) ∗ (Free m c (slot n) ∗ haves m c R ∗ ow c 0) ∗ (oLoc c ↦{fullShare} (f' : Buf (Elt F) (oLoc c)))) ⊢ after m c n f := by
  unfold after gat
  rw [hg, arrived_eq (n := n + 1) hg, hR, hw]
  iintro ⟨Hnext, Hpe, ⟨Hfree, Hh, Ho⟩, Hout⟩
  isplitl [Hnext]; · iexact Hnext
  isplitl [Hfree]; · iexact Hfree
  isplitl [Hh Hpe]
  · isplitl [Hh] <;> iassumption
  isplitl [Ho]; · iexact Ho
  iexists f'
  isplitr; · ipureintro; exact hf'
  iexact Hout

theorem during_one (g R : ℕ) (r : ℕ) (hg : n / 4 = g) (hr : flightG m c g = fun p h => Fly1 m c p r h) (hR : arrivedG g = R) (f : Vec F S1024x4096 .f32) :
    during m c n f ⊢ iprop((flight m c (n + 1) ∗ pend c (8 - R)) ∗ (Fly1 m c (slot n) r (col n) ∗ haves m c R ∗ ow c 0) ∗ (oLoc c ↦{fullShare} (f : Buf (Elt F) (oLoc c)))) := by
  unfold during gat
  rw [flight_eq m c hg, hr, arrived_eq (n := n + 1) hg, hR]
  iintro ⟨Hf, Hnext, ⟨Hh, Hpe⟩, Ho, Hout⟩
  isplitl [Hnext Hpe]
  · isplitl [Hnext] <;> iassumption
  isplitr [Hout]
  · isplitl [Hf]; · iexact Hf
    isplitl [Hh]; · iexact Hh
    iexact Ho
  iexact Hout

theorem during_two (g R : ℕ) (r : ℕ) (hg : n / 4 = g) (hr : flightG m c g = fun p h => Fly2 m c p r h) (hR : arrivedG g = R) (f : Vec F S1024x4096 .f32) :
    during m c n f ⊢ iprop((flight m c (n + 1) ∗ pend c (8 - R)) ∗ (Fly2 m c (slot n) r (col n) ∗ haves m c R ∗ ow c 0) ∗ (oLoc c ↦{fullShare} (f : Buf (Elt F) (oLoc c)))) := by
  unfold during gat
  rw [flight_eq m c hg, hr, arrived_eq (n := n + 1) hg, hR]
  iintro ⟨Hf, Hnext, ⟨Hh, Hpe⟩, Ho, Hout⟩
  isplitl [Hnext Hpe]
  · isplitl [Hnext] <;> iassumption
  isplitr [Hout]
  · isplitl [Hf]; · iexact Hf
    isplitl [Hh]; · iexact Hh
    iexact Ho
  iexact Hout

/-- The two kinds of update, by reading the old value for nothing, -/
theorem finish_first {Q : PUnit → sProp 𝕄} {k : PUnit → Prog (TpuEff nD τ sig (Elt F) Λ₀ .tc) PUnit}
    (g : ℕ) (r : Fin 8) (hg : n / 4 = g) (hr : flightG m c g = fun p h => Fly1 m c p r.val h) (hR : arrivedG g = r.val + 1)
    (pay : Vec F S1024x1024 .bf16 → Vec F S1x1024x1024 .f32 → Vec F S1024x1024 .f32) (hp : ∀ h a, upd m c g h a = pay (gv1 m c r) (wv1 m c r.val h)) (f : Vec F S1024x4096 .f32)
    (og ob oo oo') (hog : og = ![0, 1024 * r.val]) (hb : ob = ![(slot n).val, 0, 0]) (hoo : oo = ![0, 1024 * (col n).val]) (hoo' : oo' = ![0, 1024 * (col n).val])
    (ow₀ inw ing inbb ino ino') (s : DmaSem sig) (hs : s = wSem (slot n)) {sp : Space} {srcw : Memref sig .tc sp S1024x1024 .f32} {h1 h2 h3 h4 h5 h7 h8} :
    during m c n f ⊢ iprop((after m c n f -∗ run c (k ⟨⟩) Q)
      -∗ run c (.op (.waitDma2 s srcw (bSl ow₀ inw) h1 h2)
              fun _ => .op (.load gM (Rect.unit (s := S1024x8192) og S1024x1024.size ing).toLoadRect h3)
              fun g => .op (.load bM (Rect.unit (s := S2x2048x1024) ob S1x1024x1024.size inbb).toLoadRect h4)
              fun b => .op (.load oM (Rect.unit (s := S1024x4096) oo S1024x1024.size ino).toLoadRect h5)
              fun _ => .op (.store oM (Rect.unit (s := S1024x4096) oo' S1024x1024.size ino') (pay g b) Finset.univ h7 h8) k) Q) := by
  iintro H Hk
  ihave H := (during_one m c n g _ r.val hg hr hR f) $$ H
  icases H with ⟨⟨Hnext, Hpe⟩, Hu, Hout⟩
  iapply (use1 m c (slot n) r (col n) og ob hog hb ow₀ inw ing inbb s hs) $$ Hu
  iintro Hu
  iapply (out1 c (col n) f (pay (gv1 m c r) (wv1 m c r.val (col n))) oo oo' hoo hoo' ino ino') $$ Hout
  iintro %f' %hf' Hout
  iapply Hk
  iapply (after_intro m c n g _ hg hR f f' _ (hp _ _) hf')
  isplitl [Hnext]; · iexact Hnext
  isplitl [Hpe]; · iexact Hpe
  isplitl [Hu]; · iexact Hu
  iexact Hout

/-- or by adding to it, with one half's worth -/
theorem finish_one {Q : PUnit → sProp 𝕄} {k : PUnit → Prog (TpuEff nD τ sig (Elt F) Λ₀ .tc) PUnit}
    (g : ℕ) (r : Fin 8) (hg : n / 4 = g) (hr : flightG m c g = fun p h => Fly1 m c p r.val h) (hR : arrivedG g = r.val + 1)
    (pay : Vec F S1024x1024 .bf16 → Vec F S1x1024x1024 .f32 → Vec F S1024x1024 .f32 → Vec F S1024x1024 .f32) (hp : ∀ h a, upd m c g h a = pay (gv1 m c r) (wv1 m c r.val h) a) (f : Vec F S1024x4096 .f32)
    (og ob oo oo' oo'') (hog : og = ![0, 1024 * r.val]) (hb : ob = ![(slot n).val, 0, 0]) (hoo : oo = ![0, 1024 * (col n).val]) (hoo' : oo' = ![0, 1024 * (col n).val]) (hoo'' : oo'' = ![0, 1024 * (col n).val])
    (ow₀ inw ing inbb ino ino' ino'') (s : DmaSem sig) (hs : s = wSem (slot n)) {sp : Space} {srcw : Memref sig .tc sp S1024x1024 .f32} {h1 h2 h3 h4 h5 h6 h7 h8} :
    during m c n f ⊢ iprop((after m c n f -∗ run c (k ⟨⟩) Q)
      -∗ run c (.op (.waitDma2 s srcw (bSl ow₀ inw) h1 h2)
              fun _ => .op (.load gM (Rect.unit (s := S1024x8192) og S1024x1024.size ing).toLoadRect h3)
              fun g => .op (.load bM (Rect.unit (s := S2x2048x1024) ob S1x1024x1024.size inbb).toLoadRect h4)
              fun b => .op (.load oM (Rect.unit (s := S1024x4096) oo S1024x1024.size ino).toLoadRect h5)
              fun o => .op (.load oM (Rect.unit (s := S1024x4096) oo' S1024x1024.size ino').toLoadRect h6)
              fun _ => .op (.store oM (Rect.unit (s := S1024x4096) oo'' S1024x1024.size ino'') (pay g b o) Finset.univ h7 h8) k) Q) := by
  iintro H Hk
  ihave H := (during_one m c n g _ r.val hg hr hR f) $$ H
  icases H with ⟨⟨Hnext, Hpe⟩, Hu, Hout⟩
  iapply (use1 m c (slot n) r (col n) og ob hog hb ow₀ inw ing inbb s hs) $$ Hu
  iintro Hu
  iapply (out2 c (col n) f (pay (gv1 m c r) (wv1 m c r.val (col n))) oo oo' oo'' hoo hoo' hoo'' ino ino' ino'') $$ Hout
  iintro %f' %hf' Hout
  iapply Hk
  iapply (after_intro m c n g _ hg hR f f' _ (hp _ _) hf')
  isplitl [Hnext]; · iexact Hnext
  isplitl [Hpe]; · iexact Hpe
  isplitl [Hu]; · iexact Hu
  iexact Hout

/-- or with two. -/
theorem finish_two {Q : PUnit → sProp 𝕄} {k : PUnit → Prog (TpuEff nD τ sig (Elt F) Λ₀ .tc) PUnit}
    (g : ℕ) (r : Fin 7) (hg : n / 4 = g) (hr : flightG m c g = fun p h => Fly2 m c p r.val h) (hR : arrivedG g = r.val + 2)
    (pay : Vec F S1024x2048 .bf16 → Vec F S1x2048x1024 .f32 → Vec F S1024x1024 .f32 → Vec F S1024x1024 .f32) (hp : ∀ h a, upd m c g h a = pay (gv2 m c r) (wv2 m c r.val h) a) (f : Vec F S1024x4096 .f32)
    (og ob oo oo' oo'') (hog : og = ![0, 1024 * r.val]) (hb : ob = ![(slot n).val, 0, 0]) (hoo : oo = ![0, 1024 * (col n).val]) (hoo' : oo' = ![0, 1024 * (col n).val]) (hoo'' : oo'' = ![0, 1024 * (col n).val])
    (ow₀ inw ow₁ inw' ing inbb ino ino' ino'') (s t : DmaSem sig) (hs : s = wSem (slot n)) (ht : t = wSem (slot n)) {sp sp' : Space} {srcw : Memref sig .tc sp S1024x1024 .f32} {srcw' : Memref sig .tc sp' S1024x1024 .f32}
    {h1 h2 h1' h2' h3 h4 h5 h6 h7 h8} :
    during m c n f ⊢ iprop((after m c n f -∗ run c (k ⟨⟩) Q)
      -∗ run c (.op (.waitDma2 s srcw (bSl ow₀ inw) h1 h2)
              fun _ => .op (.waitDma2 t srcw' (bSl ow₁ inw') h1' h2')
              fun _ => .op (.load gM (Rect.unit (s := S1024x8192) og S1024x2048.size ing).toLoadRect h3)
              fun g => .op (.load bM (Rect.unit (s := S2x2048x1024) ob S1x2048x1024.size inbb).toLoadRect h4)
              fun b => .op (.load oM (Rect.unit (s := S1024x4096) oo S1024x1024.size ino).toLoadRect h5)
              fun o => .op (.load oM (Rect.unit (s := S1024x4096) oo' S1024x1024.size ino').toLoadRect h6)
              fun _ => .op (.store oM (Rect.unit (s := S1024x4096) oo'' S1024x1024.size ino'') (pay g b o) Finset.univ h7 h8) k) Q) := by
  iintro H Hk
  ihave H := (during_two m c n g _ r.val hg hr hR f) $$ H
  icases H with ⟨⟨Hnext, Hpe⟩, Hu, Hout⟩
  iapply (use2 m c (slot n) r (col n) og ob hog hb ow₀ inw ow₁ inw' ing inbb s t hs ht) $$ Hu
  iintro Hu
  iapply (out2 c (col n) f (pay (gv2 m c r) (wv2 m c r.val (col n))) oo oo' oo'' hoo hoo' hoo'' ino ino' ino'') $$ Hout
  iintro %f' %hf' Hout
  iapply Hk
  iapply (after_intro m c n g _ hg hR f f' _ (hp _ _) hf')
  isplitl [Hnext]; · iexact Hnext
  isplitl [Hpe]; · iexact Hpe
  isplitl [Hu]; · iexact Hu
  iexact Hout

theorem arrived_mid (h : n % 4 ≠ 0) : arrived n = arrived (n + 1) := by
  rw [arrived_eq (n := n) (g := n / 4) (by omega), arrived_eq (n := n + 1) (g := n / 4) rfl]

/-- A point that waits for no arrival goes from the start of the next weights (`X` to `Y`) straight to its own work (`Y` to `Z`). -/
theorem plain {K : Dev nD × Fin 17 → ℕ} {X Y Z : sProp 𝕄} {f : Vec F S1024x4096 .f32} {R : sProp 𝕄} (h : n % 4 ≠ 0)
    (hs : Free m c (slot (n + 1)) ⊢ iprop((flight m c (n + 1) -∗ Y) -∗ X)) (hf : during m c n f ⊢ iprop((after m c n f -∗ Z) -∗ Y))
    (hz : iprop(records m K ∗ after m c n f ∗ R) ⊢ Z) : iprop(records m K ∗ before m c n f ∗ R) ⊢ X := by
  unfold before
  iintro ⟨#HR, ⟨Hf, Hfree, Hgat, Ho, Hout⟩, HS⟩
  iapply hs $$ Hfree
  iintro Hnext
  iapply hf $$ [Hf Hnext Hgat Ho Hout]
  · unfold during
    rw [← arrived_mid n h]
    isplitl [Hf]; · iexact Hf
    isplitl [Hnext]; · iexact Hnext
    isplitl [Hgat]; · iexact Hgat
    isplitl [Ho] <;> iassumption
  iintro Hafter
  iapply hz
  isplitr; · iexact HR
  isplitl [Hafter] <;> iassumption

/-- A point that waits for arrivals does so in between (`Y` to `Y'`). -/
theorem waiting {K : Dev nD × Fin 17 → ℕ} {X Y Y' Z : sProp 𝕄} {f : Vec F S1024x4096 .f32}
    (hs : Free m c (slot (n + 1)) ⊢ iprop((flight m c (n + 1) -∗ Y) -∗ X))
    (hw : iprop(records m K ∗ gat m c (arrived n) ∗ ow c 0) ⊢ iprop((gat m c (arrived (n + 1)) ∗ ow c 0 -∗ Y') -∗ Y))
    (hf : during m c n f ⊢ iprop((after m c n f -∗ Z) -∗ Y')) (hz : after m c n f ⊢ Z) : iprop(records m K ∗ before m c n f) ⊢ X := by
  unfold before
  iintro ⟨#HR, Hf, Hfree, Hgat, Ho, Hout⟩
  iapply hs $$ Hfree
  iintro Hnext
  iapply hw $$ [Hgat Ho]
  · isplitr; · iexact HR
    isplitl [Hgat] <;> iassumption
  iintro ⟨Hgat, Ho⟩
  iapply hf $$ [Hf Hnext Hgat Ho Hout]
  · unfold during
    isplitl [Hf]; · iexact Hf
    isplitl [Hnext]; · iexact Hnext
    isplitl [Hgat]; · iexact Hgat
    isplitl [Ho] <;> iassumption
  iintro Hafter
  iapply hz $$ Hafter

theorem end_point {K : Dev nD × Fin 17 → ℕ} {f : Vec F S1024x4096 .f32} :
    iprop(records m K ∗ after m c n f ∗ emp) ⊢ run c (.ret PUnit.unit) (fun _ => after m c n f) := by
  refine BIBase.Entails.trans ?_ (run_ret (Q := fun _ => after m c n f) c PUnit.unit)
  iintro ⟨_, H, _⟩
  iexact H

theorem no_frame {K : Dev nD × Fin 17 → ℕ} {X : sProp 𝕄} {f : Vec F S1024x4096 .f32} (h : iprop(records m K ∗ before m c n f ∗ emp) ⊢ X) : iprop(records m K ∗ before m c n f) ⊢ X := by
  refine BIBase.Entails.trans ?_ h
  iintro ⟨#HR, H⟩
  isplitr; · iexact HR
  isplitl [H]; · iexact H
  iempintro

end ends

set_option maxHeartbeats 1000000 in
set_option maxRecDepth 8000 in
theorem group1 (K : Dev nD × Fin 17 → ℕ) (c : Dev nD) (i : grid0.Coords) (n : ℕ) (hg : n / 4 = 1) (h0 : (i 0).val = n / 4) (h1 : (i 1).val = n % 4) (f : Vec F S1024x4096 .f32) :
    iprop(records m K ∗ before m c n f) ⊢ run c (body i) (fun _ => after m c n f) := by
  have c1 : ¬ k0_cond1 i = 1#1 := by rw [cond1_iff]; omega
  have c2 : ¬ k0_cond2 i = 1#1 := by rw [cond2_iff]; omega
  have c6 : k0_cond6 i = 1#1 := by rw [cond6_iff]; omega
  have c10 : ¬ k0_cond10 i = 1#1 := by rw [cond10_iff]; omega
  have c14 : ¬ k0_cond14 i = 1#1 := by rw [cond14_iff]; omega
  have c18 : ¬ k0_cond18 i = 1#1 := by rw [cond18_iff]; omega
  have c21 : ¬ k0_cond21 i = 1#1 := by rw [cond21_iff]; omega
  have hsl := slot_off h1
  have hsl' := slot_off' h1
  have hcol := col_off h1
  have hw := fun inb => wSem_eq (slot n) _ ((off29_eq i).trans (by rw [hsl])) inb
  have ho := (k0_off34_eq i).trans (show _ = ![0, 1024 * (col n).val] by rw [hcol])
  have fin {k : PUnit → Prog (TpuEff nD τ sig (Elt F) Λ₀ .tc) PUnit} (Q : PUnit → sProp 𝕄) := finish_two (Q := Q) (k := k) m c n 1 1 hg rfl rfl k0_pay2 (fun _ _ => rfl) f
    ![0, 1024] _ _ _ _ rfl ((off33_eq i).trans (by rw [hsl])) ho ho ho
  rcases (by omega : n % 4 = 0 ∨ (n % 4 = 1 ∨ n % 4 = 2) ∨ n % 4 = 3) with hh | hh | hh
  · have c7 : ¬ k0_cond7 i = 1#1 := by rw [cond7_iff]; omega
    have c8 : k0_cond8 i = 1#1 := by rw [cond8_iff]; omega
    have c9 : k0_cond9 i = 1#1 := by rw [cond9_iff]; omega
    simp only [body, cc0_body_eq_skeleton, cc0_body_skel, dif_neg c1, dif_neg c2, dif_neg c10, dif_neg c14, dif_neg c18, dif_neg c21, dif_pos c6, k0_part16_eq_skeleton, k0_part16_skel, k0_part15_eq_skeleton, k0_part15_skel, dif_neg c7, dif_pos c8, dif_pos c9, k0_part12_eq_skeleton, k0_part12_skel, k0_part13_eq_skeleton, k0_part13_skel, k0_part14_eq_skeleton, k0_part14_skel, Prog.lift, wp_deviceId, Prog.bind_op, Prog.bind_ret, Prog.pure_eq_ret]
    have hcol' := col_off' h1 (by omega)
    have hws := fun inb => wSem_eq (slot (n + 1)) _ ((off24_eq i).trans (by rw [hsl'])) inb
    apply waiting m c n
    · exact start2 m c n 1 1 (by omega) rfl _ _ _ _ ((off25_eq i).trans (by rw [hsl'])) ((off26_eq i c 0).trans (by rw [hcol']; rfl))
        ((off27_eq i).trans (by rw [hsl'])) ((off26_eq i c 1).trans (by rw [hcol']; rfl)) _ _ _ _ _ _ (hws _) (hws _)
    · rw [arrived_eq (n := n) (g := 0) (by omega), arrived_eq (n := n + 1) (g := 1) (by omega)]
      exact gat_step2 m K c 1 (by decide) (by decide) _ _ (rSem_eq _ _ (off28_eq c 0) _) (rSem_eq _ _ (off28_eq c 1) _)
    · exact fin _ _ _ _ _ _ _ _ _ _ _ _ (hw _) (hw _)
    · exact run_ret (Q := fun _ => after m c n f) c PUnit.unit
  · have c7 : ¬ k0_cond7 i = 1#1 := by rw [cond7_iff]; omega
    have c8 : k0_cond8 i = 1#1 := by rw [cond8_iff]; omega
    have c9 : ¬ k0_cond9 i = 1#1 := by rw [cond9_iff]; omega
    simp only [body, cc0_body_eq_skeleton, cc0_body_skel, dif_neg c1, dif_neg c2, dif_neg c10, dif_neg c14, dif_neg c18, dif_neg c21, dif_pos c6, k0_part16_eq_skeleton, k0_part16_skel, k0_part15_eq_skeleton, k0_part15_skel, dif_neg c7, dif_pos c8, dif_neg c9, k0_part12_eq_skeleton, k0_part12_skel, k0_part13_eq_skeleton, k0_part13_skel, k0_part14_eq_skeleton, k0_part14_skel, Prog.lift, wp_deviceId, Prog.bind_op, Prog.bind_ret, Prog.pure_eq_ret]
    have hcol' := col_off' h1 (by omega)
    have hws := fun inb => wSem_eq (slot (n + 1)) _ ((off24_eq i).trans (by rw [hsl'])) inb
    apply no_frame m c n
    apply plain m c n (by omega)
    · exact start2 m c n 1 1 (by omega) rfl _ _ _ _ ((off25_eq i).trans (by rw [hsl'])) ((off26_eq i c 0).trans (by rw [hcol']; rfl))
        ((off27_eq i).trans (by rw [hsl'])) ((off26_eq i c 1).trans (by rw [hcol']; rfl)) _ _ _ _ _ _ (hws _) (hws _)
    · exact fin _ _ _ _ _ _ _ _ _ _ _ _ (hw _) (hw _)
    · exact end_point m c n
  · have c7 : k0_cond7 i = 1#1 := by rw [cond7_iff]; omega
    have c8 : ¬ k0_cond8 i = 1#1 := by rw [cond8_iff]; omega
    have c9 : ¬ k0_cond9 i = 1#1 := by rw [cond9_iff]; omega
    simp only [body, cc0_body_eq_skeleton, cc0_body_skel, dif_neg c1, dif_neg c2, dif_neg c10, dif_neg c14, dif_neg c18, dif_neg c21, dif_pos c6, k0_part16_eq_skeleton, k0_part16_skel, k0_part15_eq_skeleton, k0_part15_skel, dif_pos c7, dif_neg c8, dif_neg c9, k0_part12_eq_skeleton, k0_part12_skel, k0_part13_eq_skeleton, k0_part13_skel, k0_part14_eq_skeleton, k0_part14_skel, Prog.lift, wp_deviceId, Prog.bind_op, Prog.bind_ret, Prog.pure_eq_ret]
    have hcol' := col_zero hh
    have hws := fun inb => wSem_eq (slot (n + 1)) _ ((off20_eq i).trans (by rw [hsl'])) inb
    apply no_frame m c n
    apply plain m c n (by omega)
    · exact start2 m c n 2 3 (by omega) rfl _ _ _ _ ((off21_eq i).trans (by rw [hsl'])) ((off22_eq c 0).trans (by rw [hcol']; rfl))
        ((off23_eq i).trans (by rw [hsl'])) ((off22_eq c 1).trans (by rw [hcol']; rfl)) _ _ _ _ _ _ (hws _) (hws _)
    · exact fin _ _ _ _ _ _ _ _ _ _ _ _ (hw _) (hw _)
    · exact end_point m c n

set_option maxHeartbeats 1000000 in
set_option maxRecDepth 8000 in
theorem group2 (K : Dev nD × Fin 17 → ℕ) (c : Dev nD) (i : grid0.Coords) (n : ℕ) (hg : n / 4 = 2) (h0 : (i 0).val = n / 4) (h1 : (i 1).val = n % 4) (f : Vec F S1024x4096 .f32) :
    iprop(records m K ∗ before m c n f) ⊢ run c (body i) (fun _ => after m c n f) := by
  have c1 : ¬ k0_cond1 i = 1#1 := by rw [cond1_iff]; omega
  have c2 : ¬ k0_cond2 i = 1#1 := by rw [cond2_iff]; omega
  have c6 : ¬ k0_cond6 i = 1#1 := by rw [cond6_iff]; omega
  have c10 : k0_cond10 i = 1#1 := by rw [cond10_iff]; omega
  have c14 : ¬ k0_cond14 i = 1#1 := by rw [cond14_iff]; omega
  have c18 : ¬ k0_cond18 i = 1#1 := by rw [cond18_iff]; omega
  have c21 : ¬ k0_cond21 i = 1#1 := by rw [cond21_iff]; omega
  have hsl := slot_off h1
  have hsl' := slot_off' h1
  have hcol := col_off h1
  have hw := fun inb => wSem_eq (slot n) _ ((off44_eq i).trans (by rw [hsl])) inb
  have ho := (k0_off49_eq i).trans (show _ = ![0, 1024 * (col n).val] by rw [hcol])
  have fin {k : PUnit → Prog (TpuEff nD τ sig (Elt F) Λ₀ .tc) PUnit} (Q : PUnit → sProp 𝕄) := finish_two (Q := Q) (k := k) m c n 2 3 hg rfl rfl k0_pay3 (fun _ _ => rfl) f
    ![0, 3072] _ _ _ _ rfl ((off48_eq i).trans (by rw [hsl])) ho ho ho
  rcases (by omega : n % 4 = 0 ∨ (n % 4 = 1 ∨ n % 4 = 2) ∨ n % 4 = 3) with hh | hh | hh
  · have c11 : ¬ k0_cond11 i = 1#1 := by rw [cond11_iff]; omega
    have c12 : k0_cond12 i = 1#1 := by rw [cond12_iff]; omega
    have c13 : k0_cond13 i = 1#1 := by rw [cond13_iff]; omega
    simp only [body, cc0_body_eq_skeleton, cc0_body_skel, dif_neg c1, dif_neg c2, dif_pos c10, dif_neg c14, dif_neg c18, dif_neg c21, dif_neg c6, k0_part21_eq_skeleton, k0_part21_skel, k0_part20_eq_skeleton, k0_part20_skel, dif_neg c11, dif_pos c12, dif_pos c13, k0_part17_eq_skeleton, k0_part17_skel, k0_part18_eq_skeleton, k0_part18_skel, k0_part19_eq_skeleton, k0_part19_skel, Prog.lift, wp_deviceId, Prog.bind_op, Prog.bind_ret, Prog.pure_eq_ret]
    have hcol' := col_off' h1 (by omega)
    have hws := fun inb => wSem_eq (slot (n + 1)) _ ((off39_eq i).trans (by rw [hsl'])) inb
    apply waiting m c n
    · exact start2 m c n 2 3 (by omega) rfl _ _ _ _ ((off40_eq i).trans (by rw [hsl'])) ((off41_eq i c 0).trans (by rw [hcol']; rfl))
        ((off42_eq i).trans (by rw [hsl'])) ((off41_eq i c 1).trans (by rw [hcol']; rfl)) _ _ _ _ _ _ (hws _) (hws _)
    · rw [arrived_eq (n := n) (g := 1) (by omega), arrived_eq (n := n + 1) (g := 2) (by omega)]
      exact gat_step2 m K c 3 (by decide) (by decide) _ _ (rSem_eq _ _ (off43_eq c 0) _) (rSem_eq _ _ (off43_eq c 1) _)
    · exact fin _ _ _ _ _ _ _ _ _ _ _ _ (hw _) (hw _)
    · exact run_ret (Q := fun _ => after m c n f) c PUnit.unit
  · have c11 : ¬ k0_cond11 i = 1#1 := by rw [cond11_iff]; omega
    have c12 : k0_cond12 i = 1#1 := by rw [cond12_iff]; omega
    have c13 : ¬ k0_cond13 i = 1#1 := by rw [cond13_iff]; omega
    simp only [body, cc0_body_eq_skeleton, cc0_body_skel, dif_neg c1, dif_neg c2, dif_pos c10, dif_neg c14, dif_neg c18, dif_neg c21, dif_neg c6, k0_part21_eq_skeleton, k0_part21_skel, k0_part20_eq_skeleton, k0_part20_skel, dif_neg c11, dif_pos c12, dif_neg c13, k0_part17_eq_skeleton, k0_part17_skel, k0_part18_eq_skeleton, k0_part18_skel, k0_part19_eq_skeleton, k0_part19_skel, Prog.lift, wp_deviceId, Prog.bind_op, Prog.bind_ret, Prog.pure_eq_ret]
    have hcol' := col_off' h1 (by omega)
    have hws := fun inb => wSem_eq (slot (n + 1)) _ ((off39_eq i).trans (by rw [hsl'])) inb
    apply no_frame m c n
    apply plain m c n (by omega)
    · exact start2 m c n 2 3 (by omega) rfl _ _ _ _ ((off40_eq i).trans (by rw [hsl'])) ((off41_eq i c 0).trans (by rw [hcol']; rfl))
        ((off42_eq i).trans (by rw [hsl'])) ((off41_eq i c 1).trans (by rw [hcol']; rfl)) _ _ _ _ _ _ (hws _) (hws _)
    · exact fin _ _ _ _ _ _ _ _ _ _ _ _ (hw _) (hw _)
    · exact end_point m c n
  · have c11 : k0_cond11 i = 1#1 := by rw [cond11_iff]; omega
    have c12 : ¬ k0_cond12 i = 1#1 := by rw [cond12_iff]; omega
    have c13 : ¬ k0_cond13 i = 1#1 := by rw [cond13_iff]; omega
    simp only [body, cc0_body_eq_skeleton, cc0_body_skel, dif_neg c1, dif_neg c2, dif_pos c10, dif_neg c14, dif_neg c18, dif_neg c21, dif_neg c6, k0_part21_eq_skeleton, k0_part21_skel, k0_part20_eq_skeleton, k0_part20_skel, dif_pos c11, dif_neg c12, dif_neg c13, k0_part17_eq_skeleton, k0_part17_skel, k0_part18_eq_skeleton, k0_part18_skel, k0_part19_eq_skeleton, k0_part19_skel, Prog.lift, wp_deviceId, Prog.bind_op, Prog.bind_ret, Prog.pure_eq_ret]
    have hcol' := col_zero hh
    have hws := fun inb => wSem_eq (slot (n + 1)) _ ((off35_eq i).trans (by rw [hsl'])) inb
    apply no_frame m c n
    apply plain m c n (by omega)
    · exact start2 m c n 3 5 (by omega) rfl _ _ _ _ ((off36_eq i).trans (by rw [hsl'])) ((off37_eq c 0).trans (by rw [hcol']; rfl))
        ((off38_eq i).trans (by rw [hsl'])) ((off37_eq c 1).trans (by rw [hcol']; rfl)) _ _ _ _ _ _ (hws _) (hws _)
    · exact fin _ _ _ _ _ _ _ _ _ _ _ _ (hw _) (hw _)
    · exact end_point m c n

set_option maxHeartbeats 1000000 in
set_option maxRecDepth 8000 in
theorem group3 (K : Dev nD × Fin 17 → ℕ) (c : Dev nD) (i : grid0.Coords) (n : ℕ) (hg : n / 4 = 3) (h0 : (i 0).val = n / 4) (h1 : (i 1).val = n % 4) (f : Vec F S1024x4096 .f32) :
    iprop(records m K ∗ before m c n f) ⊢ run c (body i) (fun _ => after m c n f) := by
  have c1 : ¬ k0_cond1 i = 1#1 := by rw [cond1_iff]; omega
  have c2 : ¬ k0_cond2 i = 1#1 := by rw [cond2_iff]; omega
  have c6 : ¬ k0_cond6 i = 1#1 := by rw [cond6_iff]; omega
  have c10 : ¬ k0_cond10 i = 1#1 := by rw [cond10_iff]; omega
  have c14 : k0_cond14 i = 1#1 := by rw [cond14_iff]; omega
  have c18 : ¬ k0_cond18 i = 1#1 := by rw [cond18_iff]; omega
  have c21 : ¬ k0_cond21 i = 1#1 := by rw [cond21_iff]; omega
  have hsl := slot_off h1
  have hsl' := slot_off' h1
  have hcol := col_off h1
  have hw := fun inb => wSem_eq (slot n) _ ((off58_eq i).trans (by rw [hsl])) inb
  have ho := (k0_off63_eq i).trans (show _ = ![0, 1024 * (col n).val] by rw [hcol])
  have fin {k : PUnit → Prog (TpuEff nD τ sig (Elt F) Λ₀ .tc) PUnit} (Q : PUnit → sProp 𝕄) := finish_two (Q := Q) (k := k) m c n 3 5 hg rfl rfl k0_pay4 (fun _ _ => rfl) f
    ![0, 5120] _ _ _ _ rfl ((off62_eq i).trans (by rw [hsl])) ho ho ho
  rcases (by omega : n % 4 = 0 ∨ (n % 4 = 1 ∨ n % 4 = 2) ∨ n % 4 = 3) with hh | hh | hh
  · have c15 : ¬ k0_cond15 i = 1#1 := by rw [cond15_iff]; omega
    have c16 : k0_cond16 i = 1#1 := by rw [cond16_iff]; omega
    have c17 : k0_cond17 i = 1#1 := by rw [cond17_iff]; omega
    simp only [body, cc0_body_eq_skeleton, cc0_body_skel, dif_neg c1, dif_neg c2, dif_neg c10, dif_pos c14, dif_neg c18, dif_neg c21, dif_neg c6, k0_part25_eq_skeleton, k0_part25_skel, k0_part24_eq_skeleton, k0_part24_skel, dif_neg c15, dif_pos c16, dif_pos c17, k0_part22_eq_skeleton, k0_part22_skel, k0_part23_eq_skeleton, k0_part23_skel, Prog.lift, wp_deviceId, Prog.bind_op, Prog.bind_ret, Prog.pure_eq_ret]
    have hcol' := col_off' h1 (by omega)
    have hws := fun inb => wSem_eq (slot (n + 1)) _ ((off53_eq i).trans (by rw [hsl'])) inb
    apply waiting m c n
    · exact start2 m c n 3 5 (by omega) rfl _ _ _ _ ((off54_eq i).trans (by rw [hsl'])) ((off55_eq i c 0).trans (by rw [hcol']; rfl))
        ((off56_eq i).trans (by rw [hsl'])) ((off55_eq i c 1).trans (by rw [hcol']; rfl)) _ _ _ _ _ _ (hws _) (hws _)
    · rw [arrived_eq (n := n) (g := 2) (by omega), arrived_eq (n := n + 1) (g := 3) (by omega)]
      exact gat_step2 m K c 5 (by decide) (by decide) _ _ (rSem_eq _ _ (off57_eq c 0) _) (rSem_eq _ _ (off57_eq c 1) _)
    · exact fin _ _ _ _ _ _ _ _ _ _ _ _ (hw _) (hw _)
    · exact run_ret (Q := fun _ => after m c n f) c PUnit.unit
  · have c15 : ¬ k0_cond15 i = 1#1 := by rw [cond15_iff]; omega
    have c16 : k0_cond16 i = 1#1 := by rw [cond16_iff]; omega
    have c17 : ¬ k0_cond17 i = 1#1 := by rw [cond17_iff]; omega
    simp only [body, cc0_body_eq_skeleton, cc0_body_skel, dif_neg c1, dif_neg c2, dif_neg c10, dif_pos c14, dif_neg c18, dif_neg c21, dif_neg c6, k0_part25_eq_skeleton, k0_part25_skel, k0_part24_eq_skeleton, k0_part24_skel, dif_neg c15, dif_pos c16, dif_neg c17, k0_part22_eq_skeleton, k0_part22_skel, k0_part23_eq_skeleton, k0_part23_skel, Prog.lift, wp_deviceId, Prog.bind_op, Prog.bind_ret, Prog.pure_eq_ret]
    have hcol' := col_off' h1 (by omega)
    have hws := fun inb => wSem_eq (slot (n + 1)) _ ((off53_eq i).trans (by rw [hsl'])) inb
    apply no_frame m c n
    apply plain m c n (by omega)
    · exact start2 m c n 3 5 (by omega) rfl _ _ _ _ ((off54_eq i).trans (by rw [hsl'])) ((off55_eq i c 0).trans (by rw [hcol']; rfl))
        ((off56_eq i).trans (by rw [hsl'])) ((off55_eq i c 1).trans (by rw [hcol']; rfl)) _ _ _ _ _ _ (hws _) (hws _)
    · exact fin _ _ _ _ _ _ _ _ _ _ _ _ (hw _) (hw _)
    · exact end_point m c n
  · have c15 : k0_cond15 i = 1#1 := by rw [cond15_iff]; omega
    have c16 : ¬ k0_cond16 i = 1#1 := by rw [cond16_iff]; omega
    have c17 : ¬ k0_cond17 i = 1#1 := by rw [cond17_iff]; omega
    simp only [body, cc0_body_eq_skeleton, cc0_body_skel, dif_neg c1, dif_neg c2, dif_neg c10, dif_pos c14, dif_neg c18, dif_neg c21, dif_neg c6, k0_part25_eq_skeleton, k0_part25_skel, k0_part24_eq_skeleton, k0_part24_skel, dif_pos c15, dif_neg c16, dif_neg c17, k0_part22_eq_skeleton, k0_part22_skel, k0_part23_eq_skeleton, k0_part23_skel, Prog.lift, wp_deviceId, Prog.bind_op, Prog.bind_ret, Prog.pure_eq_ret]
    have hcol' := col_zero hh
    have hws := fun inb => wSem_eq (slot (n + 1)) _ ((off50_eq i).trans (by rw [hsl'])) inb
    apply no_frame m c n
    apply plain m c n (by omega)
    · exact start1 m c n 4 7 (by omega) rfl _ _ ((off51_eq i).trans (by rw [hsl'])) ((off52_eq c).trans (by rw [hcol'])) _ _ _ (hws _)
    · exact fin _ _ _ _ _ _ _ _ _ _ _ _ (hw _) (hw _)
    · exact end_point m c n

end Cert.KernelIdeal.Gather
-- ==== Proof.Ends.lean ====
/- The first group of slices, whose first point also holds the exchange, and the last, whose last point also ends it and
   applies the activation. -/
module

public import proofs.«01_k».proof.Proof.Groups

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 1000000 in
set_option maxRecDepth 8000 in
theorem group0 (K : Dev nD × Fin 17 → ℕ) (c : Dev nD) (i : grid0.Coords) (n : ℕ) (hg : n / 4 = 0) (hn : n % 4 ≠ 0) (h0 : (i 0).val = n / 4) (h1 : (i 1).val = n % 4) (f : Vec F S1024x4096 .f32) :
    iprop(records m K ∗ before m c n f) ⊢ run c (body i) (fun _ => after m c n f) := by
  have c1 : ¬ k0_cond1 i = 1#1 := by rw [cond1_iff]; omega
  have c2 : k0_cond2 i = 1#1 := by rw [cond2_iff]; omega
  have c6 : ¬ k0_cond6 i = 1#1 := by rw [cond6_iff]; omega
  have c10 : ¬ k0_cond10 i = 1#1 := by rw [cond10_iff]; omega
  have c14 : ¬ k0_cond14 i = 1#1 := by rw [cond14_iff]; omega
  have c18 : ¬ k0_cond18 i = 1#1 := by rw [cond18_iff]; omega
  have c21 : ¬ k0_cond21 i = 1#1 := by rw [cond21_iff]; omega
  have c5 : ¬ k0_cond5 i = 1#1 := by rw [cond5_iff]; omega
  have hsl := slot_off h1
  have hsl' := slot_off' h1
  have hcol := col_off h1
  have hw := fun inb => wSem_eq (slot n) _ ((off15_eq i).trans (by rw [hsl])) inb
  have ho := (k0_off19_eq i).trans (show _ = ![0, 1024 * (col n).val] by rw [hcol])
  have fin {k : PUnit → Prog (TpuEff nD τ sig (Elt F) Λ₀ .tc) PUnit} (Q : PUnit → sProp 𝕄) := finish_first (Q := Q) (k := k) m c n 0 0 hg rfl rfl k0_pay1 (fun _ _ => rfl) f
    ![0, 0] _ _ _ rfl ((off18_eq i).trans (by rw [hsl])) ho ho
  rcases (by omega : (n % 4 = 1 ∨ n % 4 = 2) ∨ n % 4 = 3) with hh | hh
  · have c3 : ¬ k0_cond3 i = 1#1 := by rw [cond3_iff]; omega
    have c4 : k0_cond4 i = 1#1 := by rw [cond4_iff]; omega
    simp only [body, cc0_body_eq_skeleton, cc0_body_skel, dif_neg c1, dif_pos c2, dif_neg c6, dif_neg c10, dif_neg c14, dif_neg c18, dif_neg c21, k0_part11_eq_skeleton, k0_part11_skel, dif_neg c3, dif_pos c4, dif_neg c5, Prog.lift, wp_deviceId, Prog.bind_op, Prog.bind_ret, Prog.pure_eq_ret]
    have hcol' := col_off' h1 (by omega)
    have hws := fun inb => wSem_eq (slot (n + 1)) _ ((off11_eq i).trans (by rw [hsl'])) inb
    apply no_frame m c n
    apply plain m c n (by omega)
    · exact start1 m c n 0 0 (by omega) rfl _ _ ((off12_eq i).trans (by rw [hsl'])) ((off13_eq i c).trans (by rw [hcol', nx_zero])) _ _ _ (hws _)
    · exact fin _ _ _ _ _ _ _ _ (hw _)
    · exact end_point m c n
  · have c3 : k0_cond3 i = 1#1 := by rw [cond3_iff]; omega
    have c4 : ¬ k0_cond4 i = 1#1 := by rw [cond4_iff]; omega
    simp only [body, cc0_body_eq_skeleton, cc0_body_skel, dif_neg c1, dif_pos c2, dif_neg c6, dif_neg c10, dif_neg c14, dif_neg c18, dif_neg c21, k0_part11_eq_skeleton, k0_part11_skel, dif_pos c3, dif_neg c4, dif_neg c5, Prog.lift, wp_deviceId, Prog.bind_op, Prog.bind_ret, Prog.pure_eq_ret]
    have hcol' := col_zero hh
    have hws := fun inb => wSem_eq (slot (n + 1)) _ ((off7_eq i).trans (by rw [hsl'])) inb
    apply no_frame m c n
    apply plain m c n (by omega)
    · exact start2 m c n 1 1 (by omega) rfl _ _ _ _ ((off8_eq i).trans (by rw [hsl'])) ((off9_eq c 0).trans (by rw [hcol']; rfl))
        ((off10_eq i).trans (by rw [hsl'])) ((off9_eq c 1).trans (by rw [hcol']; rfl)) _ _ _ _ _ _ (hws _) (hws _)
    · exact fin _ _ _ _ _ _ _ _ (hw _)
    · exact end_point m c n

set_option maxHeartbeats 1000000 in
set_option maxRecDepth 8000 in
theorem group4 (K : Dev nD × Fin 17 → ℕ) (c : Dev nD) (i : grid0.Coords) (n : ℕ) (hg : n / 4 = 4) (hn : n % 4 ≠ 3) (h0 : (i 0).val = n / 4) (h1 : (i 1).val = n % 4) (f : Vec F S1024x4096 .f32) :
    iprop(records m K ∗ before m c n f) ⊢ run c (body i) (fun _ => after m c n f) := by
  have c1 : ¬ k0_cond1 i = 1#1 := by rw [cond1_iff]; omega
  have c2 : ¬ k0_cond2 i = 1#1 := by rw [cond2_iff]; omega
  have c6 : ¬ k0_cond6 i = 1#1 := by rw [cond6_iff]; omega
  have c10 : ¬ k0_cond10 i = 1#1 := by rw [cond10_iff]; omega
  have c14 : ¬ k0_cond14 i = 1#1 := by rw [cond14_iff]; omega
  have c18 : k0_cond18 i = 1#1 := by rw [cond18_iff]; omega
  have c21 : ¬ k0_cond21 i = 1#1 := by rw [cond21_iff]; omega
  have c19 : k0_cond19 i = 1#1 := by rw [cond19_iff]; omega
  have hsl := slot_off h1
  have hsl' := slot_off' h1
  have hcol := col_off h1
  have hw := fun inb => wSem_eq (slot n) _ ((off68_eq i).trans (by rw [hsl])) inb
  have ho := (k0_off72_eq i).trans (show _ = ![0, 1024 * (col n).val] by rw [hcol])
  have fin {k : PUnit → Prog (TpuEff nD τ sig (Elt F) Λ₀ .tc) PUnit} (Q : PUnit → sProp 𝕄) := finish_one (Q := Q) (k := k) m c n 4 7 hg rfl rfl k0_pay5 (fun _ _ => rfl) f
    ![0, 7168] _ _ _ _ rfl ((off71_eq i).trans (by rw [hsl])) ho ho ho
  have hcol' := col_off' h1 (by omega)
  have hws := fun inb => wSem_eq (slot (n + 1)) _ ((off64_eq i).trans (by rw [hsl'])) inb
  rcases (by omega : n % 4 = 0 ∨ (n % 4 = 1 ∨ n % 4 = 2)) with hh | hh
  · have c20 : k0_cond20 i = 1#1 := by rw [cond20_iff]; omega
    simp only [body, cc0_body_eq_skeleton, cc0_body_skel, dif_neg c1, dif_neg c2, dif_neg c6, dif_neg c10, dif_neg c14, dif_pos c18, dif_neg c21, k0_part26_eq_skeleton, k0_part26_skel, dif_pos c19, dif_pos c20, Prog.lift, wp_deviceId, Prog.bind_op, Prog.bind_ret, Prog.pure_eq_ret]
    apply waiting m c n
    · exact start1 m c n 4 7 (by omega) rfl _ _ ((off65_eq i).trans (by rw [hsl'])) ((off66_eq i c).trans (by rw [hcol'])) _ _ _ (hws _)
    · rw [arrived_eq (n := n) (g := 3) (by omega), arrived_eq (n := n + 1) (g := 4) (by omega)]
      exact gat_step m K c 7 (by decide) (by decide) _ (rSem_eq _ _ (off67_eq c) _)
    · exact fin _ _ _ _ _ _ _ _ _ (hw _)
    · exact run_ret (Q := fun _ => after m c n f) c PUnit.unit
  · have c20 : ¬ k0_cond20 i = 1#1 := by rw [cond20_iff]; omega
    simp only [body, cc0_body_eq_skeleton, cc0_body_skel, dif_neg c1, dif_neg c2, dif_neg c6, dif_neg c10, dif_neg c14, dif_pos c18, dif_neg c21, k0_part26_eq_skeleton, k0_part26_skel, dif_pos c19, dif_neg c20, Prog.lift, wp_deviceId, Prog.bind_op, Prog.bind_ret, Prog.pure_eq_ret]
    apply no_frame m c n
    apply plain m c n (by omega)
    · exact start1 m c n 4 7 (by omega) rfl _ _ ((off65_eq i).trans (by rw [hsl'])) ((off66_eq i c).trans (by rw [hcol'])) _ _ _ (hws _)
    · exact fin _ _ _ _ _ _ _ _ _ (hw _)
    · exact end_point m c n

/-! ## The last point -/

section whole
variable (c : Dev nD)

theorem whole_emb (x : S1024x4096.Idx) (inb) : (Rect.unit (s := S1024x4096) ![0, 0] S1024x4096.size inb).emb x = x := by
  funext a
  refine Fin.ext ((ValueKit.rect_emb_unit_val (s := S1024x4096) ![0, 0] S1024x4096.size inb x a).trans ?_)
  match a with
  | ⟨0, _⟩ => exact Nat.zero_add _
  | ⟨1, _⟩ => exact Nat.zero_add _

theorem read_whole_out (f : Vec F S1024x4096 .f32) (inb) :
    oM.view.readAt (Elt F) (Rect.unit (s := S1024x4096) ![0, 0] S1024x4096.size inb).toLoadRect f = f := by
  funext x
  exact congrArg f (whole_emb x inb)

theorem owload {α : Type} {Q : α → sProp 𝕄} {k : Vec F S1024x4096 .f32 → Prog (TpuEff nD τ sig (Elt F) Λ₀ .tc) α} (f : Vec F S1024x4096 .f32) (inb) {hl} :
    (oLoc c ↦{fullShare} (f : Buf (Elt F) (oLoc c)))
      ⊢ iprop(((oLoc c ↦{fullShare} (f : Buf (Elt F) (oLoc c))) -∗ run c (k f) Q)
          -∗ run c (.op (.load oM (Rect.unit (s := S1024x4096) ![0, 0] S1024x4096.size inb).toLoadRect hl) k) Q) := by
  rw [show k f = k (oM.view.readAt (Elt F) (Rect.unit (s := S1024x4096) ![0, 0] S1024x4096.size inb).toLoadRect f) from congrArg k (read_whole_out f inb).symm]
  exact wp_load 𝒱₀ (c : Thread nD τ) none Set.univ (m := oM) (Finset.subset_univ _)

theorem owstore {α : Type} {Q : α → sProp 𝕄} {k : PUnit → Prog (TpuEff nD τ sig (Elt F) Λ₀ .tc) α} (f w : Vec F S1024x4096 .f32) (inb) {hx hm} :
    (oLoc c ↦{fullShare} (f : Buf (Elt F) (oLoc c)))
      ⊢ iprop(((oLoc c ↦{fullShare} (w : Buf (Elt F) (oLoc c))) -∗ run c (k ⟨⟩) Q)
          -∗ run c (.op (.store oM (Rect.unit (s := S1024x4096) ![0, 0] S1024x4096.size inb) w Finset.univ hx hm) k) Q) := by
  iintro Ho Hk
  iapply (wp_store 𝒱₀ (c : Thread nD τ) none Set.univ (m := oM) (r := Rect.unit (s := S1024x4096) ![0, 0] S1024x4096.size inb) (Mk := Finset.univ) (Finset.subset_univ _)) $$ Ho
  iintro Ho
  iapply Hk
  iapply (Entails.of_eq (congrArg (fun g => (oLoc c ↦{fullShare} (g : Buf (Elt F) (oLoc c)) : sProp 𝕄))
    ((read_whole_out _ inb).symm.trans (View.read_write_univ (v := (oM.access (Rect.unit (s := S1024x4096) ![0, 0] S1024x4096.size inb) : View sig .tc _ _ _)) f w)))) $$ Ho

end whole

/-- One step on part of what is held, then the rest. -/
theorem then_ {R A B Fr X Y : sProp 𝕄} [BI.Persistent R] (h : iprop(R ∗ A) ⊢ iprop((B -∗ Y) -∗ X)) (hY : iprop(R ∗ B ∗ Fr) ⊢ Y) : iprop(R ∗ A ∗ Fr) ⊢ X := by
  iintro ⟨#HR, HA, HF⟩
  iapply h $$ [HA]
  · isplitr; · iexact HR
    iexact HA
  iintro HB
  iapply hY
  isplitr; · iexact HR
  isplitl [HB] <;> iassumption

theorem flight_past (c : Dev nD) : flight m c (19 + 1) = Free m c (slot 20) := rfl

theorem last_start (c : Dev nD) {Y : sProp 𝕄} : Free m c (slot (19 + 1)) ⊢ iprop((flight m c (19 + 1) -∗ Y) -∗ Y) := by
  iintro H Hk
  iapply Hk
  iapply (Entails.of_eq (flight_past m c).symm) $$ H

/-- What the last point leaves. -/
def finished (c : Dev nD) (f : Vec F S1024x4096 .f32) : sProp 𝕄 :=
  iprop(Free m c (slot 20) ∗ Free m c (slot 19) ∗ gat m c 8 ∗ dones m c 7 ∗ ow c 0
    ∗ ∃ f' : Vec F S1024x4096 .f32, ⌜Put f f' 3 (upd m c 4 3 (oblk f 3))⌝ ∗ (oLoc c ↦{fullShare} (k0_pay6 f' : Buf (Elt F) (oLoc c))))

/-- The activation over the whole buffer. -/
theorem activate (c : Dev nD) (f : Vec F S1024x4096 .f32) (inb inb' inb'') {h1 h2 h3 h4} (R : sProp 𝕄) :
    iprop(R ∗ dones m c 7 ∗ ow c 0 ∗ Free m c (slot 20) ∗ Free m c (slot 19) ∗ gat m c 8 ∗ ∃ f' : Vec F S1024x4096 .f32, ⌜Put f f' 3 (upd m c 4 3 (oblk f 3))⌝ ∗ (oLoc c ↦{fullShare} (f' : Buf (Elt F) (oLoc c))))
      ⊢ run c (.op (.load oM (Rect.unit (s := S1024x4096) ![0, 0] S1024x4096.size inb).toLoadRect h1)
          fun o => .op (.load oM (Rect.unit (s := S1024x4096) ![0, 0] S1024x4096.size inb').toLoadRect h2)
          fun _ => .op (.store oM (Rect.unit (s := S1024x4096) ![0, 0] S1024x4096.size inb'') (k0_pay6 o) Finset.univ h3 h4) fun _ => .ret PUnit.unit)
        (fun _ => finished m c f) := by
  iintro ⟨_, Hd, Ho, Ha, Hb, Hg, ⟨%f', %hf', Hout⟩⟩
  iapply (owload c f' inb) $$ Hout
  iintro Hout
  iapply (owload c f' inb') $$ Hout
  iintro Hout
  iapply (owstore c f' (k0_pay6 f') inb'') $$ Hout
  iintro Hout
  iapply (run_ret (Q := fun _ => finished m c f) c PUnit.unit)
  unfold finished
  isplitl [Ha]; · iexact Ha
  isplitl [Hb]; · iexact Hb
  isplitl [Hg]; · iexact Hg
  isplitl [Hd]; · iexact Hd
  isplitl [Ho]; · iexact Ho
  iexists f'
  isplitr; · ipureintro; exact hf'
  iexact Hout

set_option maxHeartbeats 2000000 in
set_option maxRecDepth 8000 in
theorem point19 (K : Dev nD × Fin 17 → ℕ) (c : Dev nD) (i : grid0.Coords) (h0 : (i 0).val = 4) (h1 : (i 1).val = 3) (f : Vec F S1024x4096 .f32) :
    iprop(records m K ∗ before m c 19 f ∗ sents c 7) ⊢ run c (body i) (fun _ => finished m c f) := by
  have c1 : ¬ k0_cond1 i = 1#1 := by rw [cond1_iff]; omega
  have c2 : ¬ k0_cond2 i = 1#1 := by rw [cond2_iff]; omega
  have c6 : ¬ k0_cond6 i = 1#1 := by rw [cond6_iff]; omega
  have c10 : ¬ k0_cond10 i = 1#1 := by rw [cond10_iff]; omega
  have c14 : ¬ k0_cond14 i = 1#1 := by rw [cond14_iff]; omega
  have c18 : k0_cond18 i = 1#1 := by rw [cond18_iff]; omega
  have c21 : k0_cond21 i = 1#1 := by rw [cond21_iff]; omega
  have c19 : ¬ k0_cond19 i = 1#1 := by rw [cond19_iff]; omega
  have c20 : ¬ k0_cond20 i = 1#1 := by rw [cond20_iff]; omega
  have hsl := slot_off (n := 19) h1
  have hcol := col_off (n := 19) h1
  have hw := fun inb => wSem_eq (slot 19) _ ((off68_eq i).trans (by rw [hsl])) inb
  have ho := (k0_off72_eq i).trans (show _ = ![0, 1024 * (col 19).val] by rw [hcol])
  have fin {k : PUnit → Prog (TpuEff nD τ sig (Elt F) Λ₀ .tc) PUnit} (Q : PUnit → sProp 𝕄) := finish_one (Q := Q) (k := k) m c 19 4 7 rfl rfl rfl k0_pay5 (fun _ _ => rfl) f
    ![0, 7168] _ _ _ _ rfl ((off71_eq i).trans (by rw [hsl])) ho ho ho
  simp only [body, cc0_body_eq_skeleton, cc0_body_skel, dif_neg c1, dif_neg c2, dif_neg c6, dif_neg c10, dif_neg c14, dif_pos c18, dif_pos c21, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, dif_neg c19, dif_neg c20, Prog.lift, wp_deviceId, Prog.bind_op, Prog.bind_ret, Prog.pure_eq_ret]
  apply plain m c 19 (by decide)
  · exact last_start m c
  · exact fin _ _ _ _ _ _ _ _ _ (hw _)
  have hre : iprop(records m K ∗ after m c 19 f ∗ sents c 7) ⊢ iprop(records m K ∗ (sents c 7 ∗ dones m c 0 ∗ ow c 0) ∗ Free m c (slot 20) ∗ Free m c (slot 19) ∗ gat m c 8
      ∗ ∃ f' : Vec F S1024x4096 .f32, ⌜Put f f' 3 (upd m c 4 3 (oblk f 3))⌝ ∗ (oLoc c ↦{fullShare} (f' : Buf (Elt F) (oLoc c)))) := by
    unfold after
    iintro ⟨#HR, ⟨Ha, Hb, Hg, Ho, Hout⟩, Hs⟩
    isplitr; · iexact HR
    isplitl [Hs Ho]
    · isplitl [Hs]; · iexact Hs
      isplitr
      · iapply (Entails.of_eq (show (iprop(emp) : sProp 𝕄) = dones m c 0 from rfl))
        iempintro
      iexact Ho
    isplitl [Ha]; · iapply (Entails.of_eq (flight_past m c)) $$ Ha
    isplitl [Hb]; · iexact Hb
    isplitl [Hg]; · iexact Hg
    iexact Hout
  refine BIBase.Entails.trans hre ?_
  refine then_ (sent_step m K c 6 (by decide) _ (sSem_eq _ _ (off73_eq c 0) _)) ?_
  refine then_ (sent_step m K c 5 (by decide) _ (sSem_eq _ _ (off73_eq c 1) _)) ?_
  refine then_ (sent_step m K c 4 (by decide) _ (sSem_eq _ _ (off73_eq c 2) _)) ?_
  refine then_ (sent_step m K c 3 (by decide) _ (sSem_eq _ _ (off73_eq c 3) _)) ?_
  refine then_ (sent_step m K c 2 (by decide) _ (sSem_eq _ _ (off73_eq c 4) _)) ?_
  refine then_ (sent_step m K c 1 (by decide) _ (sSem_eq _ _ (off73_eq c 5) _)) ?_
  refine then_ (sent_step m K c 0 (by decide) _ (sSem_eq _ _ (off73_eq c 6) _)) ?_
  refine BIBase.Entails.trans ?_ (activate m c f _ _ _ (records m K))
  iintro ⟨HR, ⟨_, Hd, Ho⟩, HF⟩
  isplitl [HR]; · iexact HR
  isplitl [Hd]; · iexact Hd
  isplitl [Ho] <;> iassumption

/-! ## The first point -/

/-- What the first point finds; -/
def ready (c : Dev nD) (f : Vec F S1024x4096 .f32) : sProp 𝕄 :=
  iprop(levAts L lv ∗ cred (tallyAt (barC c) () 7) ∗ atPos ER (barC c) 0 ∅ 0 ∗ sigs c 7 ∗ ow c (OB c 7) ∗ sends m c 7
    ∗ (semVal ((c : Thread nD τ), .dma lSem) 0 ∗ (∃ f, gLoc c ↦[gSet 0]{fullShare} f) ∗ (xLoc c ↦[xSet c.val]{fullShare} m (xLoc c)))
    ∗ Free m c (slot 0) ∗ Free m c (slot 1) ∗ pend c 7 ∗ semVal (rcvC c (nx c 0)) 0 ∗ (oLoc c ↦{fullShare} (f : Buf (Elt F) (oLoc c))))
/-- what it keeps for the end; -/
def kept (c : Dev nD) : sProp 𝕄 :=
  iprop(semVal (barC c) 0 ∗ semVal ((c : Thread nD τ), .dma lSem) 0 ∗ (xLoc c ↦[xSet c.val]{fullShare} m (xLoc c)))
/-- and the rest of its stock once every departure is under way. -/
def moving (c : Dev nD) (f : Vec F S1024x4096 .f32) : sProp 𝕄 :=
  iprop(semVal (barC c) 0 ∗ LFly m c ∗ Free m c (slot 0) ∗ Free m c (slot 1) ∗ pend c 7 ∗ semVal (rcvC c (nx c 0)) 0 ∗ (oLoc c ↦{fullShare} (f : Buf (Elt F) (oLoc c))))

theorem barrier_then (K : Dev nD × Fin 17 → ℕ) (c : Dev nD) (f : Vec F S1024x4096 .f32) {α : Type} {Q : α → sProp 𝕄} {k : PUnit → Prog (TpuEff nD τ sig (Elt F) Λ₀ .tc) α} (a : ℕ) (ha : a = 7)
    (o o') (ho : o = ![0, 0]) (ho' : o' = ![1024 * c.val, 0]) (inb inb') {hsrc hdst hsem}
    (hk : iprop(records m K ∗ (sends m c 7 ∗ barPays c 7 ∗ sents c 0 ∗ ow c (OR c 7)) ∗ moving m c f) ⊢ run c (k ⟨⟩) Q) :
    iprop(records m K ∗ (sigs c 0 ∗ ow c (OB c 0)) ∗ levAts L lv ∗ cred (tallyAt (barC c) () 7) ∗ atPos ER (barC c) 0 ∅ 0 ∗ sends m c 7
      ∗ (semVal ((c : Thread nD τ), .dma lSem) 0 ∗ (∃ f, gLoc c ↦[gSet 0]{fullShare} f) ∗ (xLoc c ↦[xSet c.val]{fullShare} m (xLoc c)))
      ∗ Free m c (slot 0) ∗ Free m c (slot 1) ∗ pend c 7 ∗ semVal (rcvC c (nx c 0)) 0 ∗ (oLoc c ↦{fullShare} (f : Buf (Elt F) (oLoc c))))
    ⊢ run c (.op (.semWait barS a) fun _ => .op (.enqueueDma (xSl o' inb') (.here (gSl o inb)) (.dma lSem) hsrc hdst hsem) k) Q := by
  iintro ⟨#HR, ⟨_, Ho⟩, Hlev, Hc, Hat, Hsends, Hown, Hrest⟩
  iapply (barrier_step m K c a ha) $$ [Ho Hlev Hc Hat]
  · isplitr; · iexact HR
    isplitl [Hlev]; · iexact Hlev
    isplitl [Hc]; · iexact Hc
    isplitl [Hat]; · iexact Hat
    iexact Ho
  iintro ⟨Hb, Hsv, Ho⟩
  iapply (own_step m c o o' ho ho' inb inb') $$ Hown
  iintro Hfly
  iapply hk
  isplitr; · iexact HR
  isplitl [Hsends Hb Ho]
  · isplitl [Hsends]; · iexact Hsends
    isplitl [Hb]; · iexact Hb
    isplitr
    · iapply (Entails.of_eq (show (iprop(emp) : sProp 𝕄) = sents c 0 from rfl))
      iempintro
    iexact Ho
  unfold moving
  isplitl [Hsv]; · iexact Hsv
  isplitl [Hfly]; · iexact Hfly
  iexact Hrest

/-- The first point's own slice: its weights and the next point's start, its own rows arrive, the first block is written. -/
theorem first_slice (K : Dev nD × Fin 17 → ℕ) (c : Dev nD) (f : Vec F S1024x4096 .f32) {X Y Y' Y'' : sProp 𝕄}
    (h1 : Free m c (slot 0) ⊢ iprop((flight m c 0 -∗ Y) -∗ X)) (h2 : Free m c (slot (0 + 1)) ⊢ iprop((flight m c (0 + 1) -∗ Y') -∗ Y))
    (h3 : iprop(LFly m c ∗ ow c 0) ⊢ iprop(((gLoc c ↦[gSet 0]{fullShare} gC m c) ∗ (xLoc c ↦[xSet c.val]{fullShare} m (xLoc c)) ∗ semVal ((c : Thread nD τ), .dma lSem) 0 ∗ ow c 0 -∗ Y'') -∗ Y'))
    (h4 : during m c 0 f ⊢ iprop((after m c 0 f -∗ run c (.ret PUnit.unit) fun _ => iprop(after m c 0 f ∗ sents c 7 ∗ kept m c)) -∗ Y'')) :
    iprop(records m K ∗ (sends m c 0 ∗ barPays c 0 ∗ sents c 7 ∗ ow c (OR c 0)) ∗ moving m c f) ⊢ X := by
  unfold moving
  iintro ⟨_, ⟨_, _, Hsents, Ho⟩, Hsv, Hfly, Hf0, Hf1, Hp, Hr, Hout⟩
  iapply h1 $$ Hf0
  iintro Hf0
  iapply h2 $$ Hf1
  iintro Hf1
  iapply h3 $$ [Hfly Ho]
  · isplitl [Hfly]; · iexact Hfly
    iexact Ho
  iintro ⟨Hg, Hx, Hl, Ho⟩
  iapply h4 $$ [Hf0 Hf1 Hg Hr Hp Ho Hout]
  · unfold during
    isplitl [Hf0]; · iexact Hf0
    isplitl [Hf1]; · iexact Hf1
    isplitl [Hg Hr Hp]
    · iapply (Entails.of_eq (show iprop(haves m c 1 ∗ pend c 7) = gat m c (arrived (0 + 1)) from rfl))
      isplitl [Hg Hr]
      · iapply (Entails.of_eq (haves_succ m c 0).symm)
        isplitl [Hg Hr]
        · isplitl [Hg] <;> iassumption
        iapply (Entails.of_eq (show (iprop(emp) : sProp 𝕄) = haves m c 0 from rfl))
        iempintro
      iexact Hp
    isplitl [Ho]; · iexact Ho
    iexact Hout
  iintro Ha
  iapply (run_ret (Q := fun _ => iprop(after m c 0 f ∗ sents c 7 ∗ kept m c)) c PUnit.unit)
  isplitl [Ha]; · iexact Ha
  isplitl [Hsents]; · iexact Hsents
  unfold kept
  isplitl [Hsv]; · iexact Hsv
  isplitl [Hl] <;> iassumption

set_option maxHeartbeats 2000000 in
set_option maxRecDepth 8000 in
theorem point0 (K : Dev nD × Fin 17 → ℕ) (c : Dev nD) (i : grid0.Coords) (h0 : (i 0).val = 0) (h1 : (i 1).val = 0) (f : Vec F S1024x4096 .f32) :
    iprop(records m K ∗ ready m c f) ⊢ run c (body i) (fun _ => iprop(after m c 0 f ∗ sents c 7 ∗ kept m c)) := by
  have c1 : k0_cond1 i = 1#1 := by rw [cond1_iff]; omega
  have c2 : k0_cond2 i = 1#1 := by rw [cond2_iff]; omega
  have c6 : ¬ k0_cond6 i = 1#1 := by rw [cond6_iff]; omega
  have c10 : ¬ k0_cond10 i = 1#1 := by rw [cond10_iff]; omega
  have c14 : ¬ k0_cond14 i = 1#1 := by rw [cond14_iff]; omega
  have c18 : ¬ k0_cond18 i = 1#1 := by rw [cond18_iff]; omega
  have c21 : ¬ k0_cond21 i = 1#1 := by rw [cond21_iff]; omega
  have c3 : ¬ k0_cond3 i = 1#1 := by rw [cond3_iff]; omega
  have c4 : k0_cond4 i = 1#1 := by rw [cond4_iff]; omega
  have c5 : k0_cond5 i = 1#1 := by rw [cond5_iff]; omega
  have hsl := slot_off (n := 0) h1
  have hsl' := slot_off' (n := 0) h1
  have hcol := col_off (n := 0) h1
  have hcol' := col_off' (n := 0) h1 (by omega)
  have hw := fun inb => wSem_eq (slot 0) _ ((off15_eq i).trans (by rw [hsl])) inb
  have hws := fun inb => wSem_eq (slot (0 + 1)) _ ((off11_eq i).trans (by rw [hsl'])) inb
  have ho := (k0_off19_eq i).trans (show _ = ![0, 1024 * (col 0).val] by rw [hcol])
  have fin {k : PUnit → Prog (TpuEff nD τ sig (Elt F) Λ₀ .tc) PUnit} (Q : PUnit → sProp 𝕄) := finish_first (Q := Q) (k := k) m c 0 0 0 rfl rfl rfl k0_pay1 (fun _ _ => rfl) f
    ![0, 0] _ _ _ rfl ((off18_eq i).trans (by rw [hsl])) ho ho
  simp only [body, cc0_body_eq_skeleton, cc0_body_skel, dif_pos c1, dif_pos c2, dif_neg c6, dif_neg c10, dif_neg c14, dif_neg c18, dif_neg c21, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part11_eq_skeleton, k0_part11_skel, dif_neg c3, dif_pos c4, dif_pos c5, semSignalWord, semWaitWord, Prog.lift, wp_deviceId, Prog.bind_op, Prog.bind_ret, Prog.pure_eq_ret]
  have hre : iprop(records m K ∗ ready m c f) ⊢ iprop(records m K ∗ (sigs c 7 ∗ ow c (OB c 7)) ∗ levAts L lv ∗ cred (tallyAt (barC c) () 7) ∗ atPos ER (barC c) 0 ∅ 0 ∗ sends m c 7
      ∗ (semVal ((c : Thread nD τ), .dma lSem) 0 ∗ (∃ f, gLoc c ↦[gSet 0]{fullShare} f) ∗ (xLoc c ↦[xSet c.val]{fullShare} m (xLoc c)))
      ∗ Free m c (slot 0) ∗ Free m c (slot 1) ∗ pend c 7 ∗ semVal (rcvC c (nx c 0)) 0 ∗ (oLoc c ↦{fullShare} (f : Buf (Elt F) (oLoc c)))) := by
    unfold ready
    iintro ⟨#HR, Hlev, Hc, Hat, Hs, Ho, Hrest⟩
    isplitr; · iexact HR
    isplitl [Hs Ho]
    · isplitl [Hs] <;> iassumption
    isplitl [Hlev]; · iexact Hlev
    isplitl [Hc]; · iexact Hc
    isplitl [Hat]; · iexact Hat
    iexact Hrest
  refine BIBase.Entails.trans hre ?_
  refine then_ (signal_step m K c 6 (by decide) _ (Fin.ext (dev1_eq c)) _ rfl) ?_
  refine then_ (signal_step m K c 5 (by decide) _ (Fin.ext (dev2_eq c)) _ rfl) ?_
  refine then_ (signal_step m K c 4 (by decide) _ (Fin.ext (dev3_eq c)) _ rfl) ?_
  refine then_ (signal_step m K c 3 (by decide) _ (Fin.ext (dev4_eq c)) _ rfl) ?_
  refine then_ (signal_step m K c 2 (by decide) _ (Fin.ext (dev5_eq c)) _ rfl) ?_
  refine then_ (signal_step m K c 1 (by decide) _ (Fin.ext (dev6_eq c)) _ rfl) ?_
  refine then_ (signal_step m K c 0 (by decide) _ (Fin.ext (dev7_eq c)) _ rfl) ?_
  refine barrier_then m K c f _ rfl _ _ rfl (off1_eq c) _ _ ?_
  refine then_ (send_step m K c 6 (by decide) _ (Fin.ext (dev8_eq c)) _ _ (off4_eq c 0) (off5_eq c 0) _ _ _ _ (sSem_eq _ _ (off2_eq c 0) _) (rSem_eq _ _ (off3_eq c) _)) ?_
  refine then_ (send_step m K c 5 (by decide) _ (Fin.ext (dev9_eq c)) _ _ (off4_eq c 1) (off5_eq c 1) _ _ _ _ (sSem_eq _ _ (off2_eq c 1) _) (rSem_eq _ _ (off3_eq c) _)) ?_
  refine then_ (send_step m K c 4 (by decide) _ (Fin.ext (dev10_eq c)) _ _ (off4_eq c 2) (off5_eq c 2) _ _ _ _ (sSem_eq _ _ (off2_eq c 2) _) (rSem_eq _ _ (off3_eq c) _)) ?_
  refine then_ (send_step m K c 3 (by decide) _ (Fin.ext (dev11_eq c)) _ _ (off4_eq c 3) (off5_eq c 3) _ _ _ _ (sSem_eq _ _ (off2_eq c 3) _) (rSem_eq _ _ (off3_eq c) _)) ?_
  refine then_ (send_step m K c 2 (by decide) _ (Fin.ext (dev12_eq c)) _ _ (off4_eq c 4) (off5_eq c 4) _ _ _ _ (sSem_eq _ _ (off2_eq c 4) _) (rSem_eq _ _ (off3_eq c) _)) ?_
  refine then_ (send_step m K c 1 (by decide) _ (Fin.ext (dev13_eq c)) _ _ (off4_eq c 5) (off5_eq c 5) _ _ _ _ (sSem_eq _ _ (off2_eq c 5) _) (rSem_eq _ _ (off3_eq c) _)) ?_
  refine then_ (send_step m K c 0 (by decide) _ (Fin.ext (dev14_eq c)) _ _ (off4_eq c 6) (off5_eq c 6) _ _ _ _ (sSem_eq _ _ (off2_eq c 6) _) (rSem_eq _ _ (off3_eq c) _)) ?_
  apply first_slice m K c f
  · exact fill1 m c (slot 0) 0 (col 0) _ _ rfl ((off6_eq c).trans (by rw [nx_zero]; rfl)) _ _ _ (wSem_eq (slot 0) _ rfl _)
  · exact start1 m c 0 0 0 rfl rfl _ _ ((off12_eq i).trans (by rw [hsl'])) ((off13_eq i c).trans (by rw [hcol', nx_zero])) _ _ _ (hws _)
  · exact own_wait m c
  · exact fin _ _ _ _ _ _ _ _ (hw _)

end Cert.KernelIdeal.Gather
-- ==== Proof.Body.lean ====
/- The grid's points one after the other: what the output's buffer holds before each, what the device holds between them, and
   that the body takes one state to the next. -/
module

public import proofs.«01_k».proof.Proof.Ends
public import proofs.«01_k».proof.Proof.Gen.KernelIdeal.Points
public import Idealize.ShloMosaic.Lib.Pipeline.DatRel

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The output's buffer -/

/-- The sum a column block holds after its group `g`. -/
def acc (c : Dev nD) : ℕ → Fin 4 → Vec F S1024x1024 .f32
  | 0, h => k0_pay1 (gv1 m c 0) (wv1 m c 0 h)
  | g + 1, h => upd m c (g + 1) h (acc c g h)

/-- How many points before `n` wrote column block `h`. -/
def cnt (n : ℕ) (h : Fin 4) : ℕ := (n + 3 - h.val) / 4

/-- Each block written so far holds its sum. -/
def Good (c : Dev nD) (n : ℕ) (f : Vec F S1024x4096 .f32) : Prop := ∀ h : Fin 4, 1 ≤ cnt n h → oblk f h = acc m c (cnt n h - 1) h

theorem good_zero (c : Dev nD) (f : Vec F S1024x4096 .f32) : Good m c 0 f := fun h hh => by
  have := h.isLt
  unfold cnt at hh
  omega

theorem good_succ (c : Dev nD) (n : ℕ) (f f' : Vec F S1024x4096 .f32) (hG : Good m c n f)
    (hP : Put f f' (col n) (upd m c (n / 4) (col n) (oblk f (col n)))) : Good m c (n + 1) f' := fun h hh => by
  have hl := h.isLt
  rw [hP h]
  by_cases he : h = col n
  · subst he
    have h1 : cnt (n + 1) (col n) = n / 4 + 1 := by show (n + 1 + 3 - n % 4) / 4 = n / 4 + 1; omega
    have h0 : cnt n (col n) = n / 4 := by show (n + 3 - n % 4) / 4 = n / 4; omega
    rw [if_pos rfl, h1, Nat.add_sub_cancel]
    rcases hq : n / 4 with _ | g
    · rfl
    · have := hG (col n) (by omega)
      rw [this, h0, hq]
      rfl
  · have hne : h.val ≠ n % 4 := fun e => he (Fin.ext e)
    have h1 : cnt (n + 1) h = cnt n h := by unfold cnt; omega
    rw [if_neg he, h1]
    exact hG h (by rw [← h1]; exact hh)

/-- The whole buffer when every block has its whole sum; -/
def asm (c : Dev nD) : Vec F S1024x4096 .f32 := fun i =>
  acc m c 4 ⟨(i 1).val / 1024, by have h : (i 1).val < 4096 := (i 1).isLt; omega⟩ (ix2 (n0 := 1024) (n1 := 1024) (i 0) ⟨(i 1).val % 1024, by omega⟩)
/-- and with the activation applied. -/
def finalOut (c : Dev nD) : Vec F S1024x4096 .f32 := k0_pay6 (asm m c)

theorem good_last (c : Dev nD) (f : Vec F S1024x4096 .f32) (hG : Good m c 20 f) : f = asm m c := by
  funext i
  have h1 : (i 1).val < 4096 := (i 1).isLt
  have h := hG ⟨(i 1).val / 1024, by omega⟩ (by show 1 ≤ (20 + 3 - (i 1).val / 1024) / 4; omega)
  have hc : cnt 20 (⟨(i 1).val / 1024, by omega⟩ : Fin 4) - 1 = 4 := by show (20 + 3 - (i 1).val / 1024) / 4 - 1 = 4; omega
  rw [hc] at h
  refine Eq.trans ?_ (congrFun h (ix2 (n0 := 1024) (n1 := 1024) (i 0) ⟨(i 1).val % 1024, by omega⟩))
  unfold oblk
  refine congrArg f (funext fun a => Fin.ext ?_)
  match a with
  | ⟨0, _⟩ => rfl
  | ⟨1, _⟩ => show (i 1).val = 1024 * ((i 1).val / 1024) + (i 1).val % 1024; omega

/-- What a point leaves in the output's buffer. -/
def Rl (c : Dev nD) (w : Fin cfg0.W) (t : Fin cfg0.N) : ((cfg0.win w).block.Idx → Elt F (cfg0.win w).elt) → Prop := match w with
  | ⟨0, _⟩ => fun X => if t.val = 19 then X = finalOut m c else Good m c (t.val + 1) X

/-! ## What the device holds between the points -/

/-- At the start, the records apart; -/
def stock (c : Dev nD) : sProp 𝕄 :=
  iprop(levAts L lv ∗ cred (tallyAt (barC c) () 7) ∗ atPos ER (barC c) 0 ∅ 0 ∗ sigs c 7 ∗ sends m c 7
    ∗ (semVal ((c : Thread nD τ), .dma lSem) 0 ∗ (∃ f, gLoc c ↦[gSet 0]{fullShare} f) ∗ (xLoc c ↦[xSet c.val]{fullShare} m (xLoc c)))
    ∗ Free m c (slot 0) ∗ Free m c (slot 1) ∗ pend c 7 ∗ semVal (rcvC c (nx c 0)) 0 ∗ semVal (sndC c c) 0)
/-- before point `n`; -/
def amid (c : Dev nD) (n : ℕ) : sProp 𝕄 :=
  iprop((flight m c n ∗ Free m c (slot (n + 1)) ∗ gat m c (arrived n)) ∗ sents c 7 ∗ kept m c ∗ semVal (sndC c c) 0)
/-- at the end. -/
def rest (c : Dev nD) : sProp 𝕄 :=
  iprop(Free m c (slot 20) ∗ Free m c (slot 19) ∗ gat m c 8 ∗ dones m c 7 ∗ kept m c ∗ semVal (sndC c c) 0)

def phi (c : Dev nD) (n : ℕ) : sProp 𝕄 :=
  if n = 0 then iprop(∃ K, records m K ∗ stock m c) else if n = 20 then rest m c else iprop(∃ K, records m K ∗ amid m c n)

theorem phi_zero (c : Dev nD) : phi m c 0 = iprop(∃ K, records m K ∗ stock m c) := if_pos rfl
theorem phi_last (c : Dev nD) : phi m c 20 = rest m c := rfl
theorem phi_mid (c : Dev nD) {n : ℕ} (h0 : n ≠ 0) (h : n ≠ 20) : phi m c n = iprop(∃ K, records m K ∗ amid m c n) := by
  unfold phi; rw [if_neg h0, if_neg h]

variable (ρ : Dev nD → PrngReg)

def dats (_ : Fin 1) (c : Dev nD) : Pipeline.Dat τ (Elt F) Unit ℕ UU ℕ cfg0 c where
  A w := m ((cfg0.win w).arr.view.loc (c : Thread nD τ))
  after w _ := match w with
    | ⟨0, _⟩ => finalOut m c
  Φ t := phi m c t.val
  q _ := fullShare
  owed t := if t.val = 0 then O₀ c else 0

def fgt (_ : Fin cfg0.W) : Bool := true

/-! ## From one point to the next -/

theorem run_then (c : Dev nD) {α : Type} {p : Prog (TpuEff nD τ sig (Elt F) Λ₀ .tc) α} {A B : sProp 𝕄} {Q : α → sProp 𝕄} (h : A ⊢ run c p (fun _ => B)) :
    A ⊢ iprop((∀ x, B -∗ Q x) -∗ run c p Q) := by
  iintro HA HQ
  iapply (wp_wand frame (wpE (defs₀ (F := F)) 𝒱₀ (c : Thread nD τ) none) Set.univ) $$ [HA]
  · iapply h; iexact HA
  iexact HQ

/-- The first point; -/
theorem step_first (c : Dev nD) (i : grid0.Coords) (h0 : (i 0).val = 0) (h1 : (i 1).val = 0) (f : Vec F S1024x4096 .f32) :
    iprop(phi m c 0 ∗ ow c (O₀ c) ∗ (oLoc c ↦{fullShare} (f : Buf (Elt F) (oLoc c))))
      ⊢ run c (body i) (fun _ => iprop(phi m c 1 ∗ ow c 0 ∗ ∃ f' : Vec F S1024x4096 .f32, ⌜Good m c 1 f'⌝ ∗ (oLoc c ↦{fullShare} (f' : Buf (Elt F) (oLoc c))))) := by
  rw [phi_zero, phi_mid m c (by decide) (by decide)]
  unfold stock
  iintro ⟨⟨%K, #HR, Hlev, Hc, Hat, Hsigs, Hsends, Hown, H0, H1, Hp, Hr, Hs⟩, Ho, Hout⟩
  iapply (run_then c (point0 m K c i h0 h1 f)) $$ [Hlev Hc Hat Hsigs Hsends Hown H0 H1 Hp Hr Ho Hout]
  · isplitr; · iexact HR
    unfold ready
    isplitl [Hlev]; · iexact Hlev
    isplitl [Hc]; · iexact Hc
    isplitl [Hat]; · iexact Hat
    isplitl [Hsigs]; · iexact Hsigs
    isplitl [Ho]; · iexact Ho
    isplitl [Hsends]; · iexact Hsends
    isplitl [Hown]; · iexact Hown
    isplitl [H0]; · iexact H0
    isplitl [H1]; · iexact H1
    isplitl [Hp]; · iexact Hp
    isplitl [Hr]; · iexact Hr
    iexact Hout
  iintro %_ ⟨Ha, Hst, Hk⟩
  unfold after amid
  icases Ha with ⟨Hf, Hfree, Hg, Ho, ⟨%f', %hf', Hout⟩⟩
  isplitl [Hf Hfree Hg Hst Hk Hs]
  · iexists K
    isplitr; · iexact HR
    isplitl [Hf Hfree Hg]
    · isplitl [Hf]; · iexact Hf
      isplitl [Hfree]; · iexact Hfree
      iexact Hg
    isplitl [Hst]; · iexact Hst
    isplitl [Hk] <;> iassumption
  isplitl [Ho]; · iexact Ho
  iexists f'
  isplitr
  · ipureintro; exact good_succ m c 0 f f' (good_zero m c f) hf'
  iexact Hout

/-- a point in between; -/
theorem step_mid (c : Dev nD) (n : ℕ) (hn : 1 ≤ n) (hn' : n ≤ 18) (i : grid0.Coords) (h0 : (i 0).val = n / 4) (h1 : (i 1).val = n % 4) (f : Vec F S1024x4096 .f32) (hG : Good m c n f) :
    iprop(phi m c n ∗ ow c 0 ∗ (oLoc c ↦{fullShare} (f : Buf (Elt F) (oLoc c))))
      ⊢ run c (body i) (fun _ => iprop(phi m c (n + 1) ∗ ow c 0 ∗ ∃ f' : Vec F S1024x4096 .f32, ⌜Good m c (n + 1) f'⌝ ∗ (oLoc c ↦{fullShare} (f' : Buf (Elt F) (oLoc c))))) := by
  rw [phi_mid m c (n := n) (by omega) (by omega), phi_mid m c (n := n + 1) (by omega) (by omega)]
  have hpt (K) : iprop(records m K ∗ before m c n f) ⊢ run c (body i) (fun _ => after m c n f) := by
    rcases (by omega : n / 4 = 0 ∨ n / 4 = 1 ∨ n / 4 = 2 ∨ n / 4 = 3 ∨ n / 4 = 4) with hg | hg | hg | hg | hg
    · exact group0 m K c i n hg (by omega) h0 h1 f
    · exact group1 m K c i n hg h0 h1 f
    · exact group2 m K c i n hg h0 h1 f
    · exact group3 m K c i n hg h0 h1 f
    · exact group4 m K c i n hg (by omega) h0 h1 f
  have hslot : slot (n + 1 + 1) = slot n := Fin.ext (show (n + 1 + 1) % 2 = n % 2 by omega)
  unfold amid
  rw [hslot]
  iintro ⟨⟨%K, #HR, ⟨Hf, Hfree, Hg⟩, Hst, Hk, Hs⟩, Ho, Hout⟩
  iapply (run_then c (hpt K)) $$ [Hf Hfree Hg Ho Hout]
  · isplitr; · iexact HR
    unfold before
    isplitl [Hf]; · iexact Hf
    isplitl [Hfree]; · iexact Hfree
    isplitl [Hg]; · iexact Hg
    isplitl [Ho]; · iexact Ho
    iexact Hout
  iintro %_ Ha
  unfold after
  icases Ha with ⟨Hf, Hfree, Hg, Ho, ⟨%f', %hf', Hout⟩⟩
  isplitl [Hf Hfree Hg Hst Hk Hs]
  · iexists K
    isplitr; · iexact HR
    isplitl [Hf Hfree Hg]
    · isplitl [Hf]; · iexact Hf
      isplitl [Hfree]; · iexact Hfree
      iexact Hg
    isplitl [Hst]; · iexact Hst
    isplitl [Hk] <;> iassumption
  isplitl [Ho]; · iexact Ho
  iexists f'
  isplitr
  · ipureintro; exact good_succ m c n f f' hG hf'
  iexact Hout

/-- the last. -/
theorem step_last (c : Dev nD) (i : grid0.Coords) (h0 : (i 0).val = 4) (h1 : (i 1).val = 3) (f : Vec F S1024x4096 .f32) (hG : Good m c 19 f) :
    iprop(phi m c 19 ∗ ow c 0 ∗ (oLoc c ↦{fullShare} (f : Buf (Elt F) (oLoc c))))
      ⊢ run c (body i) (fun _ => iprop(phi m c 20 ∗ ow c 0 ∗ (oLoc c ↦{fullShare} (finalOut m c : Buf (Elt F) (oLoc c))))) := by
  rw [phi_last, phi_mid m c (n := 19) (by decide) (by decide)]
  unfold amid
  iintro ⟨⟨%K, #HR, ⟨Hf, Hfree, Hg⟩, Hst, Hk, Hs⟩, Ho, Hout⟩
  iapply (run_then c (point19 m K c i h0 h1 f)) $$ [Hf Hfree Hg Ho Hout Hst]
  · isplitr; · iexact HR
    isplitr [Hst]
    · unfold before
      isplitl [Hf]; · iexact Hf
      isplitl [Hfree]; · iexact Hfree
      isplitl [Hg]; · iexact Hg
      isplitl [Ho]; · iexact Ho
      iexact Hout
    iexact Hst
  iintro %_ Ha
  unfold finished rest
  icases Ha with ⟨Ha, Hb, Hg, Hd, Ho, ⟨%f', %hf', Hout⟩⟩
  isplitr [Ho Hout]
  · isplitl [Ha]; · iexact Ha
    isplitl [Hb]; · iexact Hb
    isplitl [Hg]; · iexact Hg
    isplitl [Hd]; · iexact Hd
    isplitl [Hk] <;> iassumption
  isplitl [Ho]; · iexact Ho
  have he : k0_pay6 f' = finalOut m c := congrArg k0_pay6 (good_last m c f' (good_succ m c 19 f f' hG hf'))
  rw [← he]
  iexact Hout

end Cert.KernelIdeal.Gather
-- ==== Proof.Oblig.lean ====
/- The pipeline's obligation for the body: at each point, from what the pipeline hands it to what the pipeline takes back. -/
module

public import proofs.«01_k».proof.Proof.Body

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat RDat BodyObligationRel)

theorem owns_whole (c : Dev nD) (b : Ref sig .tc) (X : b.ty.Contents (Elt F)) :
    (owns (c : Thread nD τ) (Memref.whole b) fullShare X : sProp 𝕄) = iprop(∃ f : Buf (Elt F) ((c : Thread nD τ).loc b), ⌜f = X⌝ ∗ (((c : Thread nD τ).loc b) ↦{fullShare} f)) := by
  unfold owns
  simp only [Memref.view_whole, View.read_whole, View.set_whole]

/-- What the body finds in the output's buffer. -/
theorem found (c : Dev nD) (t : Fin cfg0.N) (X : Vec F S1024x4096 .f32) (h : ((dats m 0 c).toRRel fgt (Rl m c)).Finds (0 : Fin 1) t X) : Good m c t.val X := by
  have hN : t.val < 20 := lt_of_lt_of_eq t.isLt N_0
  by_cases ht : t.val = 0
  · rw [ht]; exact good_zero m c X
  · rcases (RDat.finds_of_pos ((dats m 0 c).toRRel fgt (Rl m c)) (w := (0 : Fin 1)) (Pipeline.Window.fetch_out win0_0 rfl t) ht X).mp h with hf | hl
    · have := (flush0_0 _).mp hf
      dsimp only at this
      omega
    · have h' := Dat.toRRel_leaves (dats m 0 c) rfl hl
      have hne : ¬ t.val - 1 = 19 := by omega
      have h'' : Good m c (t.val - 1 + 1) X := by
        have h3 : (if t.val - 1 = 19 then X = finalOut m c else Good m c (t.val - 1 + 1) X) := h'
        rwa [if_neg hne] at h3
      rwa [Nat.sub_add_cancel (Nat.pos_of_ne_zero ht)] at h''

/-- The state before a point, at what the pipeline's bookkeeping says; -/
theorem owes_ow (c : Dev nD) (t : Fin (cfg0.N + 1)) (O : CellTallies nD τ sig Unit) (h : (dats m 0 c).owed t = O) : ((dats m 0 c).owesAt () t : sProp 𝕄) ⊢ ow c O := by
  unfold Dat.owesAt Pipeline.owesWithin ow
  rw [h]
  iintro ⟨%W, _, H⟩
  iexists W; iexact H
theorem ow_owes (c : Dev nD) (t : Fin (cfg0.N + 1)) (O : CellTallies nD τ sig Unit) (h : (dats m 0 c).owed t = O) : ow c O ⊢ ((dats m 0 c).owesAt () t : sProp 𝕄) := by
  unfold Dat.owesAt Pipeline.owesWithin ow
  rw [h]
  iintro ⟨%W, H⟩
  iexists W
  isplitr; · ipureintro; exact fun _ _ => Or.inl trivial
  iexact H

/-- One point. -/
theorem point (c : Dev nD) (t : Fin cfg0.N) (f : Vec F S1024x4096 .f32) (hG : Good m c t.val f) :
    iprop((dats m 0 c).Φ t.castSucc ∗ (dats m 0 c).owesAt () t.castSucc ∗ (oLoc c ↦{fullShare} (f : Buf (Elt F) (oLoc c))))
      ⊢ run c (body (grid0.coords t)) (fun _ => iprop((dats m 0 c).Φ t.succ ∗ (dats m 0 c).owesAt () t.succ
          ∗ ∃ f' : Vec F S1024x4096 .f32, ⌜Rl m c 0 t f'⌝ ∗ (oLoc c ↦{fullShare} (f' : Buf (Elt F) (oLoc c))))) := by
  have hN : t.val < 20 := lt_of_lt_of_eq t.isLt N_0
  have h0 := coord_group t
  have h1 := coord_col t
  have hΦ : (dats m 0 c).Φ t.castSucc = phi m c t.val := rfl
  have hΦ' : (dats m 0 c).Φ t.succ = phi m c (t.val + 1) := rfl
  have hO' : (dats m 0 c).owed t.succ = 0 := rfl
  rw [hΦ, hΦ']
  rcases (by omega : t.val = 0 ∨ (1 ≤ t.val ∧ t.val ≤ 18) ∨ t.val = 19) with ht | ht | ht
  · have hO : (dats m 0 c).owed t.castSucc = O₀ c := if_pos ht
    have hR (f' : Vec F S1024x4096 .f32) (h : Good m c 1 f') : Rl m c 0 t f' := by
      show if t.val = 19 then _ else _
      rw [if_neg (by omega), ht]; exact h
    rw [ht]
    iintro ⟨HP, Ho, Hout⟩
    ihave Ho := (owes_ow m c _ _ hO) $$ Ho
    iapply (wp_wand frame (wpE (defs₀ (F := F)) 𝒱₀ (c : Thread nD τ) none) Set.univ) $$ [HP Ho Hout]
    · iapply (step_first m c (grid0.coords t) (by omega) (by omega) f)
      isplitl [HP]; · iexact HP
      isplitl [Ho] <;> iassumption
    iintro %_ ⟨HP, Ho, ⟨%f', %hf', Hout⟩⟩
    ihave Ho := (ow_owes m c _ _ hO') $$ Ho
    isplitl [HP]; · iexact HP
    isplitl [Ho]; · iexact Ho
    iexists f'
    isplitr; · ipureintro; exact hR f' hf'
    iexact Hout
  · have hO : (dats m 0 c).owed t.castSucc = 0 := if_neg (show ¬ t.val = 0 by omega)
    have hR (f' : Vec F S1024x4096 .f32) (h : Good m c (t.val + 1) f') : Rl m c 0 t f' := by
      show if t.val = 19 then _ else _
      rw [if_neg (by omega)]; exact h
    iintro ⟨HP, Ho, Hout⟩
    ihave Ho := (owes_ow m c _ _ hO) $$ Ho
    iapply (wp_wand frame (wpE (defs₀ (F := F)) 𝒱₀ (c : Thread nD τ) none) Set.univ) $$ [HP Ho Hout]
    · iapply (step_mid m c t.val ht.1 ht.2 (grid0.coords t) h0 h1 f hG)
      isplitl [HP]; · iexact HP
      isplitl [Ho] <;> iassumption
    iintro %_ ⟨HP, Ho, ⟨%f', %hf', Hout⟩⟩
    ihave Ho := (ow_owes m c _ _ hO') $$ Ho
    isplitl [HP]; · iexact HP
    isplitl [Ho]; · iexact Ho
    iexists f'
    isplitr; · ipureintro; exact hR f' hf'
    iexact Hout
  · have hO : (dats m 0 c).owed t.castSucc = 0 := if_neg (show ¬ t.val = 0 by omega)
    have hR : Rl m c 0 t (finalOut m c) := by
      show if t.val = 19 then _ else _
      rw [if_pos ht]
    rw [ht] at hG ⊢
    iintro ⟨HP, Ho, Hout⟩
    ihave Ho := (owes_ow m c _ _ hO) $$ Ho
    iapply (wp_wand frame (wpE (defs₀ (F := F)) 𝒱₀ (c : Thread nD τ) none) Set.univ) $$ [HP Ho Hout]
    · iapply (step_last m c (grid0.coords t) (by omega) (by omega) f hG)
      isplitl [HP]; · iexact HP
      isplitl [Ho] <;> iassumption
    iintro %_ ⟨HP, Ho, Hout⟩
    ihave Ho := (ow_owes m c _ _ hO') $$ Ho
    isplitl [HP]; · iexact HP
    isplitl [Ho]; · iexact Ho
    iexists (finalOut m c)
    isplitr; · ipureintro; exact hR
    iexact Hout

theorem slot_zero (t : Fin cfg0.N) : cfg0.slots t 0 = (0 : Fin 1) := Subsingleton.elim (α := Fin 1) _ _

set_option maxRecDepth 8000 in
theorem obligation (c : Dev nD) : BodyObligationRel (dats m 0 c) (defs₀ (F := F)) 𝒱₀ () Set.univ fgt (Rl m c) := fun t => by
  rw [bigSep_W0, bigSep_W0]
  show iprop((dats m 0 c).Φ t.castSucc ∗ (dats m 0 c).owesAt () t.castSucc
      ∗ ∃ Y, ⌜((dats m 0 c).toRRel fgt (Rl m c)).Finds (0 : Fin 1) t Y⌝ ∗ owns (c : Thread nD τ) ((cfg0.win 0).stage (cfg0.slots t 0)) fullShare Y)
    ⊢ run c (bodyAt0 t) (fun _ => iprop((dats m 0 c).Φ t.succ ∗ (dats m 0 c).owesAt () t.succ
      ∗ ∃ X, ⌜Rl m c 0 t X⌝ ∗ owns (c : Thread nD τ) ((cfg0.win 0).stage (cfg0.slots t 0)) fullShare X))
  have key (M : Memref sig .tc .vmem S1024x4096 .f32) (hM : M.IsWhole) (e : M = oM) :
      cc0_body (F := F) (grid0.coords t) xM (Memref.isWhole_whole _) wM (Memref.isWhole_whole _) M hM gM (Memref.isWhole_whole _) bM (Memref.isWhole_whole _) cc0_scratch2 cc0_scratch3 cc0_scratch4 cc0_scratch5
        = body (F := F) (grid0.coords t) := by subst e; rfl
  have hb : bodyAt0 t = body (F := F) (grid0.coords t) := key _ _ (by rw [slot_zero t])
  rw [hb]
  generalize cfg0.slots t 0 = q at *
  have e (X : Vec F S1024x4096 .f32) : (owns (c : Thread nD τ) ((cfg0.win 0).stage q) fullShare X : sProp 𝕄)
      = iprop(∃ f : Buf (Elt F) (oLoc c), ⌜f = X⌝ ∗ (oLoc c ↦{fullShare} f)) := by
    rw [show q = (0 : Fin 1) from Subsingleton.elim (α := Fin 1) _ _]
    exact owns_whole (F := F) c cc0_stg0_0 X
  iintro ⟨HP, Ho, ⟨%Y, %hY, Hout⟩⟩
  ihave Hout := (Entails.of_eq (e Y)) $$ Hout
  icases Hout with ⟨%f, %hf, Hout⟩
  iapply (wp_wand frame (wpE (defs₀ (F := F)) 𝒱₀ (c : Thread nD τ) none) Set.univ) $$ [HP Ho Hout]
  · iapply (point m c t f (found m c t f (hf ▸ hY)))
    isplitl [HP]; · iexact HP
    isplitl [Ho] <;> iassumption
  iintro %_ ⟨HP, Ho, ⟨%f', %hf', Hout⟩⟩
  isplitl [HP]; · iexact HP
  isplitl [Ho]; · iexact Ho
  iexists f'
  isplitr; · ipureintro; exact hf'
  iapply (Entails.of_eq (e f').symm)
  iexists f'
  isplitr; · ipureintro; rfl
  iexact Hout

end Cert.KernelIdeal.Gather
-- ==== Proof.Dealt.lean ====
/- What the exchange is launched with: every device's semaphores, put under their invariants, and the duties, each in the
   hands of the device that performs it. -/
module

public import proofs.«01_k».proof.Proof.Steps
public import proofs.«01_k».proof.Proof.Gen.KernelIdeal.Launch
public import Idealize.ShloMosaic.Lib.SparseCore.Launch

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over devices and over numbers -/

section Families

variable {M : Type} [URA M]

/-- A family given from the last member down is the family over the numbers below. -/
theorem range_family (A D : ℕ → sProp M) (h0 : D 0 = iprop(emp)) (hs : ∀ n, D (n + 1) = iprop(A n ∗ D n)) (n : ℕ) : bigSep (Finset.range n) A = D n := by
  induction n with
  | zero => rw [Finset.range_zero, bigSep_empty, h0]; rfl
  | succ n ih => rw [Finset.range_add_one, bigSep_insert Finset.notMem_range_self, ih, hs]; rfl

theorem range_fin (n : ℕ) (A : ℕ → sProp M) : (bigSep Finset.univ fun k : Fin n => A k.val) = bigSep (Finset.range n) A := by
  rw [← Nat.Iio_eq_range, ← Fin.map_valEmbedding_univ, bigSep_map]; rfl

theorem up_inj : ∀ c : Dev nD, ∀ a < 7, ∀ b < 7, nx c (a + 1) = nx c (b + 1) → a = b := by decide +kernel
theorem down_inj : ∀ c : Dev nD, ∀ a < 7, ∀ b < 7, nx c (7 - a) = nx c (7 - b) → a = b := by decide +kernel
theorem all_inj : ∀ c : Dev nD, ∀ a < 8, ∀ b < 8, nx c a = nx c b → a = b := by decide +kernel
theorem up_univ : ∀ c : Dev nD, (Finset.univ : Finset (Dev nD)).erase c = (Finset.range 7).image fun n => nx c (n + 1) := by decide +kernel
theorem down_univ : ∀ c : Dev nD, (Finset.univ : Finset (Dev nD)).erase c = (Finset.range 7).image fun n => nx c (7 - n) := by decide +kernel
theorem all_univ : ∀ c : Dev nD, (Finset.univ : Finset (Dev nD)) = (Finset.range 8).image fun n => nx c n := by decide +kernel

/-- A family over the devices: its member at `c`, then the others upwards from `c`; -/
theorem devs_up (c : Dev nD) (Φ : Dev nD → sProp M) : bigSep Finset.univ Φ = iprop(Φ c ∗ bigSep (Finset.range 7) fun n => Φ (nx c (n + 1))) := by
  rw [bigSep_erase (Finset.mem_univ c), up_univ, SparseCore.bigSep_image_of_injOn fun a ha b hb h =>
    up_inj c a (Finset.mem_range.mp (Finset.mem_coe.mp ha)) b (Finset.mem_range.mp (Finset.mem_coe.mp hb)) h]; rfl
/-- or downwards; -/
theorem devs_down (c : Dev nD) (Φ : Dev nD → sProp M) : bigSep Finset.univ Φ = iprop(Φ c ∗ bigSep (Finset.range 7) fun n => Φ (nx c (7 - n))) := by
  rw [bigSep_erase (Finset.mem_univ c), down_univ, SparseCore.bigSep_image_of_injOn fun a ha b hb h =>
    down_inj c a (Finset.mem_range.mp (Finset.mem_coe.mp ha)) b (Finset.mem_range.mp (Finset.mem_coe.mp hb)) h]; rfl
/-- or all in turn. -/
theorem devs_all (c : Dev nD) (Φ : Dev nD → sProp M) : bigSep Finset.univ Φ = bigSep (Finset.range 8) fun n => Φ (nx c n) := by
  rw [all_univ c, SparseCore.bigSep_image_of_injOn fun a ha b hb h =>
    all_inj c a (Finset.mem_range.mp (Finset.mem_coe.mp ha)) b (Finset.mem_range.mp (Finset.mem_coe.mp hb)) h]

end Families

/-! ## The cells and the duties -/

/-- The exchange's semaphores of a device by kind. -/
def kinds : Unit ⊕ (Dev nD ⊕ Dev nD) → Fin 17
  | .inl _ => 0
  | .inr (.inl e) => sndIx e
  | .inr (.inr e) => rcvIx e
theorem kinds_bijective : Function.Bijective kinds := by decide +kernel

theorem by_kind {M : Type} [URA M] (Φ : Fin 17 → sProp M) :
    bigSep Finset.univ Φ = iprop(Φ 0 ∗ (bigSep Finset.univ fun e : Dev nD => Φ (sndIx e)) ∗ bigSep Finset.univ fun e : Dev nD => Φ (rcvIx e)) := by
  rw [bigSep_univ_equiv (Equiv.ofBijective kinds kinds_bijective), bigSep_univ_sum, bigSep_univ_sum, bigSep_univ_of_subsingleton ()]
  rfl

theorem kcell_bar (c : Dev nD) : kcell (c, 0) = barC c := rfl
theorem kcell_snd (c e : Dev nD) : kcell (c, sndIx e) = sndC c e := congrArg (Prod.mk _) (xsem_snd e)
theorem kcell_rcv (c e : Dev nD) : kcell (c, rcvIx e) = rcvC c e := congrArg (Prod.mk _) (xsem_rcv e)

theorem by_cell {M : Type} [URA M] (c : Dev nD) (Φ : GSem nD τ sig → sProp M) :
    (bigSep Finset.univ fun k : Fin 17 => Φ (kcell (c, k)))
      = iprop(Φ (barC c) ∗ (bigSep Finset.univ fun e : Dev nD => Φ (sndC c e)) ∗ bigSep Finset.univ fun e : Dev nD => Φ (rcvC c e)) := by
  rw [by_kind]
  simp only [kcell_bar, kcell_snd, kcell_rcv]

theorem xsem_inj : Function.Injective xsem := by decide +kernel
theorem kcell_inj : Function.Injective (kcell : Dev nD × Fin 17 → GSem nD τ sig) := by
  rintro ⟨c, k⟩ ⟨c', k'⟩ h
  have h1 : c = c' := congrArg (fun g : GSem nD τ sig => g.1.1) h
  have h2 : k = k' := xsem_inj (congrArg Prod.snd h)
  rw [h1, h2]
def xcells : Finset (GSem nD τ sig) := Finset.univ.map ⟨kcell, kcell_inj⟩

/-- The duties device `c` performs, by what they are: its signals, its departures, its arrivals elsewhere. -/
abbrev dutyOf (x : Dev nD × (Fin 7 ⊕ (Fin 7 ⊕ Fin 7))) : GSem nD τ sig × ℕ × Dev nD := match x with
  | (c, .inl k) => (barC (nx c (7 - k.val)), 0, c)
  | (c, .inr (.inl k)) => (sndC c (nx c (k.val + 1)), 0, c)
  | (c, .inr (.inr k)) => (rcvC (nx c (k.val + 1)) c, 0, c)

theorem bar_sem_ne (e : Dev nD) (q : DmaSem sig) : (SemLoc.reg barS : SemLoc sig) ≠ .dma q := fun h => by cases h
theorem snd_rcv_ne : ∀ e e' : Dev nD, sSem e ≠ rSem e' := by decide +kernel
theorem sSem_inj : ∀ e e' : Dev nD, sSem e = sSem e' → e = e' := by decide +kernel
theorem rSem_inj : ∀ e e' : Dev nD, rSem e = rSem e' → e = e' := by decide +kernel

theorem dutyOf_inj : Function.Injective dutyOf := by
  rintro ⟨c, j⟩ ⟨c', j'⟩ h
  have hc : c = c' := by
    have : (dutyOf (c, j)).2.2 = (dutyOf (c', j')).2.2 := congrArg (fun x : GSem nD τ sig × ℕ × Dev nD => x.2.2) h
    rcases j with k | k | k <;> rcases j' with k' | k' | k' <;> exact this
  subst hc
  have hg : (dutyOf (c, j)).1 = (dutyOf (c, j')).1 := congrArg Prod.fst h
  have hd : (dutyOf (c, j)).1.1.1 = (dutyOf (c, j')).1.1.1 := congrArg (fun g : GSem nD τ sig => g.1.1) hg
  have hs : (dutyOf (c, j)).1.2 = (dutyOf (c, j')).1.2 := congrArg Prod.snd hg
  refine congrArg (Prod.mk c) ?_
  rcases j with k | k | k <;> rcases j' with k' | k' | k'
  · rw [Fin.ext (down_inj c k.val k.isLt k'.val k'.isLt hd)]
  · cases hs
  · cases hs
  · cases hs
  · rw [Fin.ext (up_inj c k.val k.isLt k'.val k'.isLt (sSem_inj _ _ (SemLoc.dma.inj hs)))]
  · exact absurd (SemLoc.dma.inj hs) (snd_rcv_ne _ _)
  · cases hs
  · exact absurd (SemLoc.dma.inj hs).symm (snd_rcv_ne _ _)
  · rw [Fin.ext (up_inj c k.val k.isLt k'.val k'.isLt hd)]
def xduties : Finset (GSem nD τ sig × ℕ × Dev nD) := Finset.univ.map ⟨dutyOf, dutyOf_inj⟩

/-- The duties device `c` performs. -/
def pays (c : Dev nD) : sProp 𝕄 :=
  iprop((bigSep (Finset.range 7) fun k => dutyTok ER (barC (nx c (7 - k))) 0 c)
    ∗ (bigSep (Finset.range 7) fun k => dutyTok ER (sndC c (nx c (k + 1))) 0 c)
    ∗ bigSep (Finset.range 7) fun k => dutyTok ER (rcvC (nx c (k + 1)) c) 0 c)

theorem xduties_eq : bigSep xduties (fun x => (dutyTok ER x.1 x.2.1 x.2.2 : sProp 𝕄)) = bigSep Finset.univ fun c : Dev nD => pays c := by
  unfold xduties
  rw [bigSep_map, bigSep_univ_prod]
  refine bigSep_congr fun c _ => ?_
  unfold pays
  rw [bigSep_univ_sum, bigSep_univ_sum]
  exact congr_arg₂ _ (range_fin 7 fun k => dutyTok ER (barC (nx c (7 - k))) 0 c)
    (congr_arg₂ _ (range_fin 7 fun k => dutyTok ER (sndC c (nx c (k + 1))) 0 c) (range_fin 7 fun k => dutyTok ER (rcvC (nx c (k + 1)) c) 0 c))

/-- What the launch deals device `c`. -/
def dealt (c : Dev nD) : sProp 𝕄 :=
  iprop((bigSep Finset.univ fun k : Fin 17 => roundState ER (sched m) (kcell (c, k)) 0)
    ∗ (bigSep Finset.univ fun k : Fin 17 => iprop(atPos ER (kcell (c, k)) 0 ∅ 0 ∗ reached ER (kcell (c, k)) 0)) ∗ pays c)

theorem deal : BI.own ((ER : Emb UB 𝕄) (initOf xcells xduties)) ⊢ (|==> bigSep Finset.univ (dealt m) : sProp 𝕄) := by
  have hX (Φ : GSem nD τ sig → sProp 𝕄) : bigSep xcells Φ = bigSep Finset.univ fun c : Dev nD => bigSep Finset.univ fun k : Fin 17 => Φ (kcell (c, k)) := by
    unfold xcells; rw [bigSep_map, bigSep_univ_prod]; rfl
  iintro HX
  imod (Rounds.fund ER (sched m) xcells xduties) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq (xduties_eq (F := F))) $$ Htok
  unfold dealt; simp only [bigSep_sep']
  isplitl [Hst']; · iexact Hst'
  isplitl [Hat' Hr']
  · isplitl [Hat'] <;> iassumption
  iexact Htok'

/-! ## The semaphores under their invariants -/

/-- The kernel's own semaphores: of departures, of arrivals, of the local copies. -/
abbrev osem : Dev nD ⊕ (Dev nD ⊕ Fin 3) → SemLoc sig
  | .inl e => .dma (sSem e)
  | .inr (.inl e) => .dma (rSem e)
  | .inr (.inr j) => .dma ⟨17 + j.val, by have := j.isLt; show 17 + j.val < 20; omega⟩

theorem ownSemFacts : Pipeline.OwnSemFacts cfg0.spec osem := by decide +kernel

/-- The semaphores of the local copies at rest. -/
def locals (c : Dev nD) : sProp 𝕄 :=
  iprop(semVal ((c : Thread nD τ), .dma lSem) 0 ∗ semVal ((c : Thread nD τ), .dma (wSem 0)) 0 ∗ semVal ((c : Thread nD τ), .dma (wSem 1)) 0)

theorem ownSems0_eq (c : Dev nD) : (Pipeline.ownSems0 (Ix := Unit) (Name := ℕ) (U := UU) (Lvl := ℕ) (Val := Elt F) (τ := τ) osem c : sProp 𝕄)
    = iprop((bigSep Finset.univ fun e : Dev nD => semVal (sndC c e) 0) ∗ (bigSep Finset.univ fun e : Dev nD => semVal (rcvC c e) 0) ∗ locals c) := by
  unfold Pipeline.ownSems0 locals
  rw [bigSep_univ_sum, bigSep_univ_sum, bigSep_univ_eq_bigSepL ([0, 1, 2] : List (Fin 3)) (by decide) (by decide)]
  rfl
theorem unscopedSems0_eq (c : Dev nD) : (unscopedSems0 c : sProp 𝕄) = semVal (barC c) 0 := by
  unfold unscopedSems0; rw [bigSep_eq_bigSepL_of_eq [SemLoc.reg barS] (by decide) (by decide)]; rfl

/-- Every exchange semaphore at rest, and the others. -/
theorem sems_by_cell (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 17 => semVal (kcell (c, k)) 0 : sProp 𝕄) ∗ locals c) := by
  rw [ownSems0_eq, unscopedSems0_eq, by_cell c fun g => semVal g 0]
  iintro ⟨⟨HS, HV, HL⟩, HB⟩
  isplitr [HL]
  · isplitl [HB]; · iexact HB
    isplitl [HS] <;> iassumption
  iexact HL

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 17 => iprop(∃ κ : ℕ, cellInv ER (sched m) κ (kcell (c, k))))
          ∗ (bigSep Finset.univ fun k : Fin 17 => iprop(atPos ER (kcell (c, k)) 0 ∅ 0 ∗ reached ER (kcell (c, k)) 0)) ∗ pays c ∗ locals c) := by
  have alloc : iprop((bigSep Finset.univ fun k : Fin 17 => semVal (kcell (c, k)) 0) ∗ bigSep Finset.univ fun k : Fin 17 => roundState ER (sched m) (kcell (c, k)) 0)
      ⊢ (|={Set.univ}=> bigSep Finset.univ fun k : Fin 17 => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold dealt
  iintro ⟨Hos, Hus, Hst, Hat, Htok⟩
  ihave Hv := (sems_by_cell (F := F) c) $$ [Hos Hus]
  · isplitl [Hos] <;> iassumption
  icases Hv with ⟨Hv, Hl⟩
  imod alloc $$ [Hv Hst] with Hinv
  · isplitl [Hv] <;> iassumption
  imodintro
  isplitl [Hinv]; · iexact Hinv
  isplitl [Hat]; · iexact Hat
  isplitl [Htok] <;> iassumption

/-- What device `c` goes on with. -/
def mine (c : Dev nD) : sProp 𝕄 := iprop((bigSep Finset.univ fun k : Fin 17 => atPos ER (kcell (c, k)) 0 ∅ 0) ∗ pays c ∗ locals c)
def start (c : Dev nD) : sProp 𝕄 := iprop(∃ K, records m K ∗ mine c)

theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem gather_records :
    (bigSep Finset.univ fun c : Dev nD => iprop((bigSep Finset.univ fun k : Fin 17 => iprop(∃ κ : ℕ, cellInv ER (sched m) κ (kcell (c, k))))
          ∗ (bigSep Finset.univ fun k : Fin 17 => iprop(atPos ER (kcell (c, k)) 0 ∅ 0 ∗ reached ER (kcell (c, k)) 0)) ∗ pays c ∗ locals c) : sProp 𝕄)
      ⊢ bigSep Finset.univ (start m) := by
  rw [bigSep_sep', bigSep_sep', ← bigSep_univ_prod (fun ck : Dev nD × Fin 17 => iprop(∃ κ : ℕ, cellInv ER (sched m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Hrest⟩
  ihave HK := (BI.bigSep_exists_pi Finset.univ (fun (ck : Dev nD × Fin 17) (κ : ℕ) => (cellInv ER (sched m) κ (kcell ck) : sProp 𝕄))) $$ HI
  icases HK with ⟨%K, #HI⟩
  iapply (spread (R := records m K) (Φ := mine) fun c _ => by
    unfold start
    iintro ⟨#H, H'⟩
    iexists K
    isplitr; · iexact H
    iexact H')
  isplitr
  · unfold records; isplitl; · iexact HI
    iexact HR
  · iapply (Entails.of_eq (show (bigSep Finset.univ mine : sProp 𝕄) = _ from by unfold mine; rw [bigSep_sep']).symm)
    isplitl [Hat]; · iexact Hat
    iexact Hrest

/-- The semaphores of all devices at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (start m) :=
  ((bigSep_mono fun c _ => core_alloc m c).trans (bigSep_fupd _ _)).trans (BI.fupd_mono (gather_records m))

/-! ## The launch element -/

def u₀ : UU := (initOf (Pipeline.cells cfgs cellOf_inj) (Pipeline.launchToks cfgs cellOf_inj), (initOf xcells xduties, 1))

theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem launch_split : (ownU u₀ : sProp 𝕄)
    ⊢ |={Set.univ}=> iprop(BI.own ((EP : Emb (UR sig nD τ) 𝕄) (initOf (Pipeline.cells cfgs cellOf_inj) (Pipeline.launchToks cfgs cellOf_inj))) ∗ bigSep Finset.univ (dealt m)) := by
  unfold u₀
  iintro Hu
  ihave H := (own_split (F := F) _ _) $$ Hu
  icases H with ⟨HP, HX⟩
  imod (deal m) $$ HX with HG
  imodintro
  isplitl [HP] <;> iassumption

/-! ## The credit of the launch -/

theorem bar_iff {a b : Dev nD} : barC a = barC b ↔ a = b := ⟨fun h => congrArg (fun g : GSem nD τ sig => g.1.1) h, fun h => h ▸ rfl⟩
theorem rcv_iff {a b a' b' : Dev nD} : rcvC a b = rcvC a' b' ↔ a = a' ∧ b = b' :=
  ⟨fun h => ⟨congrArg (fun g : GSem nD τ sig => g.1.1) h, rSem_inj _ _ (SemLoc.dma.inj (congrArg Prod.snd h))⟩, fun h => by rw [h.1, h.2]⟩

theorem owed_bar (d c : Dev nD) (n : ℕ) : OB d n (barC c) () = ∑ k ∈ Finset.range n, if nx d (7 - k) = c then 1 else 0 := by
  have hR (n : ℕ) : OR d n (barC c) () = 0 := by
    rcases Nat.eq_zero_or_pos (OR d n (barC c) ()) with h | h
    · exact h
    · obtain ⟨e, he⟩ := OR_pos h
      cases congrArg Prod.snd he
  induction n with
  | zero => exact hR 7
  | succ n ih =>
    rw [Finset.sum_range_succ, ← ih]
    show (OB d n + tallyAt (barC (nx d (7 - n))) () 1) (barC c) () = _
    rw [Pi.add_apply, Finsupp.add_apply, tallyAt_apply]
    congr 1
    by_cases h : nx d (7 - n) = c
    · rw [if_pos ⟨(bar_iff.mpr h).symm, rfl⟩, if_pos h]
    · rw [if_neg (fun h' => h (bar_iff.mp h'.1).symm), if_neg h]

theorem owed_rcv_sends (d c e : Dev nD) (n : ℕ) : OR d n (rcvC c e) () = ∑ k ∈ Finset.range n, if nx d (k + 1) = c ∧ d = e then NX else 0 := by
  induction n with
  | zero => rfl
  | succ n ih =>
    rw [Finset.sum_range_succ, ← ih]
    show (OR d n + tallyAt (rcvC (nx d (n + 1)) d) () NX) (rcvC c e) () = _
    rw [Pi.add_apply, Finsupp.add_apply, tallyAt_apply]
    congr 1
    by_cases h : nx d (n + 1) = c ∧ d = e
    · rw [if_pos ⟨(rcv_iff.mpr h).symm, rfl⟩, if_pos h]
    · rw [if_neg (fun h' => h (rcv_iff.mp h'.1.symm)), if_neg h]
theorem owed_rcv (d c e : Dev nD) (n : ℕ) : OB d n (rcvC c e) () = OR d 7 (rcvC c e) () := by
  induction n with
  | zero => rfl
  | succ n ih =>
    rw [← ih]
    show (OB d n + tallyAt (barC (nx d (7 - n))) () 1) (rcvC c e) () = _
    rw [Pi.add_apply, Finsupp.add_apply, tallyAt_apply, if_neg (fun h => by cases congrArg Prod.snd h.1), Nat.add_zero]

theorem bar_total : ∀ c : Dev nD, (∑ d : Dev nD, ∑ k ∈ Finset.range 7, if nx d (7 - k) = c then 1 else 0) = 7 := by decide +kernel
theorem rcv_total : ∀ c : Dev nD, ∀ j < 7, (∑ d : Dev nD, ∑ k ∈ Finset.range 7, if nx d (k + 1) = c ∧ d = nx c (7 - j) then 1 else 0) = 1 := by decide +kernel

theorem launch_bar (c : Dev nD) :
    tallyOn (barC c) (launchCredit (Pipeline.owing O₀) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => owed_bar d c 7, bar_total]

theorem launch_rcv (c : Dev nD) (j : ℕ) (hj : j < 7) :
    tallyOn (rcvC c (nx c (7 - j))) (launchCredit (Pipeline.owing O₀) 0 (rcvC c (nx c (7 - j)))) = (tallyAt (rcvC c (nx c (7 - j))) () NX : CellTallies nD τ sig Unit) := by
  unfold tallyAt; refine congrArg _ (Finsupp.ext fun u => ?_); cases u
  rw [Pipeline.launchCredit_owing, Finsupp.single_eq_same, Finset.sum_congr rfl fun d _ => (owed_rcv d c (nx c (7 - j)) 7).trans (owed_rcv_sends d c (nx c (7 - j)) 7)]
  have h := congrArg (· * NX) (rcv_total c j hj)
  simp only [Finset.sum_mul, ite_mul, one_mul, zero_mul] at h
  exact h

/-- What device `c` may wait for: every other device's signal, every other device's block. -/
theorem creds (c : Dev nD) : (Pipeline.launchCred O₀ c : sProp 𝕄)
    ⊢ iprop(cred (tallyAt (barC c) () 7) ∗ bigSep (Finset.range 7) fun n => cred (tallyAt (rcvC c (nx c (7 - n))) () NX)) := by
  unfold Pipeline.launchCred
  rw [bigSep_univ_at _ (SemLoc.reg barS), launch_bar]
  refine sep_mono_right ?_
  refine BIBase.Entails.trans (bigSep_subset (t := (Finset.range 7).image fun n => (SemLoc.dma (rSem (nx c (7 - n))) : SemLoc sig)) fun x hx => ?_) ?_
  · obtain ⟨n, -, rfl⟩ := Finset.mem_image.mp hx
    exact Finset.mem_erase.mpr ⟨fun h => (by cases h), Finset.mem_univ _⟩
  · rw [SparseCore.bigSep_image_of_injOn fun a ha b hb h =>
      down_inj c a (Finset.mem_range.mp (Finset.mem_coe.mp ha)) b (Finset.mem_range.mp (Finset.mem_coe.mp hb)) (rSem_inj _ _ (SemLoc.dma.inj h))]
    exact Entails.of_eq (bigSep_congr fun n hn => congrArg _ (launch_rcv c n (Finset.mem_range.mp hn)))

end Cert.KernelIdeal.Gather
-- ==== Proof.Launched.lean ====
/- The launch: what a device starts with, cut into the pieces the exchange moves, and what it ends with, put together. -/
module

public import proofs.«01_k».proof.Proof.Oblig
public import proofs.«01_k».proof.Proof.Dealt
public import Idealize.ShloMosaic.Lib.Ring
public import Idealize.ShloMosaic.Lib.Pipeline.CollectiveSegs
public import Idealize.ShloMosaic.Lib.Pipeline.ArrRel

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat RDat BodyObligationRel)

/-! ## The pieces of the buffers -/

theorem gSet_disj : ∀ b b' : Dev nD, b ≠ b' → Disjoint (gSet b.val) (gSet b'.val) := fun b b' h =>
  Finset.disjoint_left.mpr fun i hi hi' => h (Fin.ext ((Finset.mem_filter.mp hi).2.symm.trans (Finset.mem_filter.mp hi').2))
theorem gSet_cover : Finset.univ.biUnion (fun b : Dev nD => gSet b.val) = Finset.univ := Finset.eq_univ_of_forall fun i => by
  have h : (i 1).val < 8192 := (i 1).isLt
  exact Finset.mem_biUnion.mpr ⟨⟨(i 1).val / 1024, by show _ < 8; omega⟩, Finset.mem_univ _, Finset.mem_filter.mpr ⟨Finset.mem_univ _, rfl⟩⟩
theorem xSet_disj : ∀ b b' : Dev nD, b ≠ b' → Disjoint (xSet b.val) (xSet b'.val) := fun b b' h =>
  Finset.disjoint_left.mpr fun i hi hi' => h (Fin.ext ((Finset.mem_filter.mp hi).2.symm.trans (Finset.mem_filter.mp hi').2))
theorem xSet_cover : Finset.univ.biUnion (fun b : Dev nD => xSet b.val) = Finset.univ := Finset.eq_univ_of_forall fun i => by
  have h : (i 0).val < 8192 := (i 0).isLt
  exact Finset.mem_biUnion.mpr ⟨⟨(i 0).val / 1024, by show _ < 8; omega⟩, Finset.mem_univ _, Finset.mem_filter.mpr ⟨Finset.mem_univ _, rfl⟩⟩
abbrev bPart (b : Fin 2 × Fin 2) : Finset S2x2048x1024.Idx := bSet b.1.val b.2.val
theorem bPart_disj : ∀ b b' : Fin 2 × Fin 2, b ≠ b' → Disjoint (bPart b) (bPart b') := fun b b' h =>
  Finset.disjoint_left.mpr fun i hi hi' => h (by
    have e := (Finset.mem_filter.mp hi).2
    have e' := (Finset.mem_filter.mp hi').2
    exact Prod.ext (Fin.ext (e.1.symm.trans e'.1)) (Fin.ext (e.2.symm.trans e'.2)))
theorem bPart_cover : Finset.univ.biUnion bPart = Finset.univ := Finset.eq_univ_of_forall fun i => by
  have h : (i 1).val < 2048 := (i 1).isLt
  exact Finset.mem_biUnion.mpr ⟨(i 0, ⟨(i 1).val / 1024, by omega⟩), Finset.mem_univ _, Finset.mem_filter.mpr ⟨Finset.mem_univ _, rfl, rfl⟩⟩

theorem nx_origin : ∀ n < 7, (nx (0 : Dev nD) (7 - n)).val = 7 - n := by decide +kernel
theorem nx_origin' : ∀ n < 8, (nx (0 : Dev nD) n).val = n := by decide +kernel

/-- The gathered operand's buffer in pieces; -/
theorem gather_split (c : Dev nD) (f : Buf (Elt F) (gLoc c)) :
    (gLoc c ↦{fullShare} f : sProp 𝕄) ⊢ iprop((∃ f, gLoc c ↦[gSet 0]{fullShare} f) ∗ bigSep (Finset.range 7) fun n => iprop(∃ f, gLoc c ↦[gSet (7 - n)]{fullShare} f)) := by
  rw [Ring.pointsTo_blocks (ℓ := gLoc c) (fun b : Dev nD => gSet b.val) gSet_disj gSet_cover f, devs_down (0 : Dev nD)]
  refine BIClass.sep_mono ?_ (bigSep_mono fun n hn => ?_)
  · iintro H; iexists f; iexact H
  · show (gLoc c ↦[gSet (nx (0 : Dev nD) (7 - n)).val]{fullShare} f : sProp 𝕄) ⊢ iprop(∃ f, gLoc c ↦[gSet (7 - n)]{fullShare} f)
    rw [nx_origin n (Finset.mem_range.mp hn)]
    iintro H; iexists f; iexact H
/-- put together; -/
theorem gather_join (c : Dev nD) (f : Buf (Elt F) (gLoc c)) :
    (bigSep (Finset.range 8) fun n => (gLoc c ↦[gSet n]{fullShare} f : sProp 𝕄)) ⊢ iprop(∃ g, gLoc c ↦{fullShare} g) := by
  iintro H
  iexists f
  rw [Ring.pointsTo_blocks (ℓ := gLoc c) (fun b : Dev nD => gSet b.val) gSet_disj gSet_cover f, devs_all (0 : Dev nD)]
  iapply (Entails.of_eq (bigSep_congr fun n hn => by rw [nx_origin' n (Finset.mem_range.mp hn)]))
  iexact H

/-- The operand in rows. -/
theorem rows (c : Dev nD) : (xLoc c ↦{fullShare} m (xLoc c) : sProp 𝕄)
    = iprop((xLoc c ↦[xSet c.val]{fullShare} m (xLoc c)) ∗ bigSep (Finset.range 7) fun n => (xLoc c ↦[xSet (nx c (n + 1)).val]{fullShare} m (xLoc c))) := by
  rw [Ring.pointsTo_blocks (ℓ := xLoc c) (fun b : Dev nD => xSet b.val) xSet_disj xSet_cover (m (xLoc c)), devs_up c]

/-- The weight buffer in halves of slots. -/
theorem four (Φ : Fin 2 × Fin 2 → sProp 𝕄) : bigSep Finset.univ Φ = iprop((Φ (0, 0) ∗ Φ (0, 1)) ∗ Φ (1, 0) ∗ Φ (1, 1)) := by
  rw [bigSep_univ_prod, bigSep_fin_two, bigSep_fin_two, bigSep_fin_two]; rfl
theorem slots_split (c : Dev nD) (f : Buf (Elt F) (bLoc c)) : (bLoc c ↦{fullShare} f : sProp 𝕄)
    = iprop(((bLoc c ↦[bSet 0 0]{fullShare} f) ∗ (bLoc c ↦[bSet 0 1]{fullShare} f)) ∗ (bLoc c ↦[bSet 1 0]{fullShare} f) ∗ (bLoc c ↦[bSet 1 1]{fullShare} f)) := by
  rw [Ring.pointsTo_blocks (ℓ := bLoc c) bPart bPart_disj bPart_cover f, four]; rfl
theorem slots_join (c : Dev nD) (f₀ : Buf (Elt F) (bLoc c)) :
    iprop(((∃ f, bLoc c ↦[bSet 0 0]{fullShare} f) ∗ (∃ f, bLoc c ↦[bSet 0 1]{fullShare} f)) ∗ (∃ f, bLoc c ↦[bSet 1 0]{fullShare} f) ∗ (∃ f, bLoc c ↦[bSet 1 1]{fullShare} f))
      ⊢ (iprop(∃ g, bLoc c ↦{fullShare} g) : sProp 𝕄) := by
  refine BIBase.Entails.trans (Entails.of_eq ?_) (Ring.pointsTo_blocks_join_exists (ℓ := bLoc c) bPart bPart_disj bPart_cover f₀)
  rw [four]; rfl

/-- The weights' array in four shares. -/
theorem shares_split (c : Dev nD) (f : Buf (Elt F) (wLoc c)) : (wLoc c ↦{fullShare} f : sProp 𝕄)
    ⊢ iprop(((wLoc c ↦{wq 0 0} f) ∗ (wLoc c ↦{wq 0 1} f)) ∗ (wLoc c ↦{wq 1 0} f) ∗ (wLoc c ↦{wq 1 1} f)) :=
  (pointsTo_share (PosShare.mem_left_op_right fullShare)).1.trans
    (BIClass.sep_mono (pointsTo_share (PosShare.mem_left_op_right fullShare.left)).1 (pointsTo_share (PosShare.mem_left_op_right fullShare.right)).1)
theorem shares_join (c : Dev nD) (f : Buf (Elt F) (wLoc c)) :
    iprop(((wLoc c ↦{wq 0 0} f) ∗ (wLoc c ↦{wq 0 1} f)) ∗ (wLoc c ↦{wq 1 0} f) ∗ (wLoc c ↦{wq 1 1} f)) ⊢ (wLoc c ↦{fullShare} f : sProp 𝕄) :=
  (BIClass.sep_mono (pointsTo_share (PosShare.mem_left_op_right fullShare.left)).2 (pointsTo_share (PosShare.mem_left_op_right fullShare.right)).2).trans
    (pointsTo_share (PosShare.mem_left_op_right fullShare)).2

/-! ## The lists of the exchange as families -/

theorem sigs_eq (c : Dev nD) : (iprop((bigSep (Finset.range 7) fun n => dutyTok ER (barC (nx c (7 - n))) 0 c)
    ∗ bigSep (Finset.range 7) fun n => iprop(∃ f, gLoc c ↦[gSet (7 - n)]{fullShare} f)) : sProp 𝕄) = sigs c 7 := by
  rw [← bigSep_sep']
  exact range_family (fun n => iprop(dutyTok ER (barC (nx c (7 - n))) 0 c ∗ ∃ f, gLoc c ↦[gSet (7 - n)]{fullShare} f)) (sigs c) rfl (sigs_succ c) 7
theorem sends_eq (c : Dev nD) : (iprop((bigSep (Finset.range 7) fun n => dutyTok ER (sndC c (nx c (n + 1))) 0 c)
    ∗ (bigSep (Finset.range 7) fun n => dutyTok ER (rcvC (nx c (n + 1)) c) 0 c) ∗ (bigSep (Finset.range 7) fun n => atPos ER (sndC c (nx c (n + 1))) 0 ∅ 0)
    ∗ bigSep (Finset.range 7) fun n => (xLoc c ↦[xSet (nx c (n + 1)).val]{fullShare} m (xLoc c))) : sProp 𝕄) = sends m c 7 := by
  rw [← bigSep_sep', ← bigSep_sep', ← bigSep_sep']
  exact range_family (fun n => iprop(dutyTok ER (sndC c (nx c (n + 1))) 0 c ∗ dutyTok ER (rcvC (nx c (n + 1)) c) 0 c
    ∗ atPos ER (sndC c (nx c (n + 1))) 0 ∅ 0 ∗ xLoc c ↦[xSet (nx c (n + 1)).val]{fullShare} m (xLoc c))) (sends m c) rfl (sends_succ m c) 7
theorem pend_eq (c : Dev nD) : (iprop((bigSep (Finset.range 7) fun n => cred (tallyAt (rcvC c (nx c (7 - n))) () NX))
    ∗ bigSep (Finset.range 7) fun n => atPos ER (rcvC c (nx c (7 - n))) 0 ∅ 0) : sProp 𝕄) = pend c 7 := by
  rw [← bigSep_sep']
  exact range_family (fun n => iprop(cred (tallyAt (rcvC c (nx c (7 - n))) () NX) ∗ atPos ER (rcvC c (nx c (7 - n))) 0 ∅ 0)) (pend c) rfl (pend_succ c) 7
theorem dones_eq (c : Dev nD) : dones m c 7 = (iprop((bigSep (Finset.range 7) fun n => (xLoc c ↦[xSet (nx c (n + 1)).val]{fullShare} m (xLoc c)))
    ∗ bigSep (Finset.range 7) fun n => semVal (sndC c (nx c (n + 1))) 0) : sProp 𝕄) := by
  rw [← bigSep_sep']
  exact (range_family (fun n => iprop((xLoc c ↦[xSet (nx c (n + 1)).val]{fullShare} m (xLoc c)) ∗ semVal (sndC c (nx c (n + 1))) 0)) (dones m c) rfl (dones_succ m c) 7).symm
theorem haves_eq (c : Dev nD) : haves m c 8 = (iprop((bigSep (Finset.range 8) fun n => (gLoc c ↦[gSet n]{fullShare} gC m c))
    ∗ bigSep (Finset.range 8) fun n => semVal (rcvC c (nx c n)) 0) : sProp 𝕄) := by
  rw [← bigSep_sep']
  exact (range_family (fun n => iprop((gLoc c ↦[gSet n]{fullShare} gC m c) ∗ semVal (rcvC c (nx c n)) 0)) (haves m c) rfl (haves_succ m c) 8).symm

/-! ## The start -/

/-- What the device brings to the kernel. -/
def brought (c : Dev nD) : sProp 𝕄 :=
  iprop(∃ K, records m K ∗ levAts L lv ∗ (cred (tallyAt (barC c) () 7) ∗ bigSep (Finset.range 7) fun n => cred (tallyAt (rcvC c (nx c (7 - n))) () NX))
    ∗ (atPos ER (barC c) 0 ∅ 0 ∗ (bigSep (Finset.range 7) fun n => atPos ER (sndC c (nx c (n + 1))) 0 ∅ 0) ∗ bigSep (Finset.range 7) fun n => atPos ER (rcvC c (nx c (7 - n))) 0 ∅ 0)
    ∗ pays c ∗ locals c ∗ semVal (sndC c c) 0 ∗ semVal (rcvC c c) 0 ∗ (xLoc c ↦{fullShare} m (xLoc c)) ∗ (wLoc c ↦{fullShare} m (wLoc c)))

theorem bring (c : Dev nD) :
    iprop(Pipeline.unscopedRestP Pipeline.Prefetch.none cfg0.spec c (fun b => m ((c : Thread nD τ).loc b)) ∗ levAts L lv
        ∗ Pipeline.launchCred O₀ c ∗ prngReg c (ρ c) ∗ start m c)
      ⊢ |={Set.univ}=> iprop(brought m c ∗ emp) := by
  rw [Pipeline.unscopedRestP_none, unscopedRest0_eq]
  unfold start mine
  rw [by_cell c fun g => atPos ER g 0 ∅ 0, devs_up c fun e => atPos ER (sndC c e) 0 ∅ 0, devs_down c fun e => atPos ER (rcvC c e) 0 ∅ 0]
  iintro ⟨⟨Hx, Hw⟩, Hlev, Hcr, -, ⟨%K, #HR, ⟨HaB, ⟨HaS, HaSs⟩, HaV, HaVs⟩, Hp, Hl⟩⟩
  ihave Hc := (creds (F := F) c) $$ Hcr
  imod (Rounds.cell_close ER (sched m) (Set.mem_univ (K (c, sndIx c))) (fun h => h) (R := 0) (duties_snd_self m c)) $$ [HaS] with Hs
  · isplitr; · iapply (inv_snd m K c c); iexact HR
    iexact HaS
  imod (Rounds.cell_close ER (sched m) (Set.mem_univ (K (c, rcvIx c))) (fun h => h) (R := 0) (duties_rcv_self m c)) $$ [HaV] with Hv
  · isplitr; · iapply (inv_rcv m K c c); iexact HR
    iexact HaV
  imodintro
  isplitl
  · unfold brought
    iexists K
    isplitr; · iexact HR
    isplitl [Hlev]; · iexact Hlev
    isplitl [Hc]; · iexact Hc
    isplitl [HaB HaSs HaVs]
    · isplitl [HaB]; · iexact HaB
      isplitl [HaSs] <;> iassumption
    isplitl [Hp]; · iexact Hp
    isplitl [Hl]; · iexact Hl
    isplitl [Hs]; · iexact Hs
    isplitl [Hv]; · iexact Hv
    isplitl [Hx] <;> iassumption
  · iempintro

theorem enter (c : Dev nD) :
    iprop(brought m c ∗ Pipeline.prefHeld Pipeline.Prefetch.none c (fun _ => fullShare.right) (fun k => k.elim0) ∗ Pipeline.scopedRest cfg0.spec c)
      ⊢ phi m c 0 := by
  rw [scopedRest0_eq, phi_zero]
  unfold brought pays locals
  iintro ⟨⟨%K, HR, Hlev, ⟨HcB, HcV⟩, ⟨HaB, HaS, HaV⟩, ⟨HtB, HtS, HtV⟩, ⟨Hl, Hw0, Hw1⟩, Hs, Hv, Hx, Hw⟩, -, ⟨%fg, Hg⟩, ⟨%fb, Hb⟩⟩
  ihave Hg := (gather_split c fg) $$ Hg
  icases Hg with ⟨Hg0, Hgs⟩
  ihave Hx := (Entails.of_eq (rows m c)) $$ Hx
  icases Hx with ⟨Hx0, Hxs⟩
  ihave Hb := (Entails.of_eq (slots_split c fb)) $$ Hb
  icases Hb with ⟨⟨Hb00, Hb01⟩, Hb10, Hb11⟩
  ihave Hw := (shares_split c (m (wLoc c))) $$ Hw
  icases Hw with ⟨⟨Hw00, Hw01⟩, Hw10, Hw11⟩
  iexists K
  isplitl [HR]; · iexact HR
  unfold stock
  isplitl [Hlev]; · iexact Hlev
  isplitl [HcB]; · iexact HcB
  isplitl [HaB]; · iexact HaB
  isplitl [HtB Hgs]
  · iapply (Entails.of_eq (sigs_eq c)); isplitl [HtB] <;> iassumption
  isplitl [HtS HtV HaS Hxs]
  · iapply (Entails.of_eq (sends_eq m c))
    isplitl [HtS]; · iexact HtS
    isplitl [HtV]; · iexact HtV
    isplitl [HaS] <;> iassumption
  isplitl [Hl Hg0 Hx0]
  · isplitl [Hl]; · iexact Hl
    isplitl [Hg0] <;> iassumption
  isplitl [Hw0 Hb00 Hw00 Hb01 Hw01]
  · unfold Free hfree
    isplitl [Hw0]; · iexact Hw0
    isplitl [Hb00 Hw00]
    · isplitl [Hb00]; · iexists fb; iexact Hb00
      iexact Hw00
    isplitl [Hb01]; · iexists fb; iexact Hb01
    iexact Hw01
  isplitl [Hw1 Hb10 Hw10 Hb11 Hw11]
  · unfold Free hfree
    isplitl [Hw1]; · iexact Hw1
    isplitl [Hb10 Hw10]
    · isplitl [Hb10]; · iexists fb; iexact Hb10
      iexact Hw10
    isplitl [Hb11]; · iexists fb; iexact Hb11
    iexact Hw11
  isplitl [HcV HaV]
  · iapply (Entails.of_eq (pend_eq c)); isplitl [HcV] <;> iassumption
  isplitl [Hv]; · rw [nx_zero]; iexact Hv
  iexact Hs

/-! ## The end -/

/-- What the device takes away. -/
def away (c : Dev nD) : sProp 𝕄 := iprop(unscopedSems0 c ∗ (xLoc c ↦{fullShare} m (xLoc c)) ∗ (wLoc c ↦{fullShare} m (wLoc c)))

theorem leave (c : Dev nD) :
    phi m c 20 ⊢ iprop(away m c ∗ Pipeline.ownSems0 osem c ∗ Pipeline.scopedRest cfg0.spec c) := by
  rw [phi_last, scopedRest0_eq, ownSems0_eq]
  unfold rest away
  rw [unscopedSems0_eq, devs_up c fun e => semVal (sndC c e) 0, devs_all c fun e => semVal (rcvC c e) 0]
  unfold Free hfree kept gat locals
  rw [dones_eq, haves_eq]
  iintro ⟨⟨Hw0, ⟨Hb00, Hw00⟩, Hb01, Hw01⟩, ⟨Hw1, ⟨Hb10, Hw10⟩, Hb11, Hw11⟩, ⟨⟨Hg, Hv⟩, -⟩, ⟨Hxs, Hss⟩, ⟨HB, Hl, Hx0⟩, Hs⟩
  ihave Hw := (shares_join c (m (wLoc c))) $$ [Hw00 Hw01 Hw10 Hw11]
  · isplitl [Hw00 Hw01]
    · isplitl [Hw00]; · iexact Hw00
      iexact Hw01
    · isplitl [Hw10]; · iexact Hw10
      iexact Hw11
  ihave Hb := (slots_join c (m (bLoc c))) $$ [Hb00 Hb01 Hb10 Hb11]
  · isplitl [Hb00 Hb01]
    · isplitl [Hb00]; · iexact Hb00
      iexact Hb01
    · isplitl [Hb10]; · iexact Hb10
      iexact Hb11
  ihave Hg := (gather_join c (gC m c)) $$ Hg
  isplitl [HB Hw Hxs Hx0]
  · isplitl [HB]; · iexact HB
    isplitl [Hxs Hx0]
    · iapply (Entails.of_eq (rows m c).symm)
      isplitl [Hx0] <;> iassumption
    iexact Hw
  isplitl [Hs Hss Hv Hl Hw0 Hw1]
  · isplitl [Hs Hss]
    · isplitl [Hs] <;> iassumption
    isplitl [Hv]; · iexact Hv
    isplitl [Hl]; · iexact Hl
    isplitl [Hw0]; · iexact Hw0
    iexact Hw1
  isplitl [Hg] <;> iassumption

/-- Read against the memory. -/
def Kept (c : Dev nD) (s : MemSt nD τ sig (Elt F)) : Prop :=
  (∀ sm : SemLoc sig, sm.isScoped .tc = false → s.sem ((c.tc : Thread nD τ), sm) = 0) ∧ s.mem (xLoc c) = m (xLoc c) ∧ s.mem (wLoc c) = m (wLoc c)

theorem take_away (c : Dev nD) (s' : Phys nD τ sig (Elt F)) : iprop(away m c ∗ emp ∗ SI s') ⊢ |={Set.univ}=> iprop(⌜Kept m c s'.mem⌝ ∗ SI s') := by
  unfold away
  iintro ⟨⟨Hu, Hx, Hw⟩, -, HSI⟩
  icombine HSI Hx gives %hx
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hx, Buf.eq_of_forall_mem_univ hw⟩
  iexact HSI

/-! ## The run -/

def rdats (p : Fin 1) (c : Dev nD) : RDat τ (Elt F) Unit ℕ UU ℕ (cfgs p) c := match p with
  | ⟨0, _⟩ => (dats m 0 c).toRRel fgt (Rl m c)

theorem waits (c : Dev nD) : (levAts L lv : sProp 𝕄) ⊢ Pipeline.RDat.cellsWaits cfgs (rdats m) () 0 c :=
  Pipeline.RDat.cellsWaits_intro cfgs (rdats m) () 0 c fun w s t =>
    mayWait_stage c _ (by fin_cases w; fin_cases s; rfl) _ (by
      rcases t with ⟨_ | _, ht⟩
      · exact Or.inl rfl
      · exact Or.inr rfl)

theorem whole_write : win0_0.WholeAt ⟨19, by decide⟩ :=
  ⟨(flush0_0 _).mpr rfl, fun t h => Fin.ext (by have := (flush0_0 t).mp h; have := t.isLt; show t.val = 19; change t.val < 20 at this; omega), by decide +kernel⟩
/-- The result array at the end. -/
theorem result (c : Dev nD) (G : Buf (Elt F) ((cfg0.win 0).arr.view.loc (c : Thread nD τ))) (h : ((dats m 0 c).toRRel fgt (Rl m c)).ArrAt (0 : Fin 1) 20 G) :
    G = (finalOut m c : S1024x4096.Idx → Elt F .f32) := by
  obtain ⟨X, hX, hG⟩ := RDat.ArrAt.emb_eq_of_wholeAt (cfg := cfg0) (rd := (dats m 0 c).toRRel fgt (Rl m c)) (w := (0 : Fin 1)) h (t₀ := ⟨19, by decide⟩) whole_write
  have e : X = (finalOut m c : S1024x4096.Idx → Elt F .f32) := by
    have hR := Dat.toRRel_leaves (dat := dats m 0 c) (fgt := fgt) (Rl := Rl m c) (w := (0 : Fin 1)) rfl hX
    exact (if_pos (e := Good m c 20 X) (rfl : (19 : ℕ) = 19)).mp hR
  funext j
  subst e
  exact hG j

/-- What a run ends with. -/
def Ends (r : PUnit × MemSt nD τ sig (Elt F)) : Prop :=
  (∀ c : Dev nD, r.2.mem ((c : Thread nD τ).loc main_v1) = (finalOut m c : S1024x4096.Idx → Elt F .f32) ∧ r.2.mem (xLoc c) = m (xLoc c) ∧ r.2.mem (wLoc c) = m (wLoc c))
    ∧ r.2.sem = fun _ => 0

set_option maxRecDepth 8000 in
theorem run_main : θ_run defs (onTc (τ := τ) (main (F := F))) ⟨m, fun _ => 0, ρ⟩ (Ends m) :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun _ => rfl)
    (hbody := fun c => (obligation m c).toRRel) (hne := block_pos0) (harr := arr_whole0) (hstage := stage_whole0)
    (hshare := fun c w => by unfold rdats RDat.share; split <;> rfl)
    (hdistinct := winFacts0.arr_inj)
    (O₀ := O₀) (howed₀ := fun _ => rfl) (howedN := fun _ => rfl)
    (L := L) (lv := lv) (hL := L_of_ne) (hwaits := waits m)
    (G := dealt m) (G' := start m) (u₀ := u₀)
    (hu₀ := launch_split m)
    (hglob := glob m)
    (hA := fun _ _ => rfl) (hpf := fun _ k => k.elim0)
    (X := brought m) (Y := away m) (Z := fun _ => iprop(emp))
    (hX := bring m ρ) (hin := enter m) (hout := leave m)
    (QY := Kept m)
    (hY := take_away m)
    (hQ := fun s h hs => ⟨fun c => ⟨result m c _ ((h c).1 0), (h c).2.2.2⟩, sem_eq_zero hs fun c => (h c).2.2.1⟩)

end Cert.KernelIdeal.Gather
-- ==== Proof.Value.lean ====
/- What the kernel computes, over the extended reals: each device's block of gelu of the whole product. -/
module

public import proofs.«01_k».proof.Proof.Body
public import proofs.«01_k».proof.Proof.Gen.ReferenceIdeal
public import Idealize.ShloMosaic.Lib.Layout
public import Idealize.ShloMosaic.Lib.Pointwise

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

/-! ## The payloads at an index -/

theorem pay1_at (x : Vec Ideal S1024x1024 .bf16) (w : Vec Ideal S1x1024x1024 .f32) (a b : Fin 1024) :
    k0_pay1 (F := Ideal) x w (ix2 a b) = ∑ k : Fin 1024, (x (ix2 a k) : EReal) * w (ix3 0 k b) := by
  pointwise [k0_pay1]
theorem pay2_at (x : Vec Ideal S1024x2048 .bf16) (w : Vec Ideal S1x2048x1024 .f32) (o : Vec Ideal S1024x1024 .f32) (a b : Fin 1024) :
    k0_pay2 (F := Ideal) x w o (ix2 a b) = (o (ix2 a b) : EReal) + ∑ k : Fin 2048, (x (ix2 a k) : EReal) * w (ix3 0 k b) := by
  pointwise [k0_pay2]
theorem pay5_at (x : Vec Ideal S1024x1024 .bf16) (w : Vec Ideal S1x1024x1024 .f32) (o : Vec Ideal S1024x1024 .f32) (a b : Fin 1024) :
    k0_pay5 (F := Ideal) x w o (ix2 a b) = (o (ix2 a b) : EReal) + ∑ k : Fin 1024, (x (ix2 a k) : EReal) * w (ix3 0 k b) := by
  pointwise [k0_pay5]

/-- The activation. -/
def gelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * ((y * y) * y))))
theorem pay6_at (v : Vec Ideal S1024x4096 .f32) (i : S1024x4096.Idx) : k0_pay6 (F := Ideal) v i = gelu (v i) := by
  pointwise [k0_pay6, gelu]
  rw [mul_assoc (Ideal.ofBits FTy.f32 1027024659#32) (v i) (v i), mul_assoc (Ideal.ofBits FTy.f32 1027024659#32) (v i * v i) (v i)]

/-! ## The order of the sum

Device `c` sums the products over the contraction axis from its own block of columns on, round the ring. -/

/-- The contraction index at place `t` of device `c`'s order. -/
def turn (c : Dev nD) (t : ℕ) : Fin 8192 := ⟨1024 * (nx c (t / 1024)).val + t % 1024, by have := nx_lt c (t / 1024); omega⟩

theorem turn_bijective (c : Dev nD) : Function.Bijective (fun t : Fin 8192 => turn c t.val) := by
  refine Finite.injective_iff_bijective.mp fun s t h => Fin.ext ?_
  have h' : 1024 * ((c.val + s.val / 1024) % 8) + s.val % 1024 = 1024 * ((c.val + t.val / 1024) % 8) + t.val % 1024 := congrArg Fin.val h
  have hc : c.val < 8 := c.isLt
  have hs := s.isLt
  have ht := t.isLt
  omega

/-- The columns' blocks tile `x`. -/
theorem tiles_x : Layout.Tiles ⟨2, ![8192, 1024]⟩ ⟨2, ![8192, 8192]⟩ 1 8 := by decide

section
variable (X : (⟨2, ![8192, 8192]⟩ : Shape).Idx → EReal) (W : (⟨2, ![8192, 4096]⟩ : Shape).Idx → EReal)

/-- The whole product. -/
def prod : (⟨2, ![8192, 4096]⟩ : Shape).Idx → EReal := fun j => ∑ k : Fin 8192, X (ix2 (j 0) k) * W (ix2 k (j 1))

/-- The product at place `t` of device `c`'s order. -/
def term (c : Dev nD) (r : Fin 8192) (b : Fin 4096) (t : ℕ) : EReal := X (ix2 r (turn c t)) * W (ix2 (turn c t) b)

theorem sum_term (c : Dev nD) (r : Fin 8192) (b : Fin 4096) :
    ∑ t ∈ Finset.range 8192, term X W c r b t = ∑ k : Fin 8192, X (ix2 r k) * W (ix2 k b) := by
  rw [Finset.sum_range]
  exact (turn_bijective c).sum_comp (fun k : Fin 8192 => X (ix2 r k) * W (ix2 k b))

variable (m : (ℓ : Loc nD τ sig) → Buf (Elt Ideal) ℓ)
variable (hx : ∀ c : Dev nD, m (xLoc c) = Layout.block ⟨2, ![8192, 1024]⟩ ⟨2, ![8192, 8192]⟩ 1 8 c X tiles_x)
variable (hw : ∀ c : Dev nD, m (wLoc c) = W)

/-- Row `a` of device `c`'s rows, -/
def rowOf (c : Dev nD) (a : Fin 1024) : Fin 8192 := ⟨1024 * c.val + a.val, by have h : c.val < 8 := c.isLt; omega⟩
/-- column `b` of column block `h`. -/
def colOf (h : Fin 4) (b : Fin 1024) : Fin 4096 := ⟨1024 * h.val + b.val, by omega⟩

include hx in
theorem gC_at (c : Dev nD) (a : Fin 1024) (t : Fin 8192) :
    (gC m c : S1024x8192.Idx → EReal) (ix2 (n0 := 1024) (n1 := 8192) a t) = X (ix2 (rowOf c a) (turn c t.val)) := by
  refine (congrFun (hx (nx c (t.val / 1024))) _).trans ?_
  rw [Layout.block_apply]
  refine congrArg X (funext fun d => ?_)
  match d with
  | 0 => rfl
  | 1 => exact Fin.ext (by show (nx c (t.val / 1024)).val * 1024 + t.val % 1024 = 1024 * (nx c (t.val / 1024)).val + t.val % 1024; omega)

include hx in
theorem gv1_at (c : Dev nD) (j : Fin 8) (a k : Fin 1024) : (gv1 m c j (ix2 a k) : EReal) = X (ix2 (rowOf c a) (turn c (1024 * j.val + k.val))) :=
  gC_at X m hx c a ⟨1024 * j.val + k.val, by omega⟩
include hx in
theorem gv2_at (c : Dev nD) (j : Fin 7) (a : Fin 1024) (k : Fin 2048) :
    (gv2 m c j (ix2 a k) : EReal) = X (ix2 (rowOf c a) (turn c (1024 * j.val + k.val))) :=
  gC_at X m hx c a ⟨1024 * j.val + k.val, by omega⟩

include hw in
theorem wC_at (c : Dev nD) (r : ℕ) (h : Fin 4) (p : Fin 2) (k : Fin 2048) (b : Fin 1024) :
    (wC m c r h : S2x2048x1024.Idx → EReal) (ix3 (n0 := 2) (n1 := 2048) (n2 := 1024) p k b) = W (ix2 (turn c (1024 * r + k.val)) (colOf h b)) := by
  refine (congrFun (hw c) _).trans (congrArg W (funext fun d => ?_))
  match d with
  | 0 => exact Fin.ext (by
      show 1024 * (nx c (r + k.val / 1024)).val + k.val % 1024 = 1024 * (nx c ((1024 * r + k.val) / 1024)).val + (1024 * r + k.val) % 1024
      rw [show (1024 * r + k.val) / 1024 = r + k.val / 1024 by omega, show (1024 * r + k.val) % 1024 = k.val % 1024 by omega])
  | 1 => rfl
include hw in
theorem wv1_at (c : Dev nD) (r : ℕ) (h : Fin 4) (k b : Fin 1024) :
    (wv1 m c r h (ix3 0 k b) : EReal) = W (ix2 (turn c (1024 * r + k.val)) (colOf h b)) :=
  wC_at W m hw c r h 0 ⟨k.val, by omega⟩ b
include hw in
theorem wv2_at (c : Dev nD) (r : ℕ) (h : Fin 4) (k : Fin 2048) (b : Fin 1024) :
    (wv2 m c r h (ix3 0 k b) : EReal) = W (ix2 (turn c (1024 * r + k.val)) (colOf h b)) :=
  wC_at W m hw c r h 0 k b

/-! ## The partial sums -/

include hx hw in
theorem first_at (c : Dev nD) (h : Fin 4) (a b : Fin 1024) :
    (k0_pay1 (gv1 m c 0) (wv1 m c 0 h) (ix2 a b) : EReal) = ∑ t ∈ Finset.range 1024, term X W c (rowOf c a) (colOf h b) t := by
  rw [pay1_at, Finset.sum_range]
  refine Finset.sum_congr rfl fun k _ => ?_
  rw [gv1_at X m hx, wv1_at W m hw]
  show X (ix2 (rowOf c a) (turn c (1024 * 0 + k.val))) * W (ix2 (turn c (1024 * 0 + k.val)) (colOf h b)) = _
  rw [Nat.mul_zero, Nat.zero_add]; rfl

include hx hw in
/-- A middle group adds the next two blocks' products, -/
theorem pair_at (c : Dev nD) (h : Fin 4) (a b : Fin 1024) (j : Fin 7) (o : Vec Ideal S1024x1024 .f32)
    (ho : (o (ix2 a b) : EReal) = ∑ t ∈ Finset.range (1024 * j.val), term X W c (rowOf c a) (colOf h b) t) :
    (k0_pay2 (gv2 m c j) (wv2 m c j.val h) o (ix2 a b) : EReal) = ∑ t ∈ Finset.range (1024 * j.val + 2048), term X W c (rowOf c a) (colOf h b) t := by
  rw [pay2_at, ho, Finset.sum_range_add, Finset.sum_range (n := 2048)]
  refine congrArg (_ + ·) (Finset.sum_congr rfl fun k _ => ?_)
  rw [gv2_at X m hx, wv2_at W m hw]; rfl

include hx hw in
/-- the last the last block's. -/
theorem last_at (c : Dev nD) (h : Fin 4) (a b : Fin 1024) (o : Vec Ideal S1024x1024 .f32)
    (ho : (o (ix2 a b) : EReal) = ∑ t ∈ Finset.range 7168, term X W c (rowOf c a) (colOf h b) t) :
    (k0_pay5 (gv1 m c 7) (wv1 m c 7 h) o (ix2 a b) : EReal) = ∑ t ∈ Finset.range (7168 + 1024), term X W c (rowOf c a) (colOf h b) t := by
  rw [pay5_at, ho, Finset.sum_range_add, Finset.sum_range (n := 1024)]
  refine congrArg (_ + ·) (Finset.sum_congr rfl fun k _ => ?_)
  rw [gv1_at X m hx, wv1_at W m hw]; rfl

include hx hw in
/-- After the five groups, the whole product. -/
theorem acc_at (c : Dev nD) (h : Fin 4) (a b : Fin 1024) : (acc m c 4 h (ix2 a b) : EReal) = prod X W (ix2 (rowOf c a) (colOf h b)) :=
  (last_at X W m hx hw c h a b _
    (pair_at X W m hx hw c h a b 5 _
      (pair_at X W m hx hw c h a b 3 _
        (pair_at X W m hx hw c h a b 1 _ (first_at X W m hx hw c h a b))))).trans (sum_term X W c (rowOf c a) (colOf h b))

include hx hw in
/-- Each device ends holding its rows of the activation of the whole product. -/
theorem value (c : Dev nD) :
    finalOut m c = Layout.block ⟨2, ![1024, 4096]⟩ ⟨2, ![8192, 4096]⟩ 0 8 c (fun j => gelu (prod X W j)) := by
  funext i
  have h1 : (i 1).val < 4096 := (i 1).isLt
  refine (pay6_at (asm m c) i).trans (congrArg gelu ((acc_at X W m hx hw c ⟨(i 1).val / 1024, by omega⟩ (i 0) ⟨(i 1).val % 1024, by omega⟩).trans ?_))
  show prod X W _ = prod X W _
  refine congrArg (prod X W) (funext fun d => ?_)
  match d with
  | 0 => exact Fin.ext (by show 1024 * c.val + (i 0).val = c.val * 1024 + (i 0).val; omega)
  | 1 => exact Fin.ext (by show 1024 * ((i 1).val / 1024) + (i 1).val % 1024 = (i 1).val; omega)

end

open Cert.ReferenceIdeal Cert.ReferenceIdeal.Gen in
/-- What the reference computes is that activation of that product. -/
theorem reference_value (X : FVec Ideal Cert.ReferenceIdeal.S8192x8192 .bf16) (W : FVec Ideal Cert.ReferenceIdeal.S8192x4096 .f32)
    (D : FVec Ideal Cert.ReferenceIdeal.S8192x4096 .f32)
    (hD : D = Host.dotGeneral dot_S8192x8192_S8192x4096_S8192x4096_1_0_0_1_n_n none (extf .f32 X Cert.ReferenceIdeal.Gen.bitsLt_bf16_f32) W) :
    mulf (F := Ideal) (mulf (broadcastInDim Cert.ReferenceIdeal.S8192x4096 ![] bcast_S_S8192x4096 (constant S_ .f32 0x3F000000#32)) D)
      (addf (broadcastInDim Cert.ReferenceIdeal.S8192x4096 ![] bcast_S_S8192x4096 (constant S_ .f32 0x3F800000#32))
        (Host.tanh (mulf (broadcastInDim Cert.ReferenceIdeal.S8192x4096 ![] bcast_S_S8192x4096 (constant S_ .f32 0x3F4C422A#32))
          (addf D (mulf (broadcastInDim Cert.ReferenceIdeal.S8192x4096 ![] bcast_S_S8192x4096 (constant S_ .f32 0x3D372713#32)) (mulf (mulf D D) D))))))
      = ((fun j => gelu (prod X W j)) : FVec Ideal Cert.ReferenceIdeal.S8192x4096 .f32) := by
  have hP : ∀ j, (D j : EReal) = prod X W j := fun j => by
    subst hD
    pointwise [prod]
  funext j
  rw [← hP j]
  clear hP hD
  pointwise [gelu]

end Cert.KernelIdeal.Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launched
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two printed programs are one text. Their body tables are the same; -/
theorem defs₀_same : (Cert.Kernel.defs₀ (F := Bits)) = Cert.KernelIdeal.defs₀ (F := Bits) := by
  unfold Cert.Kernel.defs₀ Cert.KernelIdeal.defs₀
  refine congrArg _ (funext fun ℓ => funext fun a => ?_)
  match ℓ, a with
  | ⟨0, _⟩, (t, s) => rfl
theorem defs_same : (Cert.Kernel.defs (F := Bits)) = Cert.KernelIdeal.defs (F := Bits) :=
  congrArg (Idealize.ShloMosaic.Pipeline.defs (Cert.Kernel.pcfgs)) defs₀_same
/-- so are their mains. -/
theorem main_same : (Cert.Kernel.main (F := Bits)) = Cert.KernelIdeal.main (F := Bits) := rfl

/-- The kernel's run (`Cert.KernelIdeal.Gather.run_main`, for any float values) at the bit-exact values, its arguments and
    counters read off it; -/
theorem frame_kernel : Cert.quiescent_Kernel := fun m ρ _ => by
  rw [defs_same, main_same]
  exact (θ_run Cert.KernelIdeal.defs _ _).mono (fun _ h => ⟨fun c => (h.1 c).2, h.2⟩) (Cert.KernelIdeal.Gather.run_main (F := Bits) m ρ)
/-- at the ideal ones. -/
theorem frame_kernelIdeal : Cert.quiescent_KernelIdeal := fun m ρ _ =>
  (θ_run Cert.KernelIdeal.defs _ _).mono (fun _ h => ⟨fun c => (h.1 c).2, h.2⟩) (Cert.KernelIdeal.Gather.run_main (F := Ideal) m ρ)
/-- The reference's run; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both compute the activation of the whole product, each device its rows of it. -/
theorem algebraic : Cert.algebraic_KernelIdeal_ReferenceIdeal := fun m ρ m' ρ' _ hin =>
  ⟨_, (θ_run Cert.KernelIdeal.defs _ _).mono
      (fun _ h c => ⟨(h.1 c).1.trans (Cert.KernelIdeal.Gather.value _ _ m (fun d => (hin d).1) (fun d => (hin d).2) c), (h.1 c).2⟩)
      (Cert.KernelIdeal.Gather.run_main (F := Ideal) m ρ),
    (θ_run Cert.ReferenceIdeal.defs _ _).mono
      (fun _ h => ⟨(h 0).1.trans (Cert.KernelIdeal.Gather.reference_value _ _ _ rfl), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
